-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_real_gates [hPre_real_gates : Cert.Pre_real_gates.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_real_gates.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_real_gates [hPre_real_gates : Cert.Pre_real_gates.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_real_gates.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_real_router [hPre_real_router : Cert.Pre_real_router.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_real_router.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_real_router [hPre_real_router : Cert.Pre_real_router.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_real_router.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_real_gates [hKernel6Ideal : Cert.Kernel6Ideal.Facts] [hPre_real_gates : Cert.Pre_real_gates.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_real_gates m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_real_gates [hReference6Ideal : Cert.Reference6Ideal.Facts] [hPre_real_gates : Cert.Pre_real_gates.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_real_gates m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_real_router [hKernel7Ideal : Cert.Kernel7Ideal.Facts] [hPre_real_router : Cert.Pre_real_router.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_real_router m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_real_router [hReference7Ideal : Cert.Reference7Ideal.Facts] [hPre_real_router : Cert.Pre_real_router.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_real_router m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_v17) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_real_gates [hKernel6Ideal : Cert.Kernel6Ideal.Facts] [hReference6Ideal : Cert.Reference6Ideal.Facts] [hPre_real_gates : Cert.Pre_real_gates.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_real_gates m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v135) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_real_router [hKernel7Ideal : Cert.Kernel7Ideal.Facts] [hReference7Ideal : Cert.Reference7Ideal.Facts] [hPre_real_router : Cert.Pre_real_router.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_real_router m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_v31) = v1 c
          ∧ r.2.mem ((c.tc : Thread Cert.Reference7Ideal.nD Cert.Reference7Ideal.τ).loc Cert.Reference7Ideal.main_v46) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts) (hPre_real_gates : Cert.Pre_real_gates.Facts) (hPre_real_router : Cert.Pre_real_router.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_real_gates (hKernel6Ideal := hKernel6Ideal) (hPre_real_gates := hPre_real_gates)
    ∧ quiescent_Reference6Ideal (hReference6Ideal := hReference6Ideal)
    ∧ quiescent_Reference6Ideal_pre_real_gates (hReference6Ideal := hReference6Ideal) (hPre_real_gates := hPre_real_gates)
    ∧ quiescent_Kernel7 (hKernel7 := hKernel7)
    ∧ quiescent_Kernel7Ideal (hKernel7Ideal := hKernel7Ideal)
    ∧ quiescent_Kernel7Ideal_pre_real_router (hKernel7Ideal := hKernel7Ideal) (hPre_real_router := hPre_real_router)
    ∧ quiescent_Reference7Ideal (hReference7Ideal := hReference7Ideal)
    ∧ quiescent_Reference7Ideal_pre_real_router (hReference7Ideal := hReference7Ideal) (hPre_real_router := hPre_real_router)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_real_gates (hKernel6Ideal := hKernel6Ideal) (hReference6Ideal := hReference6Ideal) (hPre_real_gates := hPre_real_gates)
    ∧ preserves_Kernel7_Kernel7Ideal
    ∧ algebraic_Kernel7Ideal_Reference7Ideal_pre_real_router (hKernel7Ideal := hKernel7Ideal) (hReference7Ideal := hReference7Ideal) (hPre_real_router := hPre_real_router)
-- ==== Pre_finite_scores.lean ====
abbrev S2x8192x1152 : Shape := ⟨3, ![2, 8192, 1152]⟩
abbrev S6x257 : Shape := ⟨2, ![6, 257]⟩
abbrev S384 : Shape := ⟨1, ![384]⟩
abbrev S2x8192x768 : Shape := ⟨3, ![2, 8192, 768]⟩
abbrev S_ : Shape := ⟨0, ![]⟩

class Facts : Prop where
  slices_S2x8192x1152_S2x8192x768_0_0_0 : S2x8192x1152.Slices ![0, 0, 0] S2x8192x768
  bitsLt_bf16_f32 : FTy.bits .bf16 < FTy.bits .f32
  bcast_S_S2x8192x768 : S_.BroadcastsInDim S2x8192x768 (![] : Fin 0 → Fin S2x8192x768.rank)
  reducesTo_S2x8192x768_S_d0_1_2 : S2x8192x768.ReducesTo [0, 1, 2] S_
  h_S_ : 0 < S_.numel
  bcast_S_S6x257 : S_.BroadcastsInDim S6x257 (![] : Fin 0 → Fin S6x257.rank)
  reducesTo_S6x257_S_d0_1 : S6x257.ReducesTo [0, 1] S_

variable [Facts]

def fn {F : FTy → Type} [FloatOps F] (main_arg0 : FVec F S2x8192x1152 .bf16) (main_arg1 : FVec F S6x257 .f32) (main_arg2 : FVec F S384 .f32) : IVec S_ 1 :=
  let main_v0 : FVec F S2x8192x768 .bf16 := (extractStridedSlice S2x8192x768 ![0, 0, 0] · slices_S2x8192x1152_S2x8192x768_0_0_0) main_arg0
  let main_v1 : FVec F S2x8192x768 .f32 := (extf .f32 · bitsLt_bf16_f32) main_v0
  let main_cst : FVec F S_ .f32 := constant S_ .f32 0xFF800000#32
  let main_v2 : FVec F S2x8192x768 .f32 := broadcastInDim S2x8192x768 ![] bcast_S_S2x8192x768 main_cst
  let main_v3 : IVec S2x8192x768 1 := cmpf .ogt main_v1 main_v2
  let main_cst_0 : FVec F S_ .f32 := constant S_ .f32 0x7F800000#32
  let main_v4 : FVec F S2x8192x768 .f32 := broadcastInDim S2x8192x768 ![] bcast_S_S2x8192x768 main_cst_0
  let main_v5 : IVec S2x8192x768 1 := cmpf .olt main_v1 main_v4
  let main_v6 : IVec S2x8192x768 1 := andi main_v3 main_v5
  let main_c : IVec S_ 1 := constantI S_ 1 1#1
  let main_v7 : IVec S_ 1 := (fun x v => Host.reduce IntOp.andi x v reducesTo_S2x8192x768_S_d0_1_2 h_S_) main_v6 main_c
  let main_cst_1 : FVec F S_ .f32 := constant S_ .f32 0xFF800000#32
  let main_v8 : FVec F S6x257 .f32 := broadcastInDim S6x257 ![] bcast_S_S6x257 main_cst_1
  let main_v9 : IVec S6x257 1 := cmpf .ogt main_arg1 main_v8
  let main_cst_2 : FVec F S_ .f32 := constant S_ .f32 0x7F800000#32
  let main_v10 : FVec F S6x257 .f32 := broadcastInDim S6x257 ![] bcast_S_S6x257 main_cst_2
  let main_v11 : IVec S6x257 1 := cmpf .olt main_arg1 main_v10
  let main_v12 : IVec S6x257 1 := andi main_v9 main_v11
  let main_c_3 : IVec S_ 1 := constantI S_ 1 1#1
  let main_v13 : IVec S_ 1 := (fun x v => Host.reduce IntOp.andi x v reducesTo_S6x257_S_d0_1 h_S_) main_v12 main_c_3
  let main_v14 : IVec S_ 1 := andi main_v7 main_v13
  main_v14
-- ==== Pre_real_gates.lean ====
abbrev S16384x1024 : Shape := ⟨2, ![16384, 1024]⟩
abbrev S16384x128 : Shape := ⟨2, ![16384, 128]⟩
abbrev S8x1024x2816 : Shape := ⟨3, ![8, 1024, 2816]⟩
abbrev S8x2816x1024 : Shape := ⟨3, ![8, 2816, 1024]⟩
abbrev S1024 : Shape := ⟨1, ![1024]⟩
abbrev S16384x8 : Shape := ⟨2, ![16384, 8]⟩
abbrev S_ : Shape := ⟨0, ![]⟩

class Facts : Prop where
  slices_S16384x128_S16384x8_0_0 : S16384x128.Slices ![0, 0] S16384x8
  bcast_S_S16384x8 : S_.BroadcastsInDim S16384x8 (![] : Fin 0 → Fin S16384x8.rank)
  reducesTo_S16384x8_S_d0_1 : S16384x8.ReducesTo [0, 1] S_
  h_S_ : 0 < S_.numel

variable [Facts]

def fn {F : FTy → Type} [FloatOps F] (main_arg0 : FVec F S16384x1024 .f32) (main_arg1 : FVec F S16384x1024 .bf16) (main_arg2 : FVec F S16384x128 .f32) (main_arg3 : FVec F S8x1024x2816 .f32) (main_arg4 : FVec F S8x1024x2816 .f32) (main_arg5 : FVec F S8x2816x1024 .f32) (main_arg6 : FVec F S1024 .f32) : IVec S_ 1 :=
  let main_v0 : FVec F S16384x8 .f32 := (extractStridedSlice S16384x8 ![0, 0] · slices_S16384x128_S16384x8_0_0) main_arg2
  let main_cst : FVec F S_ .f32 := constant S_ .f32 0xFF800000#32
  let main_v1 : FVec F S16384x8 .f32 := broadcastInDim S16384x8 ![] bcast_S_S16384x8 main_cst
  let main_v2 : IVec S16384x8 1 := cmpf .ogt main_v0 main_v1
  let main_cst_0 : FVec F S_ .f32 := constant S_ .f32 0x7F800000#32
  let main_v3 : FVec F S16384x8 .f32 := broadcastInDim S16384x8 ![] bcast_S_S16384x8 main_cst_0
  let main_v4 : IVec S16384x8 1 := cmpf .olt main_v0 main_v3
  let main_v5 : IVec S16384x8 1 := andi main_v2 main_v4
  let main_c : IVec S_ 1 := constantI S_ 1 1#1
  let main_v6 : IVec S_ 1 := (fun x v => Host.reduce IntOp.andi x v reducesTo_S16384x8_S_d0_1 h_S_) main_v5 main_c
  main_v6
-- ==== Pre_real_router.lean ====
abbrev S16384x1024 : Shape := ⟨2, ![16384, 1024]⟩
abbrev S16384x384 : Shape := ⟨2, ![16384, 384]⟩
abbrev S16384x256 : Shape := ⟨2, ![16384, 256]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S16384x1024 .f32) (main_arg1 : FVec F S16384x384 .bf16) (main_arg2 : FVec F S16384x256 .bf16) (main_arg3 : FVec F S16384x384 .bf16) (main_arg4 : FVec F S1024x1024 .f32) (main_arg5 : FVec F S1024 .f32) (main_arg6 : FVec F S1024 .f32) (main_arg7 : FVec F S1024x8 .f32) : IVec S_ 1 :=
  let main_cst : FVec F S_ .f32 := constant S_ .f32 0xFF800000#32
  let main_v0 : FVec F S1024 .f32 := broadcastInDim S1024 ![] bcast_S_S1024 main_cst
  let main_v1 : IVec S1024 1 := cmpf .ogt main_arg6 main_v0
  let main_cst_0 : FVec F S_ .f32 := constant S_ .f32 0x7F800000#32
  let main_v2 : FVec F S1024 .f32 := broadcastInDim S1024 ![] bcast_S_S1024 main_cst_0
  let main_v3 : IVec S1024 1 := cmpf .olt main_arg6 main_v2
  let main_v4 : IVec S1024 1 := andi main_v1 main_v3
  let main_c : IVec S_ 1 := constantI S_ 1 1#1
  let main_v5 : IVec S_ 1 := (fun x v => Host.reduce IntOp.andi x v reducesTo_S1024_S_d0 h_S_) main_v4 main_c
  let main_cst_1 : FVec F S_ .f32 := constant S_ .f32 0xFF800000#32
  let main_v6 : FVec F S1024x8 .f32 := broadcastInDim S1024x8 ![] bcast_S_S1024x8 main_cst_1
  let main_v7 : IVec S1024x8 1 := cmpf .ogt main_arg7 main_v6
  let main_cst_2 : FVec F S_ .f32 := constant S_ .f32 0x7F800000#32
  let main_v8 : FVec F S1024x8 .f32 := broadcastInDim S1024x8 ![] bcast_S_S1024x8 main_cst_2
  let main_v9 : IVec S1024x8 1 := cmpf .olt main_arg7 main_v8
  let main_v10 : IVec S1024x8 1 := andi main_v7 main_v9
  let main_c_3 : IVec S_ 1 := constantI S_ 1 1#1
  let main_v11 : IVec S_ 1 := (fun x v => Host.reduce IntOp.andi x v reducesTo_S1024x8_S_d0_1 h_S_) main_v10 main_c_3
  let main_v12 : IVec S_ 1 := andi main_v5 main_v11
  main_v12
-- ==== Kernel.lean ====
abbrev S2x8192x1152 : Shape := ⟨3, ![2, 8192, 1152]⟩
abbrev S6x257 : Shape := ⟨2, ![6, 257]⟩
abbrev S384 : Shape := ⟨1, ![384]⟩
abbrev S6x1 : Shape := ⟨2, ![6, 1]⟩
abbrev S6x384 : Shape := ⟨2, ![6, 384]⟩
abbrev S6x256 : Shape := ⟨2, ![6, 256]⟩
abbrev S6x128 : Shape := ⟨2, ![6, 128]⟩
abbrev S6x768 : Shape := ⟨2, ![6, 768]⟩
abbrev S1x6x1x768 : Shape := ⟨4, ![1, 6, 1, 768]⟩
abbrev S1x6x128x768 : Shape := ⟨4, ![1, 6, 128, 768]⟩
abbrev S6x98304 : Shape := ⟨2, ![6, 98304]⟩
abbrev S6x98176 : Shape := ⟨2, ![6, 98176]⟩
abbrev S6x128x767 : Shape := ⟨3, ![6, 128, 767]⟩
abbrev S128 : Shape := ⟨1, ![128]⟩
abbrev S128x1 : Shape := ⟨2, ![128, 1]⟩
abbrev S640 : Shape := ⟨1, ![640]⟩
abbrev S1x640 : Shape := ⟨2, ![1, 640]⟩
abbrev S_ : Shape := ⟨0, ![]⟩
abbrev S128x640 : Shape := ⟨2, ![128, 640]⟩
abbrev S1x128x640 : Shape := ⟨3, ![1, 128, 640]⟩
abbrev S6x128x640 : Shape := ⟨3, ![6, 128, 640]⟩
abbrev S1x384 : Shape := ⟨2, ![1, 384]⟩
abbrev S2x8192x384 : Shape := ⟨3, ![2, 8192, 384]⟩
abbrev S1x256x384 : Shape := ⟨3, ![1, 256, 384]⟩
abbrev S1x128x384 : Shape := ⟨3, ![1, 128, 384]⟩
abbrev S256x384 : Shape := ⟨2, ![256, 384]⟩
abbrev S128x384 : Shape := ⟨2, ![128, 384]⟩
abbrev S768x384 : Shape := ⟨2, ![768, 384]⟩
abbrev S128x64 : Shape := ⟨2, ![128, 64]⟩
abbrev S640x64 : Shape := ⟨2, ![640, 64]⟩
abbrev S256 : Shape := ⟨1, ![256]⟩
abbrev S256x1 : Shape := ⟨2, ![256, 1]⟩

abbrev nBuf : Space → Nat
  | .hbm => 110
  | .vmem => 30
  | .smem => 0
  | _ => 0

abbrev bufTy : (tb : Table) → Fin (tcTables nBuf tb) → BufTy
  | .hbm, ⟨0, _⟩ => ⟨S2x8192x1152, .bf16⟩
  | .hbm, ⟨1, _⟩ => ⟨S6x257, .f32⟩
  | .hbm, ⟨2, _⟩ => ⟨S384, .f32⟩
  | .hbm, ⟨3, _⟩ => ⟨S6x1, .f32⟩
  | .hbm, ⟨4, _⟩ => ⟨S6x384, .f32⟩
  | .hbm, ⟨5, _⟩ => ⟨S6x256, .f32⟩
  | .hbm, ⟨6, _⟩ => ⟨S6x256, .f32⟩
  | .hbm, ⟨7, _⟩ => ⟨S6x1, .f32⟩
  | .hbm, ⟨8, _⟩ => ⟨S6x128, .f32⟩
  | .hbm, ⟨9, _⟩ => ⟨S6x768, .f32⟩
  | .hbm, ⟨10, _⟩ => ⟨S1x6x1x768, .f32⟩
  | .hbm, ⟨11, _⟩ => ⟨S1x6x128x768, .f32⟩
  | .hbm, ⟨12, _⟩ => ⟨S6x98304, .f32⟩
  | .hbm, ⟨13, _⟩ => ⟨S6x98176, .f32⟩
  | .hbm, ⟨14, _⟩ => ⟨S6x128x767, .f32⟩
  | .hbm, ⟨15, _⟩ => ⟨S128, .i32⟩
  | .hbm, ⟨16, _⟩ => ⟨S128x1, .i32⟩
  | .hbm, ⟨17, _⟩ => ⟨S640, .i32⟩
  | .hbm, ⟨18, _⟩ => ⟨S1x640, .i32⟩
  | .hbm, ⟨19, _⟩ => ⟨S_, .i32⟩
  | .hbm, ⟨20, _⟩ => ⟨S_, .i32⟩
  | .hbm, ⟨21, _⟩ => ⟨S1x640, .i32⟩
  | .hbm, ⟨22, _⟩ => ⟨S1x640, .i32⟩
  | .hbm, ⟨23, _⟩ => ⟨S1x640, .i32⟩
  | .hbm, ⟨24, _⟩ => ⟨S_, .i32⟩
  | .hbm, ⟨25, _⟩ => ⟨S1x640, .i32⟩
  | .hbm, ⟨26, _⟩ => ⟨S1x640, .i1⟩
  | .hbm, ⟨27, _⟩ => ⟨S1x640, .i32⟩
  | .hbm, ⟨28, _⟩ => ⟨S1x640, .i32⟩
  | .hbm, ⟨29, _⟩ => ⟨S_, .i32⟩
  | .hbm, ⟨30, _⟩ => ⟨S1x640, .i32⟩
  | .hbm, ⟨31, _⟩ => ⟨S1x640, .i1⟩
  | .hbm, ⟨32, _⟩ => ⟨S1x640, .i1⟩
  | .hbm, ⟨33, _⟩ => ⟨S_, .i32⟩
  | .hbm, ⟨34, _⟩ => ⟨S1x640, .i32⟩
  | .hbm, ⟨35, _⟩ => ⟨S1x640, .i32⟩
  | .hbm, ⟨36, _⟩ => ⟨S1x640, .i32⟩
  | .hbm, ⟨37, _⟩ => ⟨S_, .i32⟩
  | .hbm, ⟨38, _⟩ => ⟨S_, .i32⟩
  | .hbm, ⟨39, _⟩ => ⟨S128x1, .i32⟩
  | .hbm, ⟨40, _⟩ => ⟨S128x1, .i32⟩
  | .hbm, ⟨41, _⟩ => ⟨S128x1, .i32⟩
  | .hbm, ⟨42, _⟩ => ⟨S_, .i32⟩
  | .hbm, ⟨43, _⟩ => ⟨S128x1, .i32⟩
  | .hbm, ⟨44, _⟩ => ⟨S128x1, .i1⟩
  | .hbm, ⟨45, _⟩ => ⟨S128x1, .i32⟩
  | .hbm, ⟨46, _⟩ => ⟨S128x1, .i32⟩
  | .hbm, ⟨47, _⟩ => ⟨S_, .i32⟩
  | .hbm, ⟨48, _⟩ => ⟨S128x1, .i32⟩
  | .hbm, ⟨49, _⟩ => ⟨S128x1, .i1⟩
  | .hbm, ⟨50, _⟩ => ⟨S128x1, .i1⟩
  | .hbm, ⟨51, _⟩ => ⟨S_, .i32⟩
  | .hbm, ⟨52, _⟩ => ⟨S128x1, .i32⟩
  | .hbm, ⟨53, _⟩ => ⟨S128x1, .i32⟩
  | .hbm, ⟨54, _⟩ => ⟨S128x1, .i32⟩
  | .hbm, ⟨55, _⟩ => ⟨S128x640, .i32⟩
  | .hbm, ⟨56, _⟩ => ⟨S128x640, .i32⟩
  | .hbm, ⟨57, _⟩ => ⟨S128x640, .i1⟩
  | .hbm, ⟨58, _⟩ => ⟨S_, .i32⟩
  | .hbm, ⟨59, _⟩ => ⟨S_, .i32⟩
  | .hbm, ⟨60, _⟩ => ⟨S1x640, .i32⟩
  | .hbm, ⟨61, _⟩ => ⟨S1x640, .i32⟩
  | .hbm, ⟨62, _⟩ => ⟨S1x640, .i32⟩
  | .hbm, ⟨63, _⟩ => ⟨S_, .i32⟩
  | .hbm, ⟨64, _⟩ => ⟨S1x640, .i32⟩
  | .hbm, ⟨65, _⟩ => ⟨S1x640, .i1⟩
  | .hbm, ⟨66, _⟩ => ⟨S1x640, .i32⟩
  | .hbm, ⟨67, _⟩ => ⟨S1x640, .i32⟩
  | .hbm, ⟨68, _⟩ => ⟨S_, .i32⟩
  | .hbm, ⟨69, _⟩ => ⟨S1x640, .i32⟩
  | .hbm, ⟨70, _⟩ => ⟨S1x640, .i1⟩
  | .hbm, ⟨71, _⟩ => ⟨S1x640, .i1⟩
  | .hbm, ⟨72, _⟩ => ⟨S_, .i32⟩
  | .hbm, ⟨73, _⟩ => ⟨S1x640, .i32⟩
  | .hbm, ⟨74, _⟩ => ⟨S1x640, .i32⟩
  | .hbm, ⟨75, _⟩ => ⟨S1x640, .i32⟩
  | .hbm, ⟨76, _⟩ => ⟨S_, .i32⟩
  | .hbm, ⟨77, _⟩ => ⟨S_, .i32⟩
  | .hbm, ⟨78, _⟩ => ⟨S128x1, .i32⟩
  | .hbm, ⟨79, _⟩ => ⟨S128x1, .i32⟩
  | .hbm, ⟨80, _⟩ => ⟨S128x1, .i32⟩
  | .hbm, ⟨81, _⟩ => ⟨S_, .i32⟩
  | .hbm, ⟨82, _⟩ => ⟨S128x1, .i32⟩
  | .hbm, ⟨83, _⟩ => ⟨S128x1, .i1⟩
  | .hbm, ⟨84, _⟩ => ⟨S128x1, .i32⟩
  | .hbm, ⟨85, _⟩ => ⟨S128x1, .i32⟩
  | .hbm, ⟨86, _⟩ => ⟨S_, .i32⟩
  | .hbm, ⟨87, _⟩ => ⟨S128x1, .i32⟩
  | .hbm, ⟨88, _⟩ => ⟨S128x1, .i1⟩
  | .hbm, ⟨89, _⟩ => ⟨S128x1, .i1⟩
  | .hbm, ⟨90, _⟩ => ⟨S_, .i32⟩
  | .hbm, ⟨91, _⟩ => ⟨S128x1, .i32⟩
  | .hbm, ⟨92, _⟩ => ⟨S128x1, .i32⟩
  | .hbm, ⟨93, _⟩ => ⟨S128x1, .i32⟩
  | .hbm, ⟨94, _⟩ => ⟨S_, .i32⟩
  | .hbm, ⟨95, _⟩ => ⟨S128x1, .i32⟩
  | .hbm, ⟨96, _⟩ => ⟨S128x1, .i32⟩
  | .hbm, ⟨97, _⟩ => ⟨S128x640, .i32⟩
  | .hbm, ⟨98, _⟩ => ⟨S128x640, .i32⟩
  | .hbm, ⟨99, _⟩ => ⟨S128x640, .i1⟩
  | .hbm, ⟨100, _⟩ => ⟨S128x640, .i1⟩
  | .hbm, ⟨101, _⟩ => ⟨S1x128x640, .i1⟩
  | .hbm, ⟨102, _⟩ => ⟨S6x128x640, .f32⟩
  | .hbm, ⟨103, _⟩ => ⟨S_, .f32⟩
  | .hbm, ⟨104, _⟩ => ⟨S_, .f32⟩
  | .hbm, ⟨105, _⟩ => ⟨S6x128x640, .i1⟩
  | .hbm, ⟨106, _⟩ => ⟨S6x128x640, .f32⟩
  | .hbm, ⟨107, _⟩ => ⟨S6x128x640, .f32⟩
  | .hbm, ⟨108, _⟩ => ⟨S1x384, .f32⟩
  | .hbm, ⟨109, _⟩ => ⟨S2x8192x384, .bf16⟩
  | .local _ .vmem, ⟨0, _⟩ => ⟨S1x256x384, .bf16⟩
  | .local _ .vmem, ⟨1, _⟩ => ⟨S1x256x384, .bf16⟩
  | .local _ .vmem, ⟨2, _⟩ => ⟨S1x128x384, .bf16⟩
  | .local _ .vmem, ⟨3, _⟩ => ⟨S1x128x384, .bf16⟩
  | .local _ .vmem, ⟨4, _⟩ => ⟨S1x128x384, .bf16⟩
  | .local _ .vmem, ⟨5, _⟩ => ⟨S1x128x384, .bf16⟩
  | .local _ .vmem, ⟨6, _⟩ => ⟨S1x128x384, .bf16⟩
  | .local _ .vmem, ⟨7, _⟩ => ⟨S1x128x384, .bf16⟩
  | .local _ .vmem, ⟨8, _⟩ => ⟨S1x128x384, .bf16⟩
  | .local _ .vmem, ⟨9, _⟩ => ⟨S1x128x384, .bf16⟩
  | .local _ .vmem, ⟨10, _⟩ => ⟨S1x128x384, .bf16⟩
  | .local _ .vmem, ⟨11, _⟩ => ⟨S1x128x384, .bf16⟩
  | .local _ .vmem, ⟨12, _⟩ => ⟨S1x128x384, .bf16⟩
  | .local _ .vmem, ⟨13, _⟩ => ⟨S1x128x384, .bf16⟩
  | .local _ .vmem, ⟨14, _⟩ => ⟨S1x128x384, .bf16⟩
  | .local _ .vmem, ⟨15, _⟩ => ⟨S1x128x384, .bf16⟩
  | .local _ .vmem, ⟨16, _⟩ => ⟨S1x128x384, .bf16⟩
  | .local _ .vmem, ⟨17, _⟩ => ⟨S1x128x384, .bf16⟩
  | .local _ .vmem, ⟨18, _⟩ => ⟨S1x128x384, .bf16⟩
  | .local _ .vmem, ⟨19, _⟩ => ⟨S1x128x384, .bf16⟩
  | .local _ .vmem, ⟨20, _⟩ => ⟨S1x128x384, .bf16⟩
  | .local _ .vmem, ⟨21, _⟩ => ⟨S1x128x384, .bf16⟩
  | .local _ .vmem, ⟨22, _⟩ => ⟨S1x128x384, .bf16⟩
  | .local _ .vmem, ⟨23, _⟩ => ⟨S1x128x384, .bf16⟩
  | .local _ .vmem, ⟨24, _⟩ => ⟨S1x128x384, .bf16⟩
  | .local _ .vmem, ⟨25, _⟩ => ⟨S1x128x384, .bf16⟩
  | .local _ .vmem, ⟨26, _⟩ => ⟨S6x128x640, .f32⟩
  | .local _ .vmem, ⟨27, _⟩ => ⟨S1x384, .f32⟩
  | .local _ .vmem, ⟨28, _⟩ => ⟨S1x256x384, .bf16⟩
  | .local _ .vmem, ⟨29, _⟩ => ⟨S1x256x384, .bf16⟩
  | _, _ => ⟨S2x8192x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v16 : Ref sig .tc := ⟨.hbm, 36, rfl⟩
abbrev main_c_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_c_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_c : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_0 : Ref sig .tc := ⟨.hbm, 72, rfl⟩
abbrev main_call2_v12 : Ref sig .tc := ⟨.hbm, 73, rfl⟩
abbrev main_call2_v13 : Ref sig .tc := ⟨.hbm, 74, rfl⟩
abbrev main_v21 : Ref sig .tc := ⟨.hbm, 75, rfl⟩
abbrev main_c_2 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_c : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_0 : Ref sig .tc := ⟨.hbm, 90, rfl⟩
abbrev main_call3_v12 : Ref sig .tc := ⟨.hbm, 91, rfl⟩
abbrev main_call3_v13 : Ref sig .tc := ⟨.hbm, 92, rfl⟩
abbrev main_v22 : Ref sig .tc := ⟨.hbm, 93, rfl⟩
abbrev main_c_3 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_cst : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c4_i32 : BitVec 32 := 4#32
  let v2 : BitVec 32 := Scalar.subi v1 c4_i32
  let c0_i32_0 : BitVec 32 := 0#32
  let v3 : BitVec 32 := Scalar.maxsi v2 c0_i32_0
  let c1_i32 : BitVec 32 := 1#32
  let c0_i32_1 : BitVec 32 := 0#32
  ![arg0.toNat, v3.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c4_i32 : BitVec 32 := 4#32
  let v2 : BitVec 32 := Scalar.subi v1 c4_i32
  let c0_i32 : BitVec 32 := 0#32
  let v3 : BitVec 32 := Scalar.maxsi v2 c0_i32
  let c1_i32_0 : BitVec 32 := 1#32
  let c0_i32_1 : BitVec 32 := 0#32
  ![arg0.toNat, v3.toNat, c1_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let c4_i32 : BitVec 32 := 4#32
  let v2 : BitVec 32 := Scalar.subi v1 c4_i32
  let c0_i32 : BitVec 32 := 0#32
  let v3 : BitVec 32 := Scalar.maxsi v2 c0_i32
  let c1_i32 : BitVec 32 := 1#32
  let c0_i32_1 : BitVec 32 := 0#32
  ![arg0.toNat, v3.toNat, c1_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c3_i32 : BitVec 32 := 3#32
  let v1 : BitVec 32 := Scalar.addi v0 c3_i32
  let c4_i32 : BitVec 32 := 4#32
  let v2 : BitVec 32 := Scalar.subi v1 c4_i32
  let c0_i32 : BitVec 32 := 0#32
  let v3 : BitVec 32 := Scalar.maxsi v2 c0_i32
  let c1_i32 : BitVec 32 := 1#32
  let c0_i32_0 : BitVec 32 := 0#32
  ![arg0.toNat, v3.toNat, c1_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c4_i32 : BitVec 32 := 4#32
  let v1 : BitVec 32 := Scalar.addi v0 c4_i32
  let c4_i32_0 : BitVec 32 := 4#32
  let v2 : BitVec 32 := Scalar.subi v1 c4_i32_0
  let c0_i32 : BitVec 32 := 0#32
  let v3 : BitVec 32 := Scalar.maxsi v2 c0_i32
  let c1_i32 : BitVec 32 := 1#32
  let c0_i32_1 : BitVec 32 := 0#32
  ![arg0.toNat, v3.toNat, c1_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c5_i32 : BitVec 32 := 5#32
  let v1 : BitVec 32 := Scalar.addi v0 c5_i32
  let c4_i32 : BitVec 32 := 4#32
  let v2 : BitVec 32 := Scalar.subi v1 c4_i32
  let c0_i32 : BitVec 32 := 0#32
  let v3 : BitVec 32 := Scalar.maxsi v2 c0_i32
  let c1_i32 : BitVec 32 := 1#32
  let c0_i32_0 : BitVec 32 := 0#32
  ![arg0.toNat, v3.toNat, c1_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c4_i32 : BitVec 32 := 4#32
  let v2 : BitVec 32 := Scalar.subi v1 c4_i32
  let c0_i32_0 : BitVec 32 := 0#32
  let v3 : BitVec 32 := Scalar.maxsi v2 c0_i32_0
  let c2_i32_1 : BitVec 32 := 2#32
  let c0_i32_2 : BitVec 32 := 0#32
  ![arg0.toNat, v3.toNat, c2_i32_1.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c4_i32 : BitVec 32 := 4#32
  let v2 : BitVec 32 := Scalar.subi v1 c4_i32
  let c0_i32 : BitVec 32 := 0#32
  let v3 : BitVec 32 := Scalar.maxsi v2 c0_i32
  let c2_i32_0 : BitVec 32 := 2#32
  let c0_i32_1 : BitVec 32 := 0#32
  ![arg0.toNat, v3.toNat, c2_i32_0.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let c4_i32 : BitVec 32 := 4#32
  let v2 : BitVec 32 := Scalar.subi v1 c4_i32
  let c0_i32 : BitVec 32 := 0#32
  let v3 : BitVec 32 := Scalar.maxsi v2 c0_i32
  let c2_i32_1 : BitVec 32 := 2#32
  let c0_i32_2 : BitVec 32 := 0#32
  ![arg0.toNat, v3.toNat, c2_i32_1.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c3_i32 : BitVec 32 := 3#32
  let v1 : BitVec 32 := Scalar.addi v0 c3_i32
  let c4_i32 : BitVec 32 := 4#32
  let v2 : BitVec 32 := Scalar.subi v1 c4_i32
  let c0_i32 : BitVec 32 := 0#32
  let v3 : BitVec 32 := Scalar.maxsi v2 c0_i32
  let c2_i32_0 : BitVec 32 := 2#32
  let c0_i32_1 : BitVec 32 := 0#32
  ![arg0.toNat, v3.toNat, c2_i32_0.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c4_i32 : BitVec 32 := 4#32
  let v1 : BitVec 32 := Scalar.addi v0 c4_i32
  let c4_i32_0 : BitVec 32 := 4#32
  let v2 : BitVec 32 := Scalar.subi v1 c4_i32_0
  let c0_i32 : BitVec 32 := 0#32
  let v3 : BitVec 32 := Scalar.maxsi v2 c0_i32
  let c2_i32_1 : BitVec 32 := 2#32
  let c0_i32_2 : BitVec 32 := 0#32
  ![arg0.toNat, v3.toNat, c2_i32_1.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c5_i32 : BitVec 32 := 5#32
  let v1 : BitVec 32 := Scalar.addi v0 c5_i32
  let c4_i32 : BitVec 32 := 4#32
  let v2 : BitVec 32 := Scalar.subi v1 c4_i32
  let c0_i32 : BitVec 32 := 0#32
  let v3 : BitVec 32 := Scalar.maxsi v2 c0_i32
  let c2_i32_0 : BitVec 32 := 2#32
  let c0_i32_1 : BitVec 32 := 0#32
  ![arg0.toNat, v3.toNat, c2_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S6x128x640 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x384 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S2x8192x1152 : Shape := ⟨3, ![2, 8192, 1152]⟩
abbrev S6x257 : Shape := ⟨2, ![6, 257]⟩
abbrev S384 : Shape := ⟨1, ![384]⟩
abbrev S2x8192x384 : Shape := ⟨3, ![2, 8192, 384]⟩
abbrev S128 : Shape := ⟨1, ![128]⟩
abbrev S128x1 : Shape := ⟨2, ![128, 1]⟩
abbrev S9 : Shape := ⟨1, ![9]⟩
abbrev S1x9 : Shape := ⟨2, ![1, 9]⟩
abbrev S128x9 : Shape := ⟨2, ![128, 9]⟩
abbrev S2x128x64x6x64 : Shape := ⟨5, ![2, 128, 64, 6, 64]⟩
abbrev S_ : Shape := ⟨0, ![]⟩
abbrev S2x136x64x6x64 : Shape := ⟨5, ![2, 136, 64, 6, 64]⟩
abbrev S128x9x1 : Shape := ⟨3, ![128, 9, 1]⟩
abbrev S2x128x9x64x6x64 : Shape := ⟨6, ![2, 128, 9, 64, 6, 64]⟩
abbrev S2x128x576x6x64 : Shape := ⟨5, ![2, 128, 576, 6, 64]⟩
abbrev S2x128x6x64x576 : Shape := ⟨5, ![2, 128, 6, 64, 576]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S6x64x576 : Shape := ⟨3, ![6, 64, 576]⟩
abbrev S1x1x6x64x576 : Shape := ⟨5, ![1, 1, 6, 64, 576]⟩
abbrev S128x576 : Shape := ⟨2, ![128, 576]⟩
abbrev S1x128x1x1x576 : Shape := ⟨5, ![1, 128, 1, 1, 576]⟩
abbrev S2x128x6x64 : Shape := ⟨4, ![2, 128, 6, 64]⟩
abbrev S2x128x6x64x1 : Shape := ⟨5, ![2, 128, 6, 64, 1]⟩
abbrev S2x128x6x64x64 : Shape := ⟨5, ![2, 128, 6, 64, 64]⟩
abbrev S2x8192 : Shape := ⟨2, ![2, 8192]⟩
abbrev S2x8192x1 : Shape := ⟨3, ![2, 8192, 1]⟩
abbrev S1x1x384 : Shape := ⟨3, ![1, 1, 384]⟩

abbrev nBuf : Space → Nat
  | .hbm => 136
  | .vmem => 0
  | .smem => 0
  | _ => 0

abbrev hbmTy0_0 (i : Nat) : BufTy := match i % 128 with
  | 0 => ⟨S2x8192x1152, .bf16⟩
  | 1 => ⟨S6x257, .f32⟩
  | 2 => ⟨S384, .f32⟩
  | 3 => ⟨S2x8192x1152, .f32⟩
  | 4 => ⟨S2x8192x384, .f32⟩
  | 5 => ⟨S2x8192x384, .f32⟩
  | 6 => ⟨S2x8192x384, .f32⟩
  | 7 => ⟨S128, .i32⟩
  | 8 => ⟨S128x1, .i32⟩
  | 9 => ⟨S9, .i32⟩
  | 10 => ⟨S1x9, .i32⟩
  | 11 => ⟨S128x9, .i32⟩
  | 12 => ⟨S128x9, .i32⟩
  | 13 => ⟨S128x9, .i32⟩
  | 14 => ⟨S2x128x64x6x64, .f32⟩
  | 15 => ⟨S2x128x64x6x64, .f32⟩
  | 16 => ⟨S_, .i32⟩
  | 17 => ⟨S_, .f32⟩
  | 18 => ⟨S2x136x64x6x64, .f32⟩
  | 19 => ⟨S_, .i32⟩
  | 20 => ⟨S128x9, .i32⟩
  | 21 => ⟨S128x9, .i1⟩
  | 22 => ⟨S_, .i32⟩
  | 23 => ⟨S128x9, .i32⟩
  | 24 => ⟨S128x9, .i32⟩
  | 25 => ⟨S128x9, .i32⟩
  | 26 => ⟨S128x9x1, .i32⟩
  | 27 => ⟨S2x128x9x64x6x64, .f32⟩
  | 28 => ⟨S2x128x576x6x64, .f32⟩
  | 29 => ⟨S2x128x64x6x64, .f32⟩
  | 30 => ⟨S_, .i32⟩
  | 31 => ⟨S_, .f32⟩
  | 32 => ⟨S2x136x64x6x64, .f32⟩
  | 33 => ⟨S_, .i32⟩
  | 34 => ⟨S128x9, .i32⟩
  | 35 => ⟨S128x9, .i1⟩
  | 36 => ⟨S_, .i32⟩
  | 37 => ⟨S128x9, .i32⟩
  | 38 => ⟨S128x9, .i32⟩
  | 39 => ⟨S128x9, .i32⟩
  | 40 => ⟨S128x9x1, .i32⟩
  | 41 => ⟨S2x128x9x64x6x64, .f32⟩
  | 42 => ⟨S2x128x576x6x64, .f32⟩
  | 43 => ⟨S2x128x6x64x576, .f32⟩
  | 44 => ⟨S_, .f32⟩
  | 45 => ⟨S2x128x6x64x576, .f32⟩
  | 46 => ⟨S2x128x6x64x576, .f32⟩
  | 47 => ⟨S64, .i32⟩
  | 48 => ⟨S_, .i32⟩
  | 49 => ⟨S64, .i32⟩
  | 50 => ⟨S64, .i32⟩
  | 51 => ⟨S576, .i32⟩
  | 52 => ⟨S64x1, .i32⟩
  | 53 => ⟨S1x576, .i32⟩
  | 54 => ⟨S64x576, .i32⟩
  | 55 => ⟨S64x576, .i32⟩
  | 56 => ⟨S64x576, .i32⟩
  | 57 => ⟨S_, .i32⟩
  | 58 => ⟨S_, .i32⟩
  | 59 => ⟨S_, .i32⟩
  | 60 => ⟨S64x576, .i32⟩
  | 61 => ⟨S64x576, .i32⟩
  | 62 => ⟨S_, .i32⟩
  | 63 => ⟨S64x576, .i32⟩
  | 64 => ⟨S64x576, .i32⟩
  | 65 => ⟨S_, .i32⟩
  | 66 => ⟨S64x576, .i32⟩
  | 67 => ⟨S64x576, .i32⟩
  | 68 => ⟨S_, .i32⟩
  | 69 => ⟨S64x576, .i32⟩
  | 70 => ⟨S64x576, .i1⟩
  | 71 => ⟨S_, .i32⟩
  | 72 => ⟨S64x576, .i32⟩
  | 73 => ⟨S64x576, .i32⟩
  | 74 => ⟨S64x576, .i32⟩
  | 75 => ⟨S64x576x1, .i32⟩
  | 76 => ⟨S6x64x576, .f32⟩
  | 77 => ⟨S1x1x6x64x576, .f32⟩
  | 78 => ⟨S2x128x6x64x576, .f32⟩
  | 79 => ⟨S2x128x6x64x576, .f32⟩
  | 80 => ⟨S128, .i32⟩
  | 81 => ⟨S128x1, .i32⟩
  | 82 => ⟨S_, .i32⟩
  | 83 => ⟨S128x1, .i32⟩
  | 84 => ⟨S128x1, .i32⟩
  | 85 => ⟨S_, .i32⟩
  | 86 => ⟨S128x1, .i32⟩
  | 87 => ⟨S128x1, .i32⟩
  | 88 => ⟨S576, .i32⟩
  | 89 => ⟨S1x576, .i32⟩
  | 90 => ⟨S128x576, .i32⟩
  | 91 => ⟨S128x576, .i32⟩
  | 92 => ⟨S128x576, .i32⟩
  | 93 => ⟨S_, .i32⟩
  | 94 => ⟨S128x576, .i32⟩
  | 95 => ⟨S128x576, .i1⟩
  | 96 => ⟨S1x128x1x1x576, .i1⟩
  | 97 => ⟨S_, .f32⟩
  | 98 => ⟨S_, .f32⟩
  | 99 => ⟨S2x128x6x64x576, .i1⟩
  | 100 => ⟨S2x128x6x64x576, .f32⟩
  | 101 => ⟨S2x128x6x64x576, .f32⟩
  | 102 => ⟨S_, .f32⟩
  | 103 => ⟨S2x128x6x64, .f32⟩
  | 104 => ⟨S_, .f32⟩
  | 105 => ⟨S2x128x6x64, .f32⟩
  | 106 => ⟨S2x128x6x64, .f32⟩
  | 107 => ⟨S2x128x6x64x1, .f32⟩
  | 108 => ⟨S2x128x6x64x576, .f32⟩
  | 109 => ⟨S2x128x6x64x576, .f32⟩
  | 110 => ⟨S2x128x6x64x576, .f32⟩
  | 111 => ⟨S_, .f32⟩
  | 112 => ⟨S2x128x6x64, .f32⟩
  | 113 => ⟨S2x128x6x64x1, .f32⟩
  | 114 => ⟨S2x128x6x64x576, .f32⟩
  | 115 => ⟨S2x128x6x64x576, .f32⟩
  | 116 => ⟨S2x128x6x64x64, .f32⟩
  | 117 => ⟨S2x128x64x6x64, .f32⟩
  | 118 => ⟨S2x8192x384, .f32⟩
  | 119 => ⟨S2x8192x384, .f32⟩
  | 120 => ⟨S_, .f32⟩
  | 121 => ⟨S2x8192, .f32⟩
  | 122 => ⟨S2x8192x1, .f32⟩
  | 123 => ⟨S_, .f32⟩
  | 124 => ⟨S2x8192x1, .f32⟩
  | 125 => ⟨S2x8192x1, .f32⟩
  | 126 => ⟨S_, .f32⟩
  | 127 => ⟨S2x8192x1, .f32⟩
  | _ => ⟨S2x8192x1152, .bf16⟩

abbrev hbmTy0_1 (i : Nat) : BufTy := match i % 128 with
  | 0 => ⟨S2x8192x1, .f32⟩
  | 1 => ⟨S2x8192x1, .f32⟩
  | 2 => ⟨S2x8192x384, .f32⟩
  | 3 => ⟨S2x8192x384, .f32⟩
  | 4 => ⟨S1x1x384, .f32⟩
  | 5 => ⟨S2x8192x384, .f32⟩
  | 6 => ⟨S2x8192x384, .f32⟩
  | 7 => ⟨S2x8192x384, .bf16⟩
  | _ => ⟨S2x8192x1152, .bf16⟩

abbrev hbmTy (i : Nat) : BufTy := match i / 128 with
  | 0 => hbmTy0_0 i
  | 1 => hbmTy0_1 i
  | _ => ⟨S2x8192x1152, .bf16⟩

abbrev bufTy : (tb : Table) → Fin (tcTables nBuf tb) → BufTy
  | .hbm, ⟨i, _⟩ => hbmTy i
  | _, _ => ⟨S2x8192x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_call1_v0 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_6 : Ref sig .tc := ⟨.hbm, 57, rfl⟩
abbrev main_c_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v71 : Ref sig .tc := ⟨.hbm, 101, rfl⟩
abbrev main_cst_15 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_17 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩

abbrev nD : Nat := 1
abbrev τ : Topo := Topo.v7x

variable {F : FTy → Type} [FloatOps F]
-- ==== Kernel2.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S16384x2816, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x2816 : Shape := ⟨2, ![1024, 2816]⟩
abbrev S1x1024 : Shape := ⟨2, ![1, 1024]⟩
abbrev S16384x1408 : Shape := ⟨2, ![16384, 1408]⟩
abbrev S16384x256 : Shape := ⟨2, ![16384, 256]⟩
abbrev S16384x1152 : Shape := ⟨2, ![16384, 1152]⟩
abbrev S512x1024 : Shape := ⟨2, ![512, 1024]⟩
abbrev S512x1408 : Shape := ⟨2, ![512, 1408]⟩
abbrev S512x256 : Shape := ⟨2, ![512, 256]⟩
abbrev S512x1152 : Shape := ⟨2, ![512, 1152]⟩
abbrev S512 : Shape := ⟨1, ![512]⟩
abbrev S512x1 : Shape := ⟨2, ![512, 1]⟩
abbrev S1024x1408 : Shape := ⟨2, ![1024, 1408]⟩
abbrev S1024x256 : Shape := ⟨2, ![1024, 256]⟩
abbrev S1024x1152 : Shape := ⟨2, ![1024, 1152]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1x1024, .f32⟩
  | .hbm, ⟨4, _⟩ => ⟨S1024x2816, .bf16⟩
  | .hbm, ⟨5, _⟩ => ⟨S16384x1408, .f32⟩
  | .hbm, ⟨6, _⟩ => ⟨S16384x256, .f32⟩
  | .hbm, ⟨7, _⟩ => ⟨S16384x1152, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S512x1408, .f32⟩
  | .local _ .vmem, ⟨5, _⟩ => ⟨S512x1408, .f32⟩
  | .local _ .vmem, ⟨6, _⟩ => ⟨S512x256, .f32⟩
  | .local _ .vmem, ⟨7, _⟩ => ⟨S512x256, .f32⟩
  | .local _ .vmem, ⟨8, _⟩ => ⟨S512x1152, .bf16⟩
  | .local _ .vmem, ⟨9, _⟩ => ⟨S512x1152, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x1024 : Shape := ⟨2, ![16384, 1024]⟩
abbrev S1024 : Shape := ⟨1, ![1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x1408 : Shape := ⟨2, ![16384, 1408]⟩
abbrev S16384x256 : Shape := ⟨2, ![16384, 256]⟩
abbrev S16384x1152 : Shape := ⟨2, ![16384, 1152]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2816, .f32⟩
  | .hbm, ⟨20, _⟩ => ⟨S16384x1408, .f32⟩
  | .hbm, ⟨21, _⟩ => ⟨S16384x256, .f32⟩
  | .hbm, ⟨22, _⟩ => ⟨S16384x1152, .f32⟩
  | .hbm, ⟨23, _⟩ => ⟨S16384x1152, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel4.lean ====
abbrev S16384x1024 : Shape := ⟨2, ![16384, 1024]⟩
abbrev S16384x384 : Shape := ⟨2, ![16384, 384]⟩
abbrev S16384x256 : Shape := ⟨2, ![16384, 256]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x384 : Shape := ⟨2, ![512, 384]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x256, .bf16⟩
  | .hbm, ⟨3, _⟩ => ⟨S16384x384, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x256, .bf16⟩
  | .local _ .vmem, ⟨5, _⟩ => ⟨S512x256, .bf16⟩
  | .local _ .vmem, ⟨6, _⟩ => ⟨S512x384, .bf16⟩
  | .local _ .vmem, ⟨7, _⟩ => ⟨S512x384, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x1024 : Shape := ⟨2, ![16384, 1024]⟩
abbrev S16384x384 : Shape := ⟨2, ![16384, 384]⟩
abbrev S16384x256 : Shape := ⟨2, ![16384, 256]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x256, .bf16⟩
  | .hbm, ⟨3, _⟩ => ⟨S16384x384, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S16384x384, .f32⟩
  | .hbm, ⟨8, _⟩ => ⟨S16384x256, .f32⟩
  | .hbm, ⟨9, _⟩ => ⟨S16384x384, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel5.lean ====
abbrev S16384x1024 : Shape := ⟨2, ![16384, 1024]⟩
abbrev S33792x1024 : Shape := ⟨2, ![33792, 1024]⟩
abbrev S16384x128 : Shape := ⟨2, ![16384, 128]⟩
abbrev S1024 : Shape := ⟨1, ![1024]⟩
abbrev S1x1024 : Shape := ⟨2, ![1, 1024]⟩
abbrev S512x1024 : Shape := ⟨2, ![512, 1024]⟩
abbrev S512x128 : Shape := ⟨2, ![512, 128]⟩
abbrev S512x1 : Shape := ⟨2, ![512, 1]⟩
abbrev S512 : Shape := ⟨1, ![512]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S33792x1024, .f32⟩
  | .hbm, ⟨2, _⟩ => ⟨S16384x128, .f32⟩
  | .hbm, ⟨3, _⟩ => ⟨S1024, .f32⟩
  | .hbm, ⟨4, _⟩ => ⟨S1x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16384x1024 : Shape := ⟨2, ![16384, 1024]⟩
abbrev S33792x1024 : Shape := ⟨2, ![33792, 1024]⟩
abbrev S16384x128 : Shape := ⟨2, ![16384, 128]⟩
abbrev S1024 : Shape := ⟨1, ![1024]⟩
abbrev S16384x2 : Shape := ⟨2, ![16384, 2]⟩
abbrev S16384x1 : Shape := ⟨2, ![16384, 1]⟩
abbrev S_ : Shape := ⟨0, ![]⟩
abbrev S16384 : Shape := ⟨1, ![16384]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S33792x1024, .f32⟩
  | .hbm, ⟨2, _⟩ => ⟨S16384x128, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S16384x2, .f32⟩
  | .hbm, ⟨7, _⟩ => ⟨S16384x1, .f32⟩
  | .hbm, ⟨8, _⟩ => ⟨S16384x1024, .f32⟩
  | .hbm, ⟨9, _⟩ => ⟨S16384x1024, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel6.lean ====
abbrev S16384x1024 : Shape := ⟨2, ![16384, 1024]⟩
abbrev S16384x128 : Shape := ⟨2, ![16384, 128]⟩
abbrev S8x1024x2816 : Shape := ⟨3, ![8, 1024, 2816]⟩
abbrev S8x2816x1024 : Shape := ⟨3, ![8, 2816, 1024]⟩
abbrev S1024 : Shape := ⟨1, ![1024]⟩
abbrev S1x1024 : Shape := ⟨2, ![1, 1024]⟩
abbrev S512x1024 : Shape := ⟨2, ![512, 1024]⟩
abbrev S512x128 : Shape := ⟨2, ![512, 128]⟩
abbrev S1x1024x1408 : Shape := ⟨3, ![1, 1024, 1408]⟩
abbrev S1x1408x1024 : Shape := ⟨3, ![1, 1408, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x128, .f32⟩
  | .hbm, ⟨3, _⟩ => ⟨S8x1024x2816, .f32⟩
  | .hbm, ⟨4, _⟩ => ⟨S8x1024x2816, .f32⟩
  | .hbm, ⟨5, _⟩ => ⟨S8x2816x1024, .f32⟩
  | .hbm, ⟨6, _⟩ => ⟨S1024, .f32⟩
  | .hbm, ⟨7, _⟩ => ⟨S8x1024x2816, .bf16⟩
  | .hbm, ⟨8, _⟩ => ⟨S8x1024x2816, .bf16⟩
  | .hbm, ⟨9, _⟩ => ⟨S8x2816x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x128, .f32⟩
  | .local _ .vmem, ⟨5, _⟩ => ⟨S512x128, .f32⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1x1408x1024, .bf16⟩
  | .local _ .vmem, ⟨11, _⟩ => ⟨S1x1408x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![32, 8, 2], ![false, false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let arg2 : BitVec 32 := BitVec.ofNat 32 (i 2).val
  let c1_i32 : BitVec 32 := 1#32
  let v35 : BitVec 1 := Scalar.cmpi .eq arg2 c1_i32
  let v36 : BitVec 1 := Scalar.andi v34 v35
  let v37 : BitVec 32 := Scalar.extui v36
  let c0_i32_22 : BitVec 32 := 0#32
  let v38 : BitVec 1 := Scalar.cmpi .ne v37 c0_i32_22
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference6Ideal.lean ====
abbrev S16384x1024 : Shape := ⟨2, ![16384, 1024]⟩
abbrev S16384x128 : Shape := ⟨2, ![16384, 128]⟩
abbrev S8x1024x2816 : Shape := ⟨3, ![8, 1024, 2816]⟩
abbrev S8x2816x1024 : Shape := ⟨3, ![8, 2816, 1024]⟩
abbrev S1024 : Shape := ⟨1, ![1024]⟩
abbrev S_ : Shape := ⟨0, ![]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩
abbrev S16384 : Shape := ⟨1, ![16384]⟩
abbrev S1x1024 : Shape := ⟨2, ![1, 1024]⟩

abbrev nBuf : Space → Nat
  | .hbm => 211
  | .vmem => 0
  | .smem => 0
  | _ => 0

abbrev hbmTy0_0 (i : Nat) : BufTy := match i % 128 with
  | 0 => ⟨S16384x1024, .f32⟩
  | 1 => ⟨S16384x1024, .bf16⟩
  | 2 => ⟨S16384x128, .f32⟩
  | 3 => ⟨S8x1024x2816, .f32⟩
  | 4 => ⟨S8x1024x2816, .f32⟩
  | 5 => ⟨S8x2816x1024, .f32⟩
  | 6 => ⟨S1024, .f32⟩
  | 7 => ⟨S16384x1024, .f32⟩
  | 8 => ⟨S_, .f32⟩
  | 9 => ⟨S16384x1024, .f32⟩
  | 10 => ⟨S16384x1, .f32⟩
  | 11 => ⟨S1x1024x2816, .f32⟩
  | 12 => ⟨S1024x2816, .f32⟩
  | 13 => ⟨S1x1024x2816, .f32⟩
  | 14 => ⟨S1024x2816, .f32⟩
  | 15 => ⟨S1x2816x1024, .f32⟩
  | 16 => ⟨S2816x1024, .f32⟩
  | 17 => ⟨S16384x2816, .f32⟩
  | 18 => ⟨S16384x2816, .f32⟩
  | 19 => ⟨S16384x2816, .f32⟩
  | 20 => ⟨S_, .f32⟩
  | 21 => ⟨S16384x2816, .f32⟩
  | 22 => ⟨S16384x2816, .f32⟩
  | 23 => ⟨S_, .f32⟩
  | 24 => ⟨S16384x2816, .f32⟩
  | 25 => ⟨S16384x2816, .f32⟩
  | 26 => ⟨S16384x2816, .f32⟩
  | 27 => ⟨S16384x2816, .f32⟩
  | 28 => ⟨S16384x2816, .f32⟩
  | 29 => ⟨S16384x1024, .f32⟩
  | 30 => ⟨S16384x1024, .f32⟩
  | 31 => ⟨S16384x1024, .f32⟩
  | 32 => ⟨S16384x1024, .f32⟩
  | 33 => ⟨S16384x1, .f32⟩
  | 34 => ⟨S1x1024x2816, .f32⟩
  | 35 => ⟨S1024x2816, .f32⟩
  | 36 => ⟨S1x1024x2816, .f32⟩
  | 37 => ⟨S1024x2816, .f32⟩
  | 38 => ⟨S1x2816x1024, .f32⟩
  | 39 => ⟨S2816x1024, .f32⟩
  | 40 => ⟨S16384x2816, .f32⟩
  | 41 => ⟨S16384x2816, .f32⟩
  | 42 => ⟨S16384x2816, .f32⟩
  | 43 => ⟨S_, .f32⟩
  | 44 => ⟨S16384x2816, .f32⟩
  | 45 => ⟨S16384x2816, .f32⟩
  | 46 => ⟨S_, .f32⟩
  | 47 => ⟨S16384x2816, .f32⟩
  | 48 => ⟨S16384x2816, .f32⟩
  | 49 => ⟨S16384x2816, .f32⟩
  | 50 => ⟨S16384x2816, .f32⟩
  | 51 => ⟨S16384x2816, .f32⟩
  | 52 => ⟨S16384x1024, .f32⟩
  | 53 => ⟨S16384x1024, .f32⟩
  | 54 => ⟨S16384x1024, .f32⟩
  | 55 => ⟨S16384x1024, .f32⟩
  | 56 => ⟨S16384x1, .f32⟩
  | 57 => ⟨S1x1024x2816, .f32⟩
  | 58 => ⟨S1024x2816, .f32⟩
  | 59 => ⟨S1x1024x2816, .f32⟩
  | 60 => ⟨S1024x2816, .f32⟩
  | 61 => ⟨S1x2816x1024, .f32⟩
  | 62 => ⟨S2816x1024, .f32⟩
  | 63 => ⟨S16384x2816, .f32⟩
  | 64 => ⟨S16384x2816, .f32⟩
  | 65 => ⟨S16384x2816, .f32⟩
  | 66 => ⟨S_, .f32⟩
  | 67 => ⟨S16384x2816, .f32⟩
  | 68 => ⟨S16384x2816, .f32⟩
  | 69 => ⟨S_, .f32⟩
  | 70 => ⟨S16384x2816, .f32⟩
  | 71 => ⟨S16384x2816, .f32⟩
  | 72 => ⟨S16384x2816, .f32⟩
  | 73 => ⟨S16384x2816, .f32⟩
  | 74 => ⟨S16384x2816, .f32⟩
  | 75 => ⟨S16384x1024, .f32⟩
  | 76 => ⟨S16384x1024, .f32⟩
  | 77 => ⟨S16384x1024, .f32⟩
  | 78 => ⟨S16384x1024, .f32⟩
  | 79 => ⟨S16384x1, .f32⟩
  | 80 => ⟨S1x1024x2816, .f32⟩
  | 81 => ⟨S1024x2816, .f32⟩
  | 82 => ⟨S1x1024x2816, .f32⟩
  | 83 => ⟨S1024x2816, .f32⟩
  | 84 => ⟨S1x2816x1024, .f32⟩
  | 85 => ⟨S2816x1024, .f32⟩
  | 86 => ⟨S16384x2816, .f32⟩
  | 87 => ⟨S16384x2816, .f32⟩
  | 88 => ⟨S16384x2816, .f32⟩
  | 89 => ⟨S_, .f32⟩
  | 90 => ⟨S16384x2816, .f32⟩
  | 91 => ⟨S16384x2816, .f32⟩
  | 92 => ⟨S_, .f32⟩
  | 93 => ⟨S16384x2816, .f32⟩
  | 94 => ⟨S16384x2816, .f32⟩
  | 95 => ⟨S16384x2816, .f32⟩
  | 96 => ⟨S16384x2816, .f32⟩
  | 97 => ⟨S16384x2816, .f32⟩
  | 98 => ⟨S16384x1024, .f32⟩
  | 99 => ⟨S16384x1024, .f32⟩
  | 100 => ⟨S16384x1024, .f32⟩
  | 101 => ⟨S16384x1024, .f32⟩
  | 102 => ⟨S16384x1, .f32⟩
  | 103 => ⟨S1x1024x2816, .f32⟩
  | 104 => ⟨S1024x2816, .f32⟩
  | 105 => ⟨S1x1024x2816, .f32⟩
  | 106 => ⟨S1024x2816, .f32⟩
  | 107 => ⟨S1x2816x1024, .f32⟩
  | 108 => ⟨S2816x1024, .f32⟩
  | 109 => ⟨S16384x2816, .f32⟩
  | 110 => ⟨S16384x2816, .f32⟩
  | 111 => ⟨S16384x2816, .f32⟩
  | 112 => ⟨S_, .f32⟩
  | 113 => ⟨S16384x2816, .f32⟩
  | 114 => ⟨S16384x2816, .f32⟩
  | 115 => ⟨S_, .f32⟩
  | 116 => ⟨S16384x2816, .f32⟩
  | 117 => ⟨S16384x2816, .f32⟩
  | 118 => ⟨S16384x2816, .f32⟩
  | 119 => ⟨S16384x2816, .f32⟩
  | 120 => ⟨S16384x2816, .f32⟩
  | 121 => ⟨S16384x1024, .f32⟩
  | 122 => ⟨S16384x1024, .f32⟩
  | 123 => ⟨S16384x1024, .f32⟩
  | 124 => ⟨S16384x1024, .f32⟩
  | 125 => ⟨S16384x1, .f32⟩
  | 126 => ⟨S1x1024x2816, .f32⟩
  | 127 => ⟨S1024x2816, .f32⟩
  | _ => ⟨S16384x1024, .f32⟩

abbrev hbmTy0_1 (i : Nat) : BufTy := match i % 128 with
  | 0 => ⟨S1x1024x2816, .f32⟩
  | 1 => ⟨S1024x2816, .f32⟩
  | 2 => ⟨S1x2816x1024, .f32⟩
  | 3 => ⟨S2816x1024, .f32⟩
  | 4 => ⟨S16384x2816, .f32⟩
  | 5 => ⟨S16384x2816, .f32⟩
  | 6 => ⟨S16384x2816, .f32⟩
  | 7 => ⟨S_, .f32⟩
  | 8 => ⟨S16384x2816, .f32⟩
  | 9 => ⟨S16384x2816, .f32⟩
  | 10 => ⟨S_, .f32⟩
  | 11 => ⟨S16384x2816, .f32⟩
  | 12 => ⟨S16384x2816, .f32⟩
  | 13 => ⟨S16384x2816, .f32⟩
  | 14 => ⟨S16384x2816, .f32⟩
  | 15 => ⟨S16384x2816, .f32⟩
  | 16 => ⟨S16384x1024, .f32⟩
  | 17 => ⟨S16384x1024, .f32⟩
  | 18 => ⟨S16384x1024, .f32⟩
  | 19 => ⟨S16384x1024, .f32⟩
  | 20 => ⟨S16384x1, .f32⟩
  | 21 => ⟨S1x1024x2816, .f32⟩
  | 22 => ⟨S1024x2816, .f32⟩
  | 23 => ⟨S1x1024x2816, .f32⟩
  | 24 => ⟨S1024x2816, .f32⟩
  | 25 => ⟨S1x2816x1024, .f32⟩
  | 26 => ⟨S2816x1024, .f32⟩
  | 27 => ⟨S16384x2816, .f32⟩
  | 28 => ⟨S16384x2816, .f32⟩
  | 29 => ⟨S16384x2816, .f32⟩
  | 30 => ⟨S_, .f32⟩
  | 31 => ⟨S16384x2816, .f32⟩
  | 32 => ⟨S16384x2816, .f32⟩
  | 33 => ⟨S_, .f32⟩
  | 34 => ⟨S16384x2816, .f32⟩
  | 35 => ⟨S16384x2816, .f32⟩
  | 36 => ⟨S16384x2816, .f32⟩
  | 37 => ⟨S16384x2816, .f32⟩
  | 38 => ⟨S16384x2816, .f32⟩
  | 39 => ⟨S16384x1024, .f32⟩
  | 40 => ⟨S16384x1024, .f32⟩
  | 41 => ⟨S16384x1024, .f32⟩
  | 42 => ⟨S16384x1024, .f32⟩
  | 43 => ⟨S16384x1, .f32⟩
  | 44 => ⟨S1x1024x2816, .f32⟩
  | 45 => ⟨S1024x2816, .f32⟩
  | 46 => ⟨S1x1024x2816, .f32⟩
  | 47 => ⟨S1024x2816, .f32⟩
  | 48 => ⟨S1x2816x1024, .f32⟩
  | 49 => ⟨S2816x1024, .f32⟩
  | 50 => ⟨S16384x2816, .f32⟩
  | 51 => ⟨S16384x2816, .f32⟩
  | 52 => ⟨S16384x2816, .f32⟩
  | 53 => ⟨S_, .f32⟩
  | 54 => ⟨S16384x2816, .f32⟩
  | 55 => ⟨S16384x2816, .f32⟩
  | 56 => ⟨S_, .f32⟩
  | 57 => ⟨S16384x2816, .f32⟩
  | 58 => ⟨S16384x2816, .f32⟩
  | 59 => ⟨S16384x2816, .f32⟩
  | 60 => ⟨S16384x2816, .f32⟩
  | 61 => ⟨S16384x2816, .f32⟩
  | 62 => ⟨S16384x1024, .f32⟩
  | 63 => ⟨S16384x1024, .f32⟩
  | 64 => ⟨S16384x1024, .f32⟩
  | 65 => ⟨S16384x1024, .f32⟩
  | 66 => ⟨S16384x1024, .f32⟩
  | 67 => ⟨S_, .f32⟩
  | 68 => ⟨S16384, .f32⟩
  | 69 => ⟨S16384x1, .f32⟩
  | 70 => ⟨S_, .f32⟩
  | 71 => ⟨S16384x1, .f32⟩
  | 72 => ⟨S16384x1, .f32⟩
  | 73 => ⟨S_, .f32⟩
  | 74 => ⟨S16384x1, .f32⟩
  | 75 => ⟨S16384x1, .f32⟩
  | 76 => ⟨S16384x1, .f32⟩
  | 77 => ⟨S16384x1024, .f32⟩
  | 78 => ⟨S16384x1024, .f32⟩
  | 79 => ⟨S1x1024, .f32⟩
  | 80 => ⟨S16384x1024, .f32⟩
  | 81 => ⟨S16384x1024, .f32⟩
  | 82 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call2_v0 : Ref sig .tc := ⟨.hbm, 64, rfl⟩
abbrev main_call2_v1 : Ref sig .tc := ⟨.hbm, 65, rfl⟩
abbrev main_call2_cst : Ref sig .tc := ⟨.hbm, 66, rfl⟩
abbrev main_call2_v2 : Ref sig .tc := ⟨.hbm, 67, rfl⟩
abbrev main_call2_v3 : Ref sig .tc := ⟨.hbm, 68, rfl⟩
abbrev main_call2_cst_0 : Ref sig .tc := ⟨.hbm, 69, rfl⟩
abbrev main_call2_v4 : Ref sig .tc := ⟨.hbm, 70, rfl⟩
abbrev main_call2_v5 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call3_v0 : Ref sig .tc := ⟨.hbm, 87, rfl⟩
abbrev main_call3_v1 : Ref sig .tc := ⟨.hbm, 88, rfl⟩
abbrev main_call3_cst : Ref sig .tc := ⟨.hbm, 89, rfl⟩
abbrev main_call3_v2 : Ref sig .tc := ⟨.hbm, 90, rfl⟩
abbrev main_call3_v3 : Ref sig .tc := ⟨.hbm, 91, rfl⟩
abbrev main_call3_cst_0 : Ref sig .tc := ⟨.hbm, 92, rfl⟩
abbrev main_call3_v4 : Ref sig .tc := ⟨.hbm, 93, rfl⟩
abbrev main_call3_v5 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_call4_v0 : Ref sig .tc := ⟨.hbm, 110, rfl⟩
abbrev main_call4_v1 : Ref sig .tc := ⟨.hbm, 111, rfl⟩
abbrev main_call4_cst : Ref sig .tc := ⟨.hbm, 112, rfl⟩
abbrev main_call4_v2 : Ref sig .tc := ⟨.hbm, 113, rfl⟩
abbrev main_call4_v3 : Ref sig .tc := ⟨.hbm, 114, rfl⟩
abbrev main_call4_cst_0 : Ref sig .tc := ⟨.hbm, 115, rfl⟩
abbrev main_call4_v4 : Ref sig .tc := ⟨.hbm, 116, rfl⟩
abbrev main_call4_v5 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_call5_v0 : Ref sig .tc := ⟨.hbm, 133, rfl⟩
abbrev main_call5_v1 : Ref sig .tc := ⟨.hbm, 134, rfl⟩
abbrev main_call5_cst : Ref sig .tc := ⟨.hbm, 135, rfl⟩
abbrev main_call5_v2 : Ref sig .tc := ⟨.hbm, 136, rfl⟩
abbrev main_call5_v3 : Ref sig .tc := ⟨.hbm, 137, rfl⟩
abbrev main_call5_cst_0 : Ref sig .tc := ⟨.hbm, 138, rfl⟩
abbrev main_call5_v4 : Ref sig .tc := ⟨.hbm, 139, rfl⟩
abbrev main_call5_v5 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_call6_v0 : Ref sig .tc := ⟨.hbm, 156, rfl⟩
abbrev main_call6_v1 : Ref sig .tc := ⟨.hbm, 157, rfl⟩
abbrev main_call6_cst : Ref sig .tc := ⟨.hbm, 158, rfl⟩
abbrev main_call6_v2 : Ref sig .tc := ⟨.hbm, 159, rfl⟩
abbrev main_call6_v3 : Ref sig .tc := ⟨.hbm, 160, rfl⟩
abbrev main_call6_cst_0 : Ref sig .tc := ⟨.hbm, 161, rfl⟩
abbrev main_call6_v4 : Ref sig .tc := ⟨.hbm, 162, rfl⟩
abbrev main_call6_v5 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_call7_v0 : Ref sig .tc := ⟨.hbm, 179, rfl⟩
abbrev main_call7_v1 : Ref sig .tc := ⟨.hbm, 180, rfl⟩
abbrev main_call7_cst : Ref sig .tc := ⟨.hbm, 181, rfl⟩
abbrev main_call7_v2 : Ref sig .tc := ⟨.hbm, 182, rfl⟩
abbrev main_call7_v3 : Ref sig .tc := ⟨.hbm, 183, rfl⟩
abbrev main_call7_cst_0 : Ref sig .tc := ⟨.hbm, 184, rfl⟩
abbrev main_call7_v4 : Ref sig .tc := ⟨.hbm, 185, rfl⟩
abbrev main_call7_v5 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_cst_0 : Ref sig .tc := ⟨.hbm, 195, rfl⟩
abbrev main_v123 : Ref sig .tc := ⟨.hbm, 196, rfl⟩
abbrev main_v124 : Ref sig .tc := ⟨.hbm, 197, rfl⟩
abbrev main_cst_1 : Ref sig .tc := ⟨.hbm, 198, rfl⟩
abbrev main_v125 : Ref sig .tc := ⟨.hbm, 199, rfl⟩
abbrev main_v126 : Ref sig .tc := ⟨.hbm, 200, rfl⟩
abbrev main_cst_2 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩

abbrev nD : Nat := 1
abbrev τ : Topo := Topo.v7x

variable {F : FTy → Type} [FloatOps F]
-- ==== Kernel7.lean ====
abbrev S16384x1024 : Shape := ⟨2, ![16384, 1024]⟩
abbrev S16384x384 : Shape := ⟨2, ![16384, 384]⟩
abbrev S16384x256 : Shape := ⟨2, ![16384, 256]⟩
abbrev S1024x1024 : Shape := ⟨2, ![1024, 1024]⟩
abbrev S1024 : Shape := ⟨1, ![1024]⟩
abbrev S1024x8 : Shape := ⟨2, ![1024, 8]⟩
abbrev S1x1024 : Shape := ⟨2, ![1, 1024]⟩
abbrev S_ : Shape := ⟨0, ![]⟩
abbrev S1024x128 : Shape := ⟨2, ![1024, 128]⟩
abbrev S16384x128 : Shape := ⟨2, ![16384, 128]⟩
abbrev S512x1024 : Shape := ⟨2, ![512, 1024]⟩
abbrev S512x384 : Shape := ⟨2, ![512, 384]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 17
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x256, .bf16⟩
  | .hbm, ⟨3, _⟩ => ⟨S16384x384, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x8, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S16384x1024, .f32⟩
  | .hbm, ⟨15, _⟩ => ⟨S16384x1024, .f32⟩
  | .hbm, ⟨16, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x256, .bf16⟩
  | .local _ .vmem, ⟨5, _⟩ => ⟨S512x256, .bf16⟩
  | .local _ .vmem, ⟨6, _⟩ => ⟨S512x384, .bf16⟩
  | .local _ .vmem, ⟨7, _⟩ => ⟨S512x384, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x128, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x128, .f32⟩
  | .local _ .vmem, ⟨17, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S16384x1024 : Shape := ⟨2, ![16384, 1024]⟩
abbrev S16384x384 : Shape := ⟨2, ![16384, 384]⟩
abbrev S16384x256 : Shape := ⟨2, ![16384, 256]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S16384x2 : Shape := ⟨2, ![16384, 2]⟩
abbrev S16384x124 : Shape := ⟨2, ![16384, 124]⟩
abbrev S16384x128 : Shape := ⟨2, ![16384, 128]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x256, .bf16⟩
  | .hbm, ⟨3, _⟩ => ⟨S16384x384, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x8, .f32⟩
  | .hbm, ⟨8, _⟩ => ⟨S16384x384, .f32⟩
  | .hbm, ⟨9, _⟩ => ⟨S16384x256, .f32⟩
  | .hbm, ⟨10, _⟩ => ⟨S16384x384, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S16384x8, .f32⟩
  | .hbm, ⟨47, _⟩ => ⟨S16384x2, .f32⟩
  | .hbm, ⟨48, _⟩ => ⟨S16384x2, .i32⟩
  | .hbm, ⟨49, _⟩ => ⟨S_, .f32⟩
  | .hbm, ⟨50, _⟩ => ⟨S16384, .f32⟩
  | .hbm, ⟨51, _⟩ => ⟨S_, .f32⟩
  | .hbm, ⟨52, _⟩ => ⟨S16384, .f32⟩
  | .hbm, ⟨53, _⟩ => ⟨S16384, .f32⟩
  | .hbm, ⟨54, _⟩ => ⟨S16384x1, .f32⟩
  | .hbm, ⟨55, _⟩ => ⟨S16384x2, .f32⟩
  | .hbm, ⟨56, _⟩ => ⟨S16384x2, .f32⟩
  | .hbm, ⟨57, _⟩ => ⟨S16384x2, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S16384x2, .f32⟩
  | .hbm, ⟨62, _⟩ => ⟨S16384x2, .f32⟩
  | .hbm, ⟨63, _⟩ => ⟨S16384x2, .f32⟩
  | .hbm, ⟨64, _⟩ => ⟨S_, .f32⟩
  | .hbm, ⟨65, _⟩ => ⟨S16384x124, .f32⟩
  | .hbm, ⟨66, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_values : Ref sig .tc := ⟨.hbm, 47, rfl⟩
abbrev main_indices : Ref sig .tc := ⟨.hbm, 48, rfl⟩
abbrev main_cst_5 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Proof.AttnMath.lean ====
/-
  The arithmetic of one attention row over the extended reals: the quotient of two sums over 640 keys, of which only a
  band of 576 is open, is the weighted sum of the band's values by its softmax weights.
-/
module

public import Idealize.ShloMosaic.Lib.Pointwise

@[expose] public section

noncomputable section

namespace Cert.Attn

open Idealize.ShloMosaic

/-- The largest of finitely many scores, with minus infinity for none. -/
def top {n : ℕ} (s : Fin n → EReal) : EReal := Finset.univ.fold max ⊥ s

theorem top_eq_sup {n : ℕ} (s : Fin n → EReal) : top s = Finset.univ.sup s := by
  unfold top Finset.sup; rfl

/-- The normalised row the kernel computes: sum of weight times value, divided by the sum of the weights. -/
def quotRow {n : ℕ} (s v : Fin n → EReal) : EReal :=
  Ideal.div (∑ j, Ideal.exp (s j - top s) * v j) (∑ j, Ideal.exp (s j - top s))

/-- The row the reference computes: the values weighted by the normalised weights. -/
def softRow {n : ℕ} (s v : Fin n → EReal) : EReal :=
  ∑ k, v k * Ideal.div (Ideal.exp (s k - top s)) (∑ k', Ideal.exp (s k' - top s))

/-- A score of minus infinity has weight zero whatever the largest score is. -/
theorem exp_bot_sub (M : EReal) : Ideal.exp (⊥ - M) = 0 := by
  rw [sub_eq_add_neg, EReal.bot_add]; rfl

/-- The weight of a score that is real or minus infinity, against a real largest score, is a real that is not negative. -/
theorem exp_sub_real (x : EReal) (M : ℝ) (hx : x ≠ ⊤) : ∃ r : ℝ, 0 ≤ r ∧ Ideal.exp (x - (M : EReal)) = (r : EReal) := by
  induction x with
  | bot => exact ⟨0, le_rfl, by rw [exp_bot_sub]; rfl⟩
  | top => exact absurd rfl hx
  | coe y => exact ⟨Real.exp (y - M), (Real.exp_pos _).le, by rw [← EReal.coe_sub]; rfl⟩

/-- A factor that is a real and not negative moves out of a finite sum. -/
theorem sum_mul_real {ι : Type} (t : Finset ι) (f : ι → EReal) (r : ℝ) (hr : 0 ≤ r) :
    (∑ i ∈ t, f i) * (r : EReal) = ∑ i ∈ t, f i * (r : EReal) := by
  classical
  induction t using Finset.induction_on with
  | empty => simp
  | insert a s ha ih =>
    rw [Finset.sum_insert ha, Finset.sum_insert ha,
      EReal.right_distrib_of_nonneg_of_ne_top (by exact_mod_cast hr) (EReal.coe_ne_top r), ih]

/-- Over one finite list of keys the quotient of the two sums is the softmax-weighted sum, when no score is plus infinity and
    some score is not minus infinity. -/
theorem quotRow_eq_softRow {n : ℕ} (s v : Fin n → EReal) (hs : ∀ j, s j ≠ ⊤) (j₀ : Fin n) (h₀ : s j₀ ≠ ⊥) :
    quotRow s v = softRow s v := by
  have hle : ∀ j, s j ≤ top s := fun j => by rw [top_eq_sup]; exact Finset.le_sup (Finset.mem_univ j)
  have htop : top s ≠ ⊤ := by
    rw [top_eq_sup]
    refine ne_of_lt ((Finset.sup_lt_iff (by exact bot_lt_top)).2 fun j _ => lt_top_iff_ne_top.2 (hs j))
  have hbot : top s ≠ ⊥ := fun h => h₀ (le_bot_iff.1 (h ▸ hle j₀))
  obtain ⟨M, hM⟩ : ∃ M : ℝ, top s = (M : EReal) := ⟨(top s).toReal, (EReal.coe_toReal htop hbot).symm⟩
  choose e he0 he using fun j => exp_sub_real (s j) M (hs j)
  unfold quotRow softRow
  rw [hM]
  simp only [he]
  have hS : (∑ j, (e j : EReal)) = ((∑ j, e j : ℝ) : EReal) := by
    exact (map_sum (⟨⟨Real.toEReal, EReal.coe_zero⟩, EReal.coe_add⟩ : ℝ →+ EReal) e Finset.univ).symm
  have hpos : 0 < ∑ j, e j := by
    refine Finset.sum_pos' (fun j _ => he0 j) ⟨j₀, Finset.mem_univ _, ?_⟩
    have h1 := he j₀
    lift s j₀ to ℝ using ⟨hs j₀, h₀⟩ with y hy
    rw [← EReal.coe_sub] at h1
    have : e j₀ = Real.exp (y - M) := EReal.coe_injective h1.symm
    rw [this]; exact Real.exp_pos _
  rw [hS]
  have hne : ((∑ j, e j : ℝ) : EReal) ≠ 0 := by exact_mod_cast hpos.ne'
  unfold Ideal.div
  rw [if_neg hne]
  simp only [if_neg hne]
  rw [← EReal.coe_inv, sum_mul_real _ _ _ (inv_nonneg.2 hpos.le)]
  refine Finset.sum_congr rfl fun j _ => ?_
  rw [mul_comm (v j), mul_assoc, mul_assoc, mul_comm (v j)]

/-- A sum over 640 keys whose terms vanish outside the 576 keys from `p` on is the sum over those. -/
theorem sum_band (f : Fin 640 → EReal) (p : ℕ) (hp : p ≤ 64) (hf : ∀ j : Fin 640, ¬(p ≤ j.val ∧ j.val < p + 576) → f j = 0) :
    ∑ j, f j = ∑ k : Fin 576, f ⟨k.val + p, by omega⟩ := by
  symm
  refine Fintype.sum_of_injective (fun k : Fin 576 => (⟨k.val + p, by omega⟩ : Fin 640)) ?_ _ _ ?_ (fun _ => rfl)
  · intro a b h; simp only [Fin.mk.injEq] at h; exact Fin.ext (by omega)
  · intro j hj
    refine hf j fun ⟨h1, h2⟩ => hj ⟨⟨j.val - p, by omega⟩, Fin.ext ?_⟩
    show j.val - p + p = j.val
    omega

/-- The largest of 640 scores that are minus infinity outside a band is the band's largest. -/
theorem top_band (s : Fin 640 → EReal) (p : ℕ) (hp : p ≤ 64) (hs : ∀ j : Fin 640, ¬(p ≤ j.val ∧ j.val < p + 576) → s j = ⊥) :
    top s = top (fun k : Fin 576 => s ⟨k.val + p, by omega⟩) := by
  rw [top_eq_sup, top_eq_sup]
  refine le_antisymm (Finset.sup_le fun j _ => ?_) (Finset.sup_le fun k _ => Finset.le_sup (f := s) (Finset.mem_univ _))
  by_cases h : p ≤ j.val ∧ j.val < p + 576
  · have := Finset.le_sup (f := fun k : Fin 576 => s ⟨k.val + p, by omega⟩) (Finset.mem_univ ⟨j.val - p, by omega⟩)
    refine le_trans (le_of_eq (congrArg s (Fin.ext ?_))) this
    show j.val = j.val - p + p
    omega
  · rw [hs j h]; exact bot_le

/-- THE ROW: the kernel's quotient over 640 keys, closed outside a band of 576, is the reference's softmax-weighted sum over
    the band, where a closed key of the band may carry any value. -/
theorem quotRow_band (a v : Fin 640 → EReal) (b w : Fin 576 → EReal) (p : ℕ) (hp : p ≤ 64)
    (hb : ∀ k : Fin 576, b k = a ⟨k.val + p, by omega⟩)
    (hw : ∀ k : Fin 576, b k ≠ ⊥ → w k = v ⟨k.val + p, by omega⟩)
    (hout : ∀ j : Fin 640, ¬(p ≤ j.val ∧ j.val < p + 576) → a j = ⊥)
    (hfin : ∀ k, b k ≠ ⊤) (k₀ : Fin 576) (h₀ : b k₀ ≠ ⊥) :
    quotRow a v = softRow b w := by
  rw [← quotRow_eq_softRow b w hfin k₀ h₀]
  have hbe : b = fun k : Fin 576 => a ⟨k.val + p, by omega⟩ := funext hb
  have htop : top a = top b := by rw [top_band a p hp hout, hbe]
  unfold quotRow
  rw [htop]
  congr 1
  · rw [sum_band _ p hp (fun j hj => by rw [hout j hj, exp_bot_sub, zero_mul])]
    refine Finset.sum_congr rfl fun k _ => ?_
    rw [← hb k]
    by_cases h : b k = ⊥
    · rw [h, exp_bot_sub, zero_mul, zero_mul]
    · rw [hw k h]
  · rw [sum_band _ p hp (fun j hj => by rw [hout j hj, exp_bot_sub])]
    exact Finset.sum_congr rfl fun k _ => by rw [← hb k]

/-- One row of the final normalisation: the entry times the reciprocal root of the mean square plus the small constant, times
    the gain. -/
def rmsRow (o : Fin 384 → EReal) (g : EReal) (x : Fin 384) : EReal :=
  o x * Ideal.rsqrt (Ideal.div (∑ k, o k * o k) (Ideal.ofBits .f32 0x43C00000#32) + Ideal.ofBits .f32 0x358637BD#32) * g

end Cert.Attn

end
-- ==== Proof.AttnBlock.lean ====
/-
  What one grid point of the attention kernel computes from its blocks, entry by entry.
-/
module

public import proofs.«01_k».proof.Proof.AttnMath
public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.Attn

open Cert.KernelIdeal Cert.KernelIdeal.Gen Idealize.ShloMosaic

/-- One head of one tile of 128 queries: scores against 640 keys, bias, mask, weights, weighted values over the weights' sum. -/
def headTile (q : FVec Ideal S128x64 .bf16) (k v : FVec Ideal S640x64 .bf16) (al : IVec S128x640 1) (b : Vec Ideal S1x128x640 .f32) :
    FVec Ideal S128x64 .f32 :=
  have s : FVec Ideal S128x640 .f32 := select al (addf (matmul dot_S128x64_S640x64_S128x640_1_1_0_0_n_n none q k (constant S128x640 .f32 0x00000000#32)) (shapeCast S128x640 b shapeCasts_S1x128x640_S128x640)) (broadcast S128x640 (Scalar.ofBits .f32 0xFF800000#32))
  have e : FVec Ideal S128x640 .f32 := exp (subf s (broadcastTo S128x640 (shapeCast S128x1 (multiReduction .maximumf [1] S128 s 0xFF800000#32 reduces_S128x640_S128 (.inl rfl) rfl) shapeCasts_S128_S128x1) broadcasts_S128x1_S128x640))
  divf (matmul dot_S128x640_S640x64_S128x64_1_0_0_1_n_n none (truncf .bf16 e bitsLt_bf16_f32) v (constant S128x64 .f32 0x00000000#32))
    (broadcastTo S128x64 (shapeCast S128x1 (multiReduction .add [1] S128 e 0x00000000#32 reduces_S128x640_S128 (.inl rfl) rfl) shapeCasts_S128_S128x1) broadcasts_S128x1_S128x64)

theorem ofBits_neg_inf : Ideal.ofBits .f32 0xFF800000#32 = (⊥ : EReal) := by
  simp [Ideal.ofBits, Ideal.ieee]

/-- The score of query row `r` and key `j`. -/
def tileScore (q : FVec Ideal S128x64 .bf16) (k : FVec Ideal S640x64 .bf16) (al : IVec S128x640 1) (b : Vec Ideal S1x128x640 .f32)
    (r : Fin 128) (j : Fin 640) : EReal :=
  Scalar.select (al (ix2 r j)) ((∑ e : Fin 64, q (ix2 r e) * k (ix2 j e)) + b (ix3 0 r j)) ⊥

theorem headTile_apply (q : FVec Ideal S128x64 .bf16) (k v : FVec Ideal S640x64 .bf16) (al : IVec S128x640 1) (b : Vec Ideal S1x128x640 .f32)
    (r : Fin 128) (d : Fin 64) :
    headTile q k v al b (ix2 r d) = quotRow (tileScore q k al b r) (fun j => v (ix2 j d)) := by
  pointwise [headTile, quotRow, tileScore, top]
  rw [ofBits_neg_inf]

/-- The mask of tile `i` of a grid point: the bias of head 0 is not minus infinity, and the key lies at or after the first. -/
def tileMask (g : BitVec 32) (b0 : Vec Ideal S1x128x640 .f32) : IVec S128x640 1 :=
  andi (cmpf .one (shapeCast S128x640 b0 shapeCasts_S1x128x640_S128x640 : FVec Ideal S128x640 .f32) (broadcast S128x640 (Scalar.ofBits .f32 0xFF800000#32)))
    (broadcastTo S128x640 (cmpi .sge (addi (broadcast S1x640 (Scalar.muli g 128#32)) (iota .tc S1x640 32 [1] iota_S1x640_d1_w32)) (broadcast S1x640 0#32)) broadcasts_S1x640_S128x640)

theorem tileMask_apply (g : BitVec 32) (b0 : Vec Ideal S1x128x640 .f32) (r : Fin 128) (j : Fin 640) :
    tileMask g b0 (ix2 r j) = IntOp.andi (Ideal.cmp .one (b0 (ix3 0 r j)) ⊥) (IntOp.cmpi .sge (g * 128#32 + BitVec.ofNat 32 j.val) 0#32) := by
  pointwise [tileMask]
  rw [ofBits_neg_inf]
  rfl

variable (g : grid0.Coords) (x0 : Vec Ideal S1x256x384 .bf16) (x1 x2 x3 x4 x5 x6 x7 x8 x9 x10 x11 x12 : Vec Ideal S1x128x384 .bf16)
  (x13 : Vec Ideal S6x128x640 .f32) (x14 : Vec Ideal S1x384 .f32)

/-- Tile 0 of a grid point: its six heads beside one another. -/
def tile0 (Q : FVec Ideal S256x384 .bf16) (K V : FVec Ideal S768x384 .bf16) : FVec Ideal S128x384 .f32 :=
  concatenate S128x384 1 [
    ⟨S128x64, headTile (extractStridedSlice S128x64 ![0, 0] Q slices_S256x384_o0_0_S128x64) (extractStridedSlice S640x64 ![0, 0] K slices_S768x384_o0_0_S640x64) (extractStridedSlice S640x64 ![0, 0] V slices_S768x384_o0_0_S640x64) (tileMask (Scalar.subi (Scalar.addi (Scalar.muli (BitVec.ofNat 32 (g 1).val) 2#32) 0#32) 4#32) (View.ld x13 r0_2)) (View.ld x13 r0_2)⟩,
    ⟨S128x64, headTile (extractStridedSlice S128x64 ![0, 64] Q slices_S256x384_o0_64_S128x64) (extractStridedSlice S640x64 ![0, 64] K slices_S768x384_o0_64_S640x64) (extractStridedSlice S640x64 ![0, 64] V slices_S768x384_o0_64_S640x64) (tileMask (Scalar.subi (Scalar.addi (Scalar.muli (BitVec.ofNat 32 (g 1).val) 2#32) 0#32) 4#32) (View.ld x13 r0_2)) (View.ld x13 r0_3)⟩,
    ⟨S128x64, headTile (extractStridedSlice S128x64 ![0, 128] Q slices_S256x384_o0_128_S128x64) (extractStridedSlice S640x64 ![0, 128] K slices_S768x384_o0_128_S640x64) (extractStridedSlice S640x64 ![0, 128] V slices_S768x384_o0_128_S640x64) (tileMask (Scalar.subi (Scalar.addi (Scalar.muli (BitVec.ofNat 32 (g 1).val) 2#32) 0#32) 4#32) (View.ld x13 r0_2)) (View.ld x13 r0_4)⟩,
    ⟨S128x64, headTile (extractStridedSlice S128x64 ![0, 192] Q slices_S256x384_o0_192_S128x64) (extractStridedSlice S640x64 ![0, 192] K slices_S768x384_o0_192_S640x64) (extractStridedSlice S640x64 ![0, 192] V slices_S768x384_o0_192_S640x64) (tileMask (Scalar.subi (Scalar.addi (Scalar.muli (BitVec.ofNat 32 (g 1).val) 2#32) 0#32) 4#32) (View.ld x13 r0_2)) (View.ld x13 r0_5)⟩,
    ⟨S128x64, headTile (extractStridedSlice S128x64 ![0, 256] Q slices_S256x384_o0_256_S128x64) (extractStridedSlice S640x64 ![0, 256] K slices_S768x384_o0_256_S640x64) (extractStridedSlice S640x64 ![0, 256] V slices_S768x384_o0_256_S640x64) (tileMask (Scalar.subi (Scalar.addi (Scalar.muli (BitVec.ofNat 32 (g 1).val) 2#32) 0#32) 4#32) (View.ld x13 r0_2)) (View.ld x13 r0_6)⟩,
    ⟨S128x64, headTile (extractStridedSlice S128x64 ![0, 320] Q slices_S256x384_o0_320_S128x64) (extractStridedSlice S640x64 ![0, 320] K slices_S768x384_o0_320_S640x64) (extractStridedSlice S640x64 ![0, 320] V slices_S768x384_o0_320_S640x64) (tileMask (Scalar.subi (Scalar.addi (Scalar.muli (BitVec.ofNat 32 (g 1).val) 2#32) 0#32) 4#32) (View.ld x13 r0_2)) (View.ld x13 r0_7)⟩] concatenates_S128x64_S128x64_S128x64_S128x64_S128x64_S128x64_S128x384_d1

/-- Tile 1 of a grid point: its six heads beside one another. -/
def tile1 (Q : FVec Ideal S256x384 .bf16) (K V : FVec Ideal S768x384 .bf16) : FVec Ideal S128x384 .f32 :=
  concatenate S128x384 1 [
    ⟨S128x64, headTile (extractStridedSlice S128x64 ![128, 0] Q slices_S256x384_o128_0_S128x64) (extractStridedSlice S640x64 ![128, 0] K slices_S768x384_o128_0_S640x64) (extractStridedSlice S640x64 ![128, 0] V slices_S768x384_o128_0_S640x64) (tileMask (Scalar.subi (Scalar.addi (Scalar.muli (BitVec.ofNat 32 (g 1).val) 2#32) 1#32) 4#32) (View.ld x13 r0_2)) (View.ld x13 r0_2)⟩,
    ⟨S128x64, headTile (extractStridedSlice S128x64 ![128, 64] Q slices_S256x384_o128_64_S128x64) (extractStridedSlice S640x64 ![128, 64] K slices_S768x384_o128_64_S640x64) (extractStridedSlice S640x64 ![128, 64] V slices_S768x384_o128_64_S640x64) (tileMask (Scalar.subi (Scalar.addi (Scalar.muli (BitVec.ofNat 32 (g 1).val) 2#32) 1#32) 4#32) (View.ld x13 r0_2)) (View.ld x13 r0_3)⟩,
    ⟨S128x64, headTile (extractStridedSlice S128x64 ![128, 128] Q slices_S256x384_o128_128_S128x64) (extractStridedSlice S640x64 ![128, 128] K slices_S768x384_o128_128_S640x64) (extractStridedSlice S640x64 ![128, 128] V slices_S768x384_o128_128_S640x64) (tileMask (Scalar.subi (Scalar.addi (Scalar.muli (BitVec.ofNat 32 (g 1).val) 2#32) 1#32) 4#32) (View.ld x13 r0_2)) (View.ld x13 r0_4)⟩,
    ⟨S128x64, headTile (extractStridedSlice S128x64 ![128, 192] Q slices_S256x384_o128_192_S128x64) (extractStridedSlice S640x64 ![128, 192] K slices_S768x384_o128_192_S640x64) (extractStridedSlice S640x64 ![128, 192] V slices_S768x384_o128_192_S640x64) (tileMask (Scalar.subi (Scalar.addi (Scalar.muli (BitVec.ofNat 32 (g 1).val) 2#32) 1#32) 4#32) (View.ld x13 r0_2)) (View.ld x13 r0_5)⟩,
    ⟨S128x64, headTile (extractStridedSlice S128x64 ![128, 256] Q slices_S256x384_o128_256_S128x64) (extractStridedSlice S640x64 ![128, 256] K slices_S768x384_o128_256_S640x64) (extractStridedSlice S640x64 ![128, 256] V slices_S768x384_o128_256_S640x64) (tileMask (Scalar.subi (Scalar.addi (Scalar.muli (BitVec.ofNat 32 (g 1).val) 2#32) 1#32) 4#32) (View.ld x13 r0_2)) (View.ld x13 r0_6)⟩,
    ⟨S128x64, headTile (extractStridedSlice S128x64 ![128, 320] Q slices_S256x384_o128_320_S128x64) (extractStridedSlice S640x64 ![128, 320] K slices_S768x384_o128_320_S640x64) (extractStridedSlice S640x64 ![128, 320] V slices_S768x384_o128_320_S640x64) (tileMask (Scalar.subi (Scalar.addi (Scalar.muli (BitVec.ofNat 32 (g 1).val) 2#32) 1#32) 4#32) (View.ld x13 r0_2)) (View.ld x13 r0_7)⟩] concatenates_S128x64_S128x64_S128x64_S128x64_S128x64_S128x64_S128x384_d1

/-- The queries, scaled. -/
def qAll : FVec Ideal S256x384 .bf16 := k0_pay2 (View.ld x0 r0_0)
/-- Six blocks of keys (or of values) below one another. -/
def kAll : FVec Ideal S768x384 .bf16 := k0_pay3 (View.ld x1 r0_1) (View.ld x2 r0_1) (View.ld x3 r0_1) (View.ld x4 r0_1) (View.ld x5 r0_1) (View.ld x6 r0_1)

/-- Both tiles below one another, before the normalisation. -/
def twoTiles : FVec Ideal S256x384 .f32 :=
  concatenate S256x384 0 [⟨S128x384, tile0 g x13 (qAll x0) (kAll x1 x2 x3 x4 x5 x6) (kAll x7 x8 x9 x10 x11 x12)⟩,
    ⟨S128x384, tile1 g x13 (qAll x0) (kAll x1 x2 x3 x4 x5 x6) (kAll x7 x8 x9 x10 x11 x12)⟩] concatenates_S128x384_S128x384_S256x384_d0

/-- The normalisation of a block of 256 rows. -/
def normRows (o : FVec Ideal S256x384 .f32) (gn : Vec Ideal S1x384 .f32) : FVec Ideal S256x384 .bf16 :=
  truncf .bf16 (mulf (mulf o (broadcastTo S256x384 (rsqrt (addf (divf (shapeCast S256x1 (multiReduction .add [1] S256 (mulf o o) 0x00000000#32 reduces_S256x384_S256 (.inl rfl) rfl) shapeCasts_S256_S256x1) (broadcast S256x1 (Scalar.ofBits .f32 0x43C00000#32))) (broadcast S256x1 (Scalar.ofBits .f32 0x358637BD#32)))) broadcasts_S256x1_S256x384)) (broadcastTo S256x384 (shapeCast S1x384 gn shapeCasts_S1x384_S1x384) broadcasts_S1x384_S256x384)) bitsLt_bf16_f32

theorem normRows_apply (o : FVec Ideal S256x384 .f32) (gn : Vec Ideal S1x384 .f32) (r : Fin 256) (c : Fin 384) :
    normRows o gn (ix2 r c) = rmsRow (fun c' => o (ix2 r c')) (gn (ix2 0 c)) c := by
  pointwise [normRows, rmsRow]

/-- The block a grid point writes is the normalisation of its two tiles. -/
theorem out_eq : out0_15 (F := Ideal) g x0 x1 x2 x3 x4 x5 x6 x7 x8 x9 x10 x11 x12 x13 x14
    = View.canon [⟨r0_0, k0_pay1 (normRows (twoTiles g x0 x1 x2 x3 x4 x5 x6 x7 x8 x9 x10 x11 x12 x13) (View.ld x14 r0_8))⟩] := by
  unfold_out out0_15
  rfl

/-- Row `n` of six blocks below one another. -/
def keyAt (x : Fin 6 → Vec Ideal S1x128x384 .bf16) (n : Fin 768) (c : Fin 384) : EReal :=
  x ⟨n.val / 128, by omega⟩ (ix3 0 ⟨n.val % 128, by omega⟩ c)

theorem kAll_apply (n : Fin 768) (c : Fin 384) :
    kAll x1 x2 x3 x4 x5 x6 (ix2 n c) = keyAt ![x1, x2, x3, x4, x5, x6] n c := by
  have key : ∀ (x : Fin 6 → Vec Ideal S1x128x384 .bf16) (k : Fin 6) (l : Fin 128), n.val = 128 * k.val + l.val → keyAt x n c = x k (ix3 0 l c) := by
    intro x k l h
    have e1 : (⟨n.val / 128, by omega⟩ : Fin 6) = k := Fin.ext (by show n.val / 128 = k.val; omega)
    have e2 : (⟨n.val % 128, by omega⟩ : Fin 128) = l := Fin.ext (by show n.val % 128 = l.val; omega)
    unfold keyAt
    rw [e1, e2]
  pointwise [kAll, k0_pay3]
  split
  · next h => rw [key _ 0 ⟨n.val, h⟩ (by simp)]; rfl
  split
  · next h0 h => rw [key _ 1 ⟨n.val - 128, h⟩ (by show _ = 128 * 1 + (n.val - 128); omega)]; rfl
  split
  · next h0 h1 h => rw [key _ 2 ⟨n.val - 256, by omega⟩ (by show _ = 128 * 2 + (n.val - 256); omega)]; congr 2
  split
  · next h0 h1 h2 h => rw [key _ 3 ⟨n.val - 384, by omega⟩ (by show _ = 128 * 3 + (n.val - 384); omega)]; congr 2
  split
  · next h0 h1 h2 h3 h => rw [key _ 4 ⟨n.val - 512, by omega⟩ (by show _ = 128 * 4 + (n.val - 512); omega)]; congr 2
  · next h0 h1 h2 h3 h => rw [key _ 5 ⟨n.val - 640, by omega⟩ (by show _ = 128 * 5 + (n.val - 640); omega)]; congr 2

theorem qAll_apply (r : Fin 256) (c : Fin 384) : qAll x0 (ix2 r c) = x0 (ix3 0 r c) * Ideal.ofBits .bf16 0x3E00#16 := by
  pointwise [qAll, k0_pay2]

/-- The word of tile `i`: the number of its first key's block of 128, counted from the array's start. -/
def tileWord (i : Fin 2) : BitVec 32 :=
  BitVec.ofNat 32 (g 1).val * 2#32 + BitVec.ofNat 32 i.val - 4#32

/-- The score of key `j` for row `r` of tile `i` and head `h`. -/
def rowScore (Q : FVec Ideal S256x384 .bf16) (K : FVec Ideal S768x384 .bf16) (i : Fin 2) (h : Fin 6) (r : Fin 128) (j : Fin 640) : EReal :=
  Scalar.select (IntOp.andi (Ideal.cmp .one (x13 (ix3 0 r j)) ⊥) (IntOp.cmpi .sge (tileWord g i * 128#32 + BitVec.ofNat 32 j.val) 0#32))
    ((∑ e : Fin 64, Q (ix2 ⟨128 * i.val + r.val, by omega⟩ ⟨64 * h.val + e.val, by omega⟩) * K (ix2 ⟨128 * i.val + j.val, by omega⟩ ⟨64 * h.val + e.val, by omega⟩)) + x13 (ix3 h r j)) ⊥

variable (Q : FVec Ideal S256x384 .bf16) (K V : FVec Ideal S768x384 .bf16) (r : Fin 128) (d : Fin 64) (c : Fin 384)

theorem head_0_0 : headTile (extractStridedSlice S128x64 ![0, 0] Q slices_S256x384_o0_0_S128x64) (extractStridedSlice S640x64 ![0, 0] K slices_S768x384_o0_0_S640x64) (extractStridedSlice S640x64 ![0, 0] V slices_S768x384_o0_0_S640x64) (tileMask (Scalar.subi (Scalar.addi (Scalar.muli (BitVec.ofNat 32 (g 1).val) 2#32) 0#32) 4#32) (View.ld x13 r0_2)) (View.ld x13 r0_2) (ix2 r d)
    = quotRow (rowScore g x13 Q K 0 0 r) (fun j => V (ix2 ⟨j.val, by omega⟩ ⟨0 + d.val, by omega⟩)) := by
  rw [headTile_apply]
  refine congrArg₂ quotRow (funext fun j => ?_) (funext fun j => ?_)
  · unfold tileScore rowScore
    rw [tileMask_apply]
    pointwise
    try rfl
  · pointwise

theorem head_0_1 : headTile (extractStridedSlice S128x64 ![0, 64] Q slices_S256x384_o0_64_S128x64) (extractStridedSlice S640x64 ![0, 64] K slices_S768x384_o0_64_S640x64) (extractStridedSlice S640x64 ![0, 64] V slices_S768x384_o0_64_S640x64) (tileMask (Scalar.subi (Scalar.addi (Scalar.muli (BitVec.ofNat 32 (g 1).val) 2#32) 0#32) 4#32) (View.ld x13 r0_2)) (View.ld x13 r0_3) (ix2 r d)
    = quotRow (rowScore g x13 Q K 0 1 r) (fun j => V (ix2 ⟨j.val, by omega⟩ ⟨64 + d.val, by omega⟩)) := by
  rw [headTile_apply]
  refine congrArg₂ quotRow (funext fun j => ?_) (funext fun j => ?_)
  · unfold tileScore rowScore
    rw [tileMask_apply]
    pointwise
    try rfl
  · pointwise

theorem head_0_2 : headTile (extractStridedSlice S128x64 ![0, 128] Q slices_S256x384_o0_128_S128x64) (extractStridedSlice S640x64 ![0, 128] K slices_S768x384_o0_128_S640x64) (extractStridedSlice S640x64 ![0, 128] V slices_S768x384_o0_128_S640x64) (tileMask (Scalar.subi (Scalar.addi (Scalar.muli (BitVec.ofNat 32 (g 1).val) 2#32) 0#32) 4#32) (View.ld x13 r0_2)) (View.ld x13 r0_4) (ix2 r d)
    = quotRow (rowScore g x13 Q K 0 2 r) (fun j => V (ix2 ⟨j.val, by omega⟩ ⟨128 + d.val, by omega⟩)) := by
  rw [headTile_apply]
  refine congrArg₂ quotRow (funext fun j => ?_) (funext fun j => ?_)
  · unfold tileScore rowScore
    rw [tileMask_apply]
    pointwise
    try rfl
  · pointwise

theorem head_0_3 : headTile (extractStridedSlice S128x64 ![0, 192] Q slices_S256x384_o0_192_S128x64) (extractStridedSlice S640x64 ![0, 192] K slices_S768x384_o0_192_S640x64) (extractStridedSlice S640x64 ![0, 192] V slices_S768x384_o0_192_S640x64) (tileMask (Scalar.subi (Scalar.addi (Scalar.muli (BitVec.ofNat 32 (g 1).val) 2#32) 0#32) 4#32) (View.ld x13 r0_2)) (View.ld x13 r0_5) (ix2 r d)
    = quotRow (rowScore g x13 Q K 0 3 r) (fun j => V (ix2 ⟨j.val, by omega⟩ ⟨192 + d.val, by omega⟩)) := by
  rw [headTile_apply]
  refine congrArg₂ quotRow (funext fun j => ?_) (funext fun j => ?_)
  · unfold tileScore rowScore
    rw [tileMask_apply]
    pointwise
    try rfl
  · pointwise

theorem head_0_4 : headTile (extractStridedSlice S128x64 ![0, 256] Q slices_S256x384_o0_256_S128x64) (extractStridedSlice S640x64 ![0, 256] K slices_S768x384_o0_256_S640x64) (extractStridedSlice S640x64 ![0, 256] V slices_S768x384_o0_256_S640x64) (tileMask (Scalar.subi (Scalar.addi (Scalar.muli (BitVec.ofNat 32 (g 1).val) 2#32) 0#32) 4#32) (View.ld x13 r0_2)) (View.ld x13 r0_6) (ix2 r d)
    = quotRow (rowScore g x13 Q K 0 4 r) (fun j => V (ix2 ⟨j.val, by omega⟩ ⟨256 + d.val, by omega⟩)) := by
  rw [headTile_apply]
  refine congrArg₂ quotRow (funext fun j => ?_) (funext fun j => ?_)
  · unfold tileScore rowScore
    rw [tileMask_apply]
    pointwise
    try rfl
  · pointwise

theorem head_0_5 : headTile (extractStridedSlice S128x64 ![0, 320] Q slices_S256x384_o0_320_S128x64) (extractStridedSlice S640x64 ![0, 320] K slices_S768x384_o0_320_S640x64) (extractStridedSlice S640x64 ![0, 320] V slices_S768x384_o0_320_S640x64) (tileMask (Scalar.subi (Scalar.addi (Scalar.muli (BitVec.ofNat 32 (g 1).val) 2#32) 0#32) 4#32) (View.ld x13 r0_2)) (View.ld x13 r0_7) (ix2 r d)
    = quotRow (rowScore g x13 Q K 0 5 r) (fun j => V (ix2 ⟨j.val, by omega⟩ ⟨320 + d.val, by omega⟩)) := by
  rw [headTile_apply]
  refine congrArg₂ quotRow (funext fun j => ?_) (funext fun j => ?_)
  · unfold tileScore rowScore
    rw [tileMask_apply]
    pointwise
    try rfl
  · pointwise

theorem head_1_0 : headTile (extractStridedSlice S128x64 ![128, 0] Q slices_S256x384_o128_0_S128x64) (extractStridedSlice S640x64 ![128, 0] K slices_S768x384_o128_0_S640x64) (extractStridedSlice S640x64 ![128, 0] V slices_S768x384_o128_0_S640x64) (tileMask (Scalar.subi (Scalar.addi (Scalar.muli (BitVec.ofNat 32 (g 1).val) 2#32) 1#32) 4#32) (View.ld x13 r0_2)) (View.ld x13 r0_2) (ix2 r d)
    = quotRow (rowScore g x13 Q K 1 0 r) (fun j => V (ix2 ⟨128 + j.val, by omega⟩ ⟨0 + d.val, by omega⟩)) := by
  rw [headTile_apply]
  refine congrArg₂ quotRow (funext fun j => ?_) (funext fun j => ?_)
  · unfold tileScore rowScore
    rw [tileMask_apply]
    pointwise
    try rfl
  · pointwise

theorem head_1_1 : headTile (extractStridedSlice S128x64 ![128, 64] Q slices_S256x384_o128_64_S128x64) (extractStridedSlice S640x64 ![128, 64] K slices_S768x384_o128_64_S640x64) (extractStridedSlice S640x64 ![128, 64] V slices_S768x384_o128_64_S640x64) (tileMask (Scalar.subi (Scalar.addi (Scalar.muli (BitVec.ofNat 32 (g 1).val) 2#32) 1#32) 4#32) (View.ld x13 r0_2)) (View.ld x13 r0_3) (ix2 r d)
    = quotRow (rowScore g x13 Q K 1 1 r) (fun j => V (ix2 ⟨128 + j.val, by omega⟩ ⟨64 + d.val, by omega⟩)) := by
  rw [headTile_apply]
  refine congrArg₂ quotRow (funext fun j => ?_) (funext fun j => ?_)
  · unfold tileScore rowScore
    rw [tileMask_apply]
    pointwise
    try rfl
  · pointwise

theorem head_1_2 : headTile (extractStridedSlice S128x64 ![128, 128] Q slices_S256x384_o128_128_S128x64) (extractStridedSlice S640x64 ![128, 128] K slices_S768x384_o128_128_S640x64) (extractStridedSlice S640x64 ![128, 128] V slices_S768x384_o128_128_S640x64) (tileMask (Scalar.subi (Scalar.addi (Scalar.muli (BitVec.ofNat 32 (g 1).val) 2#32) 1#32) 4#32) (View.ld x13 r0_2)) (View.ld x13 r0_4) (ix2 r d)
    = quotRow (rowScore g x13 Q K 1 2 r) (fun j => V (ix2 ⟨128 + j.val, by omega⟩ ⟨128 + d.val, by omega⟩)) := by
  rw [headTile_apply]
  refine congrArg₂ quotRow (funext fun j => ?_) (funext fun j => ?_)
  · unfold tileScore rowScore
    rw [tileMask_apply]
    pointwise
    try rfl
  · pointwise

theorem head_1_3 : headTile (extractStridedSlice S128x64 ![128, 192] Q slices_S256x384_o128_192_S128x64) (extractStridedSlice S640x64 ![128, 192] K slices_S768x384_o128_192_S640x64) (extractStridedSlice S640x64 ![128, 192] V slices_S768x384_o128_192_S640x64) (tileMask (Scalar.subi (Scalar.addi (Scalar.muli (BitVec.ofNat 32 (g 1).val) 2#32) 1#32) 4#32) (View.ld x13 r0_2)) (View.ld x13 r0_5) (ix2 r d)
    = quotRow (rowScore g x13 Q K 1 3 r) (fun j => V (ix2 ⟨128 + j.val, by omega⟩ ⟨192 + d.val, by omega⟩)) := by
  rw [headTile_apply]
  refine congrArg₂ quotRow (funext fun j => ?_) (funext fun j => ?_)
  · unfold tileScore rowScore
    rw [tileMask_apply]
    pointwise
    try rfl
  · pointwise

theorem head_1_4 : headTile (extractStridedSlice S128x64 ![128, 256] Q slices_S256x384_o128_256_S128x64) (extractStridedSlice S640x64 ![128, 256] K slices_S768x384_o128_256_S640x64) (extractStridedSlice S640x64 ![128, 256] V slices_S768x384_o128_256_S640x64) (tileMask (Scalar.subi (Scalar.addi (Scalar.muli (BitVec.ofNat 32 (g 1).val) 2#32) 1#32) 4#32) (View.ld x13 r0_2)) (View.ld x13 r0_6) (ix2 r d)
    = quotRow (rowScore g x13 Q K 1 4 r) (fun j => V (ix2 ⟨128 + j.val, by omega⟩ ⟨256 + d.val, by omega⟩)) := by
  rw [headTile_apply]
  refine congrArg₂ quotRow (funext fun j => ?_) (funext fun j => ?_)
  · unfold tileScore rowScore
    rw [tileMask_apply]
    pointwise
    try rfl
  · pointwise

theorem head_1_5 : headTile (extractStridedSlice S128x64 ![128, 320] Q slices_S256x384_o128_320_S128x64) (extractStridedSlice S640x64 ![128, 320] K slices_S768x384_o128_320_S640x64) (extractStridedSlice S640x64 ![128, 320] V slices_S768x384_o128_320_S640x64) (tileMask (Scalar.subi (Scalar.addi (Scalar.muli (BitVec.ofNat 32 (g 1).val) 2#32) 1#32) 4#32) (View.ld x13 r0_2)) (View.ld x13 r0_7) (ix2 r d)
    = quotRow (rowScore g x13 Q K 1 5 r) (fun j => V (ix2 ⟨128 + j.val, by omega⟩ ⟨320 + d.val, by omega⟩)) := by
  rw [headTile_apply]
  refine congrArg₂ quotRow (funext fun j => ?_) (funext fun j => ?_)
  · unfold tileScore rowScore
    rw [tileMask_apply]
    pointwise
    try rfl
  · pointwise

/-- Tile 0, entry by entry. -/
theorem tile0_apply : tile0 g x13 Q K V (ix2 r c)
    = quotRow (rowScore g x13 Q K 0 ⟨c.val / 64, by omega⟩ r) (fun j => V (ix2 ⟨j.val, by omega⟩ c)) := by
  have key : ∀ (h : Fin 6) (d : Fin 64), c.val = 64 * h.val + d.val →
      quotRow (rowScore g x13 Q K 0 h r) (fun j => V (ix2 ⟨j.val, by omega⟩ ⟨64 * h.val + d.val, by omega⟩))
        = quotRow (rowScore g x13 Q K 0 ⟨c.val / 64, by omega⟩ r) (fun j => V (ix2 ⟨j.val, by omega⟩ c)) := by
    intro h d e
    have e1 : h = ⟨c.val / 64, by omega⟩ := Fin.ext (by show h.val = c.val / 64; omega)
    have e2 : (⟨64 * h.val + d.val, by omega⟩ : Fin 384) = c := Fin.ext e.symm
    rw [e2, ← e1]
  unfold tile0
  pointwise
  split
  · next h => exact (head_0_0 g x13 Q K V r ⟨c.val, h⟩).trans (key 0 ⟨c.val, h⟩ (by simp))
  split
  · next h0 h => exact (head_0_1 g x13 Q K V r ⟨c.val - 64, h⟩).trans (key 1 ⟨c.val - 64, h⟩ (by show _ = 64 * 1 + (c.val - 64); omega))
  split
  · next h0 h1 h => exact (head_0_2 g x13 Q K V r ⟨c.val - 64 - 64, by omega⟩).trans (key 2 ⟨c.val - 64 - 64, by omega⟩ (by show _ = 64 * 2 + (c.val - 64 - 64); omega))
  split
  · next h0 h1 h2 h => exact (head_0_3 g x13 Q K V r ⟨c.val - 64 - 64 - 64, by omega⟩).trans (key 3 ⟨c.val - 64 - 64 - 64, by omega⟩ (by show _ = 64 * 3 + (c.val - 64 - 64 - 64); omega))
  split
  · next h0 h1 h2 h3 h => exact (head_0_4 g x13 Q K V r ⟨c.val - 64 - 64 - 64 - 64, by omega⟩).trans (key 4 ⟨c.val - 64 - 64 - 64 - 64, by omega⟩ (by show _ = 64 * 4 + (c.val - 64 - 64 - 64 - 64); omega))
  · next h0 h1 h2 h3 h => exact (head_0_5 g x13 Q K V r ⟨c.val - 64 - 64 - 64 - 64 - 64, by omega⟩).trans (key 5 ⟨c.val - 64 - 64 - 64 - 64 - 64, by omega⟩ (by show _ = 64 * 5 + (c.val - 64 - 64 - 64 - 64 - 64); omega))

/-- Tile 1, entry by entry. -/
theorem tile1_apply : tile1 g x13 Q K V (ix2 r c)
    = quotRow (rowScore g x13 Q K 1 ⟨c.val / 64, by omega⟩ r) (fun j => V (ix2 ⟨128 + j.val, by omega⟩ c)) := by
  have key : ∀ (h : Fin 6) (d : Fin 64), c.val = 64 * h.val + d.val →
      quotRow (rowScore g x13 Q K 1 h r) (fun j => V (ix2 ⟨128 + j.val, by omega⟩ ⟨64 * h.val + d.val, by omega⟩))
        = quotRow (rowScore g x13 Q K 1 ⟨c.val / 64, by omega⟩ r) (fun j => V (ix2 ⟨128 + j.val, by omega⟩ c)) := by
    intro h d e
    have e1 : h = ⟨c.val / 64, by omega⟩ := Fin.ext (by show h.val = c.val / 64; omega)
    have e2 : (⟨64 * h.val + d.val, by omega⟩ : Fin 384) = c := Fin.ext e.symm
    rw [e2, ← e1]
  unfold tile1
  pointwise
  split
  · next h => exact (head_1_0 g x13 Q K V r ⟨c.val, h⟩).trans (key 0 ⟨c.val, h⟩ (by simp))
  split
  · next h0 h => exact (head_1_1 g x13 Q K V r ⟨c.val - 64, h⟩).trans (key 1 ⟨c.val - 64, h⟩ (by show _ = 64 * 1 + (c.val - 64); omega))
  split
  · next h0 h1 h => exact (head_1_2 g x13 Q K V r ⟨c.val - 64 - 64, by omega⟩).trans (key 2 ⟨c.val - 64 - 64, by omega⟩ (by show _ = 64 * 2 + (c.val - 64 - 64); omega))
  split
  · next h0 h1 h2 h => exact (head_1_3 g x13 Q K V r ⟨c.val - 64 - 64 - 64, by omega⟩).trans (key 3 ⟨c.val - 64 - 64 - 64, by omega⟩ (by show _ = 64 * 3 + (c.val - 64 - 64 - 64); omega))
  split
  · next h0 h1 h2 h3 h => exact (head_1_4 g x13 Q K V r ⟨c.val - 64 - 64 - 64 - 64, by omega⟩).trans (key 4 ⟨c.val - 64 - 64 - 64 - 64, by omega⟩ (by show _ = 64 * 4 + (c.val - 64 - 64 - 64 - 64); omega))
  · next h0 h1 h2 h3 h => exact (head_1_5 g x13 Q K V r ⟨c.val - 64 - 64 - 64 - 64 - 64, by omega⟩).trans (key 5 ⟨c.val - 64 - 64 - 64 - 64 - 64, by omega⟩ (by show _ = 64 * 5 + (c.val - 64 - 64 - 64 - 64 - 64); omega))

end Cert.Attn

end
-- ==== Proof.AttnBias.lean ====
module

public import proofs.«01_k».proof.Proof.AttnBlock
public import Idealize.ShloMosaic.Lib.Claim

@[expose] public section

set_option maxRecDepth 16384

noncomputable section

namespace Cert.Attn

open Cert.KernelIdeal Cert.KernelIdeal.Gen Idealize.ShloMosaic Idealize.ShloMosaic.TcCoe Idealize.SL.Sem

variable (m : (l : Loc nD τ sig) → Buf (Elt Ideal) l) (c : Dev nD)

/-- The gain the kernel reads is the gain array itself. -/
theorem gain_apply (x : Fin 384) :
    (V m c main_v32 : FVec Ideal S1x384 .f32) (ix2 0 x) = (m ((c : Thread nD τ).loc main_arg2) : FVec Ideal S384 .f32) (ix1 x) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

/-- The whole number part of `n / 64`, as the host line computes it on words. -/
theorem wordFloor_fin : ∀ i : Fin 640, Scalar.select
            (IntOp.andi
              (IntOp.cmpi CmpIPredicate.ne
                (if BitVec.ofNat 32 i.val = 0 then (0 : BitVec 32) else if (BitVec.ofNat 32 i.val).msb = true then -1 else 1)
                (if id (constantI S_ 32 64#32) ix0 = 0 then (0 : BitVec 32) else if BitVec.msb (id (constantI S_ 32 64#32) ix0) = true then -1 else 1))
              (IntOp.cmpi CmpIPredicate.ne (IntOp.remsi ArithUnit.host (BitVec.ofNat 32 i.val) (id (constantI S_ 32 64#32) ix0)) 0#32))
            (IntOp.subi (IntOp.divsi ArithUnit.host (BitVec.ofNat 32 i.val) (id (constantI S_ 32 64#32) ix0)) 1#32)
            (IntOp.divsi ArithUnit.host (BitVec.ofNat 32 i.val) (id (constantI S_ 32 64#32) ix0)) = BitVec.ofNat 32 (i.val / 64) := by
  decide +kernel

/-- The same at a natural number below 640. -/
theorem wordFloor (n : ℕ) (hn : n < 640) : Scalar.select
            (IntOp.andi
              (IntOp.cmpi CmpIPredicate.ne
                (if BitVec.ofNat 32 n = 0 then (0 : BitVec 32) else if (BitVec.ofNat 32 n).msb = true then -1 else 1)
                (if id (constantI S_ 32 64#32) ix0 = 0 then (0 : BitVec 32) else if BitVec.msb (id (constantI S_ 32 64#32) ix0) = true then -1 else 1))
              (IntOp.cmpi CmpIPredicate.ne (IntOp.remsi ArithUnit.host (BitVec.ofNat 32 n) (id (constantI S_ 32 64#32) ix0)) 0#32))
            (IntOp.subi (IntOp.divsi ArithUnit.host (BitVec.ofNat 32 n) (id (constantI S_ 32 64#32) ix0)) 1#32)
            (IntOp.divsi ArithUnit.host (BitVec.ofNat 32 n) (id (constantI S_ 32 64#32) ix0)) = BitVec.ofNat 32 (n / 64) := by
  have h := wordFloor_fin ⟨n, hn⟩
  dsimp only at h
  exact h

theorem band_word : ∀ a b : Fin 10, IntOp.andi (IntOp.cmpi .sge (BitVec.ofNat 32 b.val) (BitVec.ofNat 32 a.val))
      (IntOp.cmpi .sle (BitVec.ofNat 32 b.val) (IntOp.addi (BitVec.ofNat 32 a.val) 8#32))
    = if a.val ≤ b.val ∧ b.val ≤ a.val + 8 then 1#1 else 0#1 := by
  decide +kernel

theorem band_nat (a b : ℕ) (ha : a < 10) (hb : b < 10) : IntOp.andi (IntOp.cmpi .sge (BitVec.ofNat 32 b) (BitVec.ofNat 32 a))
      (IntOp.cmpi .sle (BitVec.ofNat 32 b) (IntOp.addi (BitVec.ofNat 32 a) 8#32))
    = if a ≤ b ∧ b ≤ a + 8 then 1#1 else 0#1 := by
  have h := band_word ⟨a, ha⟩ ⟨b, hb⟩
  dsimp only at h
  exact h

theorem sel_one (a b : EReal) : Scalar.select 1#1 a b = a := rfl
theorem sel_zero (a b : EReal) : Scalar.select 0#1 a b = b := rfl

/-- The additive table: the relative bias inside the band, minus infinity outside it. -/
def biasAt (rb : FVec Ideal S6x257 .f32) (h : Fin 6) (r : Fin 128) (j : Fin 640) : EReal :=
  if r.val / 64 ≤ j.val / 64 ∧ j.val / 64 ≤ r.val / 64 + 8 then rb (ix2 h ⟨min (640 + r.val - j.val) 256, by omega⟩) else ⊥

theorem bias_apply (h : Fin 6) (r : Fin 128) (j : Fin 640) :
    (V m c main_v31 : FVec Ideal S6x128x640 .f32) (ix3 h r j) = biasAt (m ((c : Thread nD τ).loc main_arg1)) h r j := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise
  simp only [wordFloor j.val j.isLt, wordFloor r.val (by omega), band_nat (r.val / 64) (j.val / 64) (by omega) (by omega)]
  simp only [id_eq, constant]
  after_results_simp
  pointwise
  unfold biasAt
  by_cases hb : r.val / 64 ≤ j.val / 64 ∧ j.val / 64 ≤ r.val / 64 + 8
  · simp only [hb, and_self, if_true, sel_one]
    by_cases h1 : (r.val * 767 + j.val) % 768 < 384
    · simp only [h1, dif_pos]
      have e : (256 : Fin 257) = ⟨min (640 + r.val - j.val) 256, by omega⟩ := Fin.ext (by
        have : ((256 : Fin 257)).val = 256 := rfl
        rw [this]; dsimp only; omega)
      rw [← e]
    simp only [h1, dif_neg, not_false_eq_true]
    by_cases h2 : (r.val * 767 + j.val) % 768 - 384 < 256
    · simp only [h2, dif_pos]
      refine congrArg (m ((c : Thread nD τ).loc main_arg1)) (congrArg₂ ix2 (if_neg (by decide)) (Fin.ext ?_))
      dsimp only
      refine (congrArg (fun x : Fin 256 => 1 + x.val) (if_pos (List.mem_singleton.mpr rfl))).trans ?_
      rw [Fin.val_rev]
      dsimp only
      omega
    simp only [h2, dif_neg, not_false_eq_true]
    have e : (256 : Fin 257) = ⟨min (640 + r.val - j.val) 256, by omega⟩ := Fin.ext (by
        have : ((256 : Fin 257)).val = 256 := rfl
        rw [this]; dsimp only; omega)
    rw [← e]
  · simp only [hb, if_false, ofBits_neg_inf, sel_zero]

end Cert.Attn

end
-- ==== Proof.AttnOut.lean ====
/-
  What the attention kernel leaves in its result array, entry by entry.
-/
module

public import proofs.«01_k».proof.Proof.AttnBias

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pipeline (Dat)

section Block

variable (g : grid0.Coords) (x0 : Vec Ideal S1x256x384 .bf16) (x1 x2 x3 x4 x5 x6 x7 x8 x9 x10 x11 x12 : Vec Ideal S1x128x384 .bf16)
variable (x13 : Vec Ideal S6x128x640 .f32) (x14 : Vec Ideal S1x384 .f32)

/-- The two tiles of a block, one under the other, entry by entry. -/
theorem twoTiles_apply (R : Fin 256) (c : Fin 384) :
    twoTiles g x0 x1 x2 x3 x4 x5 x6 x7 x8 x9 x10 x11 x12 x13 (ix2 R c)
    = quotRow (rowScore g x13 (qAll x0) (kAll x1 x2 x3 x4 x5 x6) ⟨R.val / 128, by omega⟩ ⟨c.val / 64, by omega⟩ ⟨R.val % 128, by omega⟩)
        (fun j => kAll x7 x8 x9 x10 x11 x12 (ix2 ⟨128 * (R.val / 128) + j.val, by omega⟩ c)) := by
  unfold twoTiles
  pointwise
  split
  · next h =>
    rw [tile0_apply]
    have e1 : (0 : Fin 2) = ⟨R.val / 128, by omega⟩ := Fin.ext (by show 0 = R.val / 128; omega)
    have e2 : (⟨R.val, h⟩ : Fin 128) = ⟨R.val % 128, by omega⟩ := Fin.ext (by show R.val = R.val % 128; omega)
    refine congrArg₂ quotRow (congrArg₂ (fun i r => rowScore g x13 (qAll x0) (kAll x1 x2 x3 x4 x5 x6) i ⟨c.val / 64, by omega⟩ r) e1 e2) (funext fun j => ?_)
    exact congrArg (fun z => kAll x7 x8 x9 x10 x11 x12 (ix2 z c)) (Fin.ext (by show j.val = 128 * (R.val / 128) + j.val; omega))
  · next h =>
    rw [tile1_apply]
    have e1 : (1 : Fin 2) = ⟨R.val / 128, by omega⟩ := Fin.ext (by show 1 = R.val / 128; omega)
    have e2 : (⟨R.val - 128, by omega⟩ : Fin 128) = ⟨R.val % 128, by omega⟩ := Fin.ext (by show R.val - 128 = R.val % 128; omega)
    refine congrArg₂ quotRow (congrArg₂ (fun i r => rowScore g x13 (qAll x0) (kAll x1 x2 x3 x4 x5 x6) i ⟨c.val / 64, by omega⟩ r) e1 e2) (funext fun j => ?_)
    exact congrArg (fun z => kAll x7 x8 x9 x10 x11 x12 (ix2 z c)) (Fin.ext (by show 128 + j.val = 128 * (R.val / 128) + j.val; omega))

/-- What one grid point writes back, entry by entry. -/
theorem out_apply (R : Fin 256) (c : Fin 384) :
    out0_15 (F := Ideal) g x0 x1 x2 x3 x4 x5 x6 x7 x8 x9 x10 x11 x12 x13 x14 (ix3 0 R c)
    = rmsRow (fun c' => quotRow (rowScore g x13 (qAll x0) (kAll x1 x2 x3 x4 x5 x6) ⟨R.val / 128, by omega⟩ ⟨c'.val / 64, by omega⟩ ⟨R.val % 128, by omega⟩)
        (fun j => kAll x7 x8 x9 x10 x11 x12 (ix2 ⟨128 * (R.val / 128) + j.val, by omega⟩ c'))) (x14 (ix2 0 c)) c := by
  rw [out_eq]
  refine Eq.trans (b := normRows (twoTiles g x0 x1 x2 x3 x4 x5 x6 x7 x8 x9 x10 x11 x12 x13) (View.ld x14 r0_8) (ix2 R c)) ?_ ?_
  · refine (congrFun (View.canon_cons_unit_lit _ _ [] (by decide)) _).trans ?_
    unfold k0_pay1
    pointwise
  · rw [normRows_apply]
    simp only [twoTiles_apply]
    refine congrArg (fun z => rmsRow _ z c) ?_
    pointwise

end Block

section Array

/-- The six key blocks, one under the other: a row is the block's row that holds it. -/
theorem kAll_read (x1 x2 x3 x4 x5 x6 : Vec Ideal S1x128x384 .bf16) (k : Fin 768) (y : Fin 384) (s n : ℕ) (P : EReal)
    (hn : n = (s + k.val / 128 - 4) * 128 + k.val % 128)
    (h0 : ∀ r : Fin 128, n = (s + 0 - 4) * 128 + r.val → x1 (ix3 0 r y) = P)
    (h1 : ∀ r : Fin 128, n = (s + 1 - 4) * 128 + r.val → x2 (ix3 0 r y) = P)
    (h2 : ∀ r : Fin 128, n = (s + 2 - 4) * 128 + r.val → x3 (ix3 0 r y) = P)
    (h3 : ∀ r : Fin 128, n = (s + 3 - 4) * 128 + r.val → x4 (ix3 0 r y) = P)
    (h4 : ∀ r : Fin 128, n = (s + 4 - 4) * 128 + r.val → x5 (ix3 0 r y) = P)
    (h5 : ∀ r : Fin 128, n = (s + 5 - 4) * 128 + r.val → x6 (ix3 0 r y) = P) :
    kAll x1 x2 x3 x4 x5 x6 (ix2 k y) = P := by
  rw [kAll_apply]
  unfold keyAt
  have key : ∀ (i : Fin 6) (r : Fin 128), n = (s + i.val - 4) * 128 + r.val → (![x1, x2, x3, x4, x5, x6] i) (ix3 0 r y) = P := by
    intro i r hi
    match i, hi with
    | ⟨0, _⟩, hi => exact h0 r hi
    | ⟨1, _⟩, hi => exact h1 r hi
    | ⟨2, _⟩, hi => exact h2 r hi
    | ⟨3, _⟩, hi => exact h3 r hi
    | ⟨4, _⟩, hi => exact h4 r hi
    | ⟨5, _⟩, hi => exact h5 r hi
  exact key ⟨k.val / 128, by omega⟩ ⟨k.val % 128, by omega⟩ hn

variable (m : (l : Loc nD τ sig) → Buf (Elt Ideal) l) (c : Dev nD)

/-- The key row that tile `n / 128` reads at place `j` of its 640 keys; tiles before the sequence's start are read at its first tile. -/
def keyRow (n : Fin 8192) (j : Fin 640) : Fin 8192 := ⟨(n.val / 128 + j.val / 128 - 4) * 128 + j.val % 128, by omega⟩

/-- The masked score of query `n` and place `j` in head `h`. -/
def kScore (x : FVec Ideal S2x8192x1152 .bf16) (rb : FVec Ideal S6x257 .f32) (b : Fin 2) (n : Fin 8192) (h : Fin 6) (j : Fin 640) : EReal :=
  Scalar.select (IntOp.andi (Ideal.cmp .one (biasAt rb 0 ⟨n.val % 128, by omega⟩ j) ⊥)
      (IntOp.cmpi .sge ((BitVec.ofNat 32 (n.val / 128) - 4#32) * 128#32 + BitVec.ofNat 32 j.val) 0#32))
    ((∑ e : Fin 64, (x (ix3 b n ⟨64 * h.val + e.val, by omega⟩) * Ideal.ofBits .bf16 0x3E00#16) * x (ix3 b (keyRow n j) ⟨384 + (64 * h.val + e.val), by omega⟩))
      + biasAt rb h ⟨n.val % 128, by omega⟩ j) ⊥

/-- The kernel's result at one entry: the attention of query `n` in every column's head, normalised and scaled. -/
def kOut (x : FVec Ideal S2x8192x1152 .bf16) (rb : FVec Ideal S6x257 .f32) (gn : FVec Ideal S384 .f32) (b : Fin 2) (n : Fin 8192) (y : Fin 384) : EReal :=
  rmsRow (fun y' => quotRow (kScore x rb b n ⟨y'.val / 64, by omega⟩) (fun j => x (ix3 b (keyRow n j) ⟨768 + y'.val, by omega⟩))) (gn (ix1 y)) y

/-- The kernel's result array. -/
def kArr (x : FVec Ideal S2x8192x1152 .bf16) (rb : FVec Ideal S6x257 .f32) (gn : FVec Ideal S384 .f32) : FVec Ideal S2x8192x384 .bf16 :=
  fun i => kOut x rb gn (i 0) (i 1) (i 2)

theorem index_q : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem index_o : ∀ t : Fin cfg0.N, win0_15.index t = ![(grid0.coords t 0).val, (grid0.coords t 1).val, 0] :=
  (by decide +kernel : ∀ t : Fin grid0.N, win0_15.index t = ![(grid0.coords t 0).val, (grid0.coords t 1).val, 0])
theorem index_1 : ∀ t : Fin cfg0.N, win0_1.index t = ![(grid0.coords t 0).val, (grid0.coords t 1).val * 2 + 0 - 4, 1] :=
  (by decide +kernel : ∀ t : Fin grid0.N, win0_1.index t = ![(grid0.coords t 0).val, (grid0.coords t 1).val * 2 + 0 - 4, 1])
theorem index_2 : ∀ t : Fin cfg0.N, win0_2.index t = ![(grid0.coords t 0).val, (grid0.coords t 1).val * 2 + 1 - 4, 1] :=
  (by decide +kernel : ∀ t : Fin grid0.N, win0_2.index t = ![(grid0.coords t 0).val, (grid0.coords t 1).val * 2 + 1 - 4, 1])
theorem index_3 : ∀ t : Fin cfg0.N, win0_3.index t = ![(grid0.coords t 0).val, (grid0.coords t 1).val * 2 + 2 - 4, 1] :=
  (by decide +kernel : ∀ t : Fin grid0.N, win0_3.index t = ![(grid0.coords t 0).val, (grid0.coords t 1).val * 2 + 2 - 4, 1])
theorem index_4 : ∀ t : Fin cfg0.N, win0_4.index t = ![(grid0.coords t 0).val, (grid0.coords t 1).val * 2 + 3 - 4, 1] :=
  (by decide +kernel : ∀ t : Fin grid0.N, win0_4.index t = ![(grid0.coords t 0).val, (grid0.coords t 1).val * 2 + 3 - 4, 1])
theorem index_5 : ∀ t : Fin cfg0.N, win0_5.index t = ![(grid0.coords t 0).val, (grid0.coords t 1).val * 2 + 4 - 4, 1] :=
  (by decide +kernel : ∀ t : Fin grid0.N, win0_5.index t = ![(grid0.coords t 0).val, (grid0.coords t 1).val * 2 + 4 - 4, 1])
theorem index_6 : ∀ t : Fin cfg0.N, win0_6.index t = ![(grid0.coords t 0).val, (grid0.coords t 1).val * 2 + 5 - 4, 1] :=
  (by decide +kernel : ∀ t : Fin grid0.N, win0_6.index t = ![(grid0.coords t 0).val, (grid0.coords t 1).val * 2 + 5 - 4, 1])
theorem index_7 : ∀ t : Fin cfg0.N, win0_7.index t = ![(grid0.coords t 0).val, (grid0.coords t 1).val * 2 + 0 - 4, 2] :=
  (by decide +kernel : ∀ t : Fin grid0.N, win0_7.index t = ![(grid0.coords t 0).val, (grid0.coords t 1).val * 2 + 0 - 4, 2])
theorem index_8 : ∀ t : Fin cfg0.N, win0_8.index t = ![(grid0.coords t 0).val, (grid0.coords t 1).val * 2 + 1 - 4, 2] :=
  (by decide +kernel : ∀ t : Fin grid0.N, win0_8.index t = ![(grid0.coords t 0).val, (grid0.coords t 1).val * 2 + 1 - 4, 2])
theorem index_9 : ∀ t : Fin cfg0.N, win0_9.index t = ![(grid0.coords t 0).val, (grid0.coords t 1).val * 2 + 2 - 4, 2] :=
  (by decide +kernel : ∀ t : Fin grid0.N, win0_9.index t = ![(grid0.coords t 0).val, (grid0.coords t 1).val * 2 + 2 - 4, 2])
theorem index_10 : ∀ t : Fin cfg0.N, win0_10.index t = ![(grid0.coords t 0).val, (grid0.coords t 1).val * 2 + 3 - 4, 2] :=
  (by decide +kernel : ∀ t : Fin grid0.N, win0_10.index t = ![(grid0.coords t 0).val, (grid0.coords t 1).val * 2 + 3 - 4, 2])
theorem index_11 : ∀ t : Fin cfg0.N, win0_11.index t = ![(grid0.coords t 0).val, (grid0.coords t 1).val * 2 + 4 - 4, 2] :=
  (by decide +kernel : ∀ t : Fin grid0.N, win0_11.index t = ![(grid0.coords t 0).val, (grid0.coords t 1).val * 2 + 4 - 4, 2])
theorem index_12 : ∀ t : Fin cfg0.N, win0_12.index t = ![(grid0.coords t 0).val, (grid0.coords t 1).val * 2 + 5 - 4, 2] :=
  (by decide +kernel : ∀ t : Fin grid0.N, win0_12.index t = ![(grid0.coords t 0).val, (grid0.coords t 1).val * 2 + 5 - 4, 2])
theorem index_13 : ∀ t : Fin cfg0.N, win0_13.index t = ![0, 0, 0] :=
  (by decide +kernel : ∀ t : Fin grid0.N, win0_13.index t = ![0, 0, 0])
theorem index_14 : ∀ t : Fin cfg0.N, win0_14.index t = ![0, 0] :=
  (by decide +kernel : ∀ t : Fin grid0.N, win0_14.index t = ![0, 0])

/-- The tile number as a word. -/
theorem tileWord_nat : ∀ (a : Fin 32) (i : Fin 2), BitVec.ofNat 32 a.val * 2#32 + BitVec.ofNat 32 i.val = BitVec.ofNat 32 (2 * a.val + i.val) := by
  decide +kernel

theorem read_q (t : Fin cfg0.N) (r : Fin 256) (y : Fin 384) (n : Fin 8192) (b : Fin 2) (hb : b.val = (grid0.coords t 0).val)
    (hn : n.val = 256 * (grid0.coords t 1).val + r.val) :
    (iblk m c 0 t : Vec Ideal S1x256x384 .bf16) (ix3 0 r y)
      = (m ((c : Thread nD τ).loc main_arg0) : FVec Ideal S2x8192x1152 .bf16) (ix3 b n ⟨y.val, by omega⟩) := by
  rw [← V_main_arg0 m c]
  blk_ext [iblk, index_q t]

theorem read_1 (t : Fin cfg0.N) (r : Fin 128) (y : Fin 384) (n : Fin 8192) (b : Fin 2) (hb : b.val = (grid0.coords t 0).val)
    (hn : n.val = ((grid0.coords t 1).val * 2 + 0 - 4) * 128 + r.val) :
    (iblk m c 1 t : Vec Ideal S1x128x384 .bf16) (ix3 0 r y)
      = (m ((c : Thread nD τ).loc main_arg0) : FVec Ideal S2x8192x1152 .bf16) (ix3 b n ⟨384 + y.val, by omega⟩) := by
  rw [← V_main_arg0 m c]
  blk_ext [iblk, index_1 t]

theorem read_2 (t : Fin cfg0.N) (r : Fin 128) (y : Fin 384) (n : Fin 8192) (b : Fin 2) (hb : b.val = (grid0.coords t 0).val)
    (hn : n.val = ((grid0.coords t 1).val * 2 + 1 - 4) * 128 + r.val) :
    (iblk m c 2 t : Vec Ideal S1x128x384 .bf16) (ix3 0 r y)
      = (m ((c : Thread nD τ).loc main_arg0) : FVec Ideal S2x8192x1152 .bf16) (ix3 b n ⟨384 + y.val, by omega⟩) := by
  rw [← V_main_arg0 m c]
  blk_ext [iblk, index_2 t]

theorem read_3 (t : Fin cfg0.N) (r : Fin 128) (y : Fin 384) (n : Fin 8192) (b : Fin 2) (hb : b.val = (grid0.coords t 0).val)
    (hn : n.val = ((grid0.coords t 1).val * 2 + 2 - 4) * 128 + r.val) :
    (iblk m c 3 t : Vec Ideal S1x128x384 .bf16) (ix3 0 r y)
      = (m ((c : Thread nD τ).loc main_arg0) : FVec Ideal S2x8192x1152 .bf16) (ix3 b n ⟨384 + y.val, by omega⟩) := by
  rw [← V_main_arg0 m c]
  blk_ext [iblk, index_3 t]

theorem read_4 (t : Fin cfg0.N) (r : Fin 128) (y : Fin 384) (n : Fin 8192) (b : Fin 2) (hb : b.val = (grid0.coords t 0).val)
    (hn : n.val = ((grid0.coords t 1).val * 2 + 3 - 4) * 128 + r.val) :
    (iblk m c 4 t : Vec Ideal S1x128x384 .bf16) (ix3 0 r y)
      = (m ((c : Thread nD τ).loc main_arg0) : FVec Ideal S2x8192x1152 .bf16) (ix3 b n ⟨384 + y.val, by omega⟩) := by
  rw [← V_main_arg0 m c]
  blk_ext [iblk, index_4 t]

theorem read_5 (t : Fin cfg0.N) (r : Fin 128) (y : Fin 384) (n : Fin 8192) (b : Fin 2) (hb : b.val = (grid0.coords t 0).val)
    (hn : n.val = ((grid0.coords t 1).val * 2 + 4 - 4) * 128 + r.val) :
    (iblk m c 5 t : Vec Ideal S1x128x384 .bf16) (ix3 0 r y)
      = (m ((c : Thread nD τ).loc main_arg0) : FVec Ideal S2x8192x1152 .bf16) (ix3 b n ⟨384 + y.val, by omega⟩) := by
  rw [← V_main_arg0 m c]
  blk_ext [iblk, index_5 t]

theorem read_6 (t : Fin cfg0.N) (r : Fin 128) (y : Fin 384) (n : Fin 8192) (b : Fin 2) (hb : b.val = (grid0.coords t 0).val)
    (hn : n.val = ((grid0.coords t 1).val * 2 + 5 - 4) * 128 + r.val) :
    (iblk m c 6 t : Vec Ideal S1x128x384 .bf16) (ix3 0 r y)
      = (m ((c : Thread nD τ).loc main_arg0) : FVec Ideal S2x8192x1152 .bf16) (ix3 b n ⟨384 + y.val, by omega⟩) := by
  rw [← V_main_arg0 m c]
  blk_ext [iblk, index_6 t]

theorem read_7 (t : Fin cfg0.N) (r : Fin 128) (y : Fin 384) (n : Fin 8192) (b : Fin 2) (hb : b.val = (grid0.coords t 0).val)
    (hn : n.val = ((grid0.coords t 1).val * 2 + 0 - 4) * 128 + r.val) :
    (iblk m c 7 t : Vec Ideal S1x128x384 .bf16) (ix3 0 r y)
      = (m ((c : Thread nD τ).loc main_arg0) : FVec Ideal S2x8192x1152 .bf16) (ix3 b n ⟨768 + y.val, by omega⟩) := by
  rw [← V_main_arg0 m c]
  blk_ext [iblk, index_7 t]

theorem read_8 (t : Fin cfg0.N) (r : Fin 128) (y : Fin 384) (n : Fin 8192) (b : Fin 2) (hb : b.val = (grid0.coords t 0).val)
    (hn : n.val = ((grid0.coords t 1).val * 2 + 1 - 4) * 128 + r.val) :
    (iblk m c 8 t : Vec Ideal S1x128x384 .bf16) (ix3 0 r y)
      = (m ((c : Thread nD τ).loc main_arg0) : FVec Ideal S2x8192x1152 .bf16) (ix3 b n ⟨768 + y.val, by omega⟩) := by
  rw [← V_main_arg0 m c]
  blk_ext [iblk, index_8 t]

theorem read_9 (t : Fin cfg0.N) (r : Fin 128) (y : Fin 384) (n : Fin 8192) (b : Fin 2) (hb : b.val = (grid0.coords t 0).val)
    (hn : n.val = ((grid0.coords t 1).val * 2 + 2 - 4) * 128 + r.val) :
    (iblk m c 9 t : Vec Ideal S1x128x384 .bf16) (ix3 0 r y)
      = (m ((c : Thread nD τ).loc main_arg0) : FVec Ideal S2x8192x1152 .bf16) (ix3 b n ⟨768 + y.val, by omega⟩) := by
  rw [← V_main_arg0 m c]
  blk_ext [iblk, index_9 t]

theorem read_10 (t : Fin cfg0.N) (r : Fin 128) (y : Fin 384) (n : Fin 8192) (b : Fin 2) (hb : b.val = (grid0.coords t 0).val)
    (hn : n.val = ((grid0.coords t 1).val * 2 + 3 - 4) * 128 + r.val) :
    (iblk m c 10 t : Vec Ideal S1x128x384 .bf16) (ix3 0 r y)
      = (m ((c : Thread nD τ).loc main_arg0) : FVec Ideal S2x8192x1152 .bf16) (ix3 b n ⟨768 + y.val, by omega⟩) := by
  rw [← V_main_arg0 m c]
  blk_ext [iblk, index_10 t]

theorem read_11 (t : Fin cfg0.N) (r : Fin 128) (y : Fin 384) (n : Fin 8192) (b : Fin 2) (hb : b.val = (grid0.coords t 0).val)
    (hn : n.val = ((grid0.coords t 1).val * 2 + 4 - 4) * 128 + r.val) :
    (iblk m c 11 t : Vec Ideal S1x128x384 .bf16) (ix3 0 r y)
      = (m ((c : Thread nD τ).loc main_arg0) : FVec Ideal S2x8192x1152 .bf16) (ix3 b n ⟨768 + y.val, by omega⟩) := by
  rw [← V_main_arg0 m c]
  blk_ext [iblk, index_11 t]

theorem read_12 (t : Fin cfg0.N) (r : Fin 128) (y : Fin 384) (n : Fin 8192) (b : Fin 2) (hb : b.val = (grid0.coords t 0).val)
    (hn : n.val = ((grid0.coords t 1).val * 2 + 5 - 4) * 128 + r.val) :
    (iblk m c 12 t : Vec Ideal S1x128x384 .bf16) (ix3 0 r y)
      = (m ((c : Thread nD τ).loc main_arg0) : FVec Ideal S2x8192x1152 .bf16) (ix3 b n ⟨768 + y.val, by omega⟩) := by
  rw [← V_main_arg0 m c]
  blk_ext [iblk, index_12 t]

theorem read_13 (t : Fin cfg0.N) (h : Fin 6) (r : Fin 128) (j : Fin 640) :
    (iblk m c 13 t : Vec Ideal S6x128x640 .f32) (ix3 h r j) = biasAt (m ((c : Thread nD τ).loc main_arg1)) h r j := by
  rw [← bias_apply]
  blk_ext [iblk, index_13 t]

theorem read_14 (t : Fin cfg0.N) (y : Fin 384) :
    (iblk m c 14 t : Vec Ideal S1x384 .f32) (ix2 0 y) = (m ((c : Thread nD τ).loc main_arg2) : FVec Ideal S384 .f32) (ix1 y) := by
  rw [← gain_apply m c]
  blk_ext [iblk, index_14 t]

theorem read_k (t : Fin cfg0.N) (k : Fin 768) (y : Fin 384) (n : Fin 8192) (b : Fin 2) (hb : b.val = (grid0.coords t 0).val)
    (hn : n.val = ((grid0.coords t 1).val * 2 + k.val / 128 - 4) * 128 + k.val % 128) :
    kAll (iblk m c 1 t) (iblk m c 2 t) (iblk m c 3 t) (iblk m c 4 t) (iblk m c 5 t) (iblk m c 6 t) (ix2 k y)
      = (m ((c : Thread nD τ).loc main_arg0) : FVec Ideal S2x8192x1152 .bf16) (ix3 b n ⟨384 + y.val, by omega⟩) :=
  kAll_read _ _ _ _ _ _ k y _ n.val _ hn
    (fun r hi => read_1 m c t r y n b hb hi)
    (fun r hi => read_2 m c t r y n b hb hi)
    (fun r hi => read_3 m c t r y n b hb hi)
    (fun r hi => read_4 m c t r y n b hb hi)
    (fun r hi => read_5 m c t r y n b hb hi)
    (fun r hi => read_6 m c t r y n b hb hi)

theorem read_v (t : Fin cfg0.N) (k : Fin 768) (y : Fin 384) (n : Fin 8192) (b : Fin 2) (hb : b.val = (grid0.coords t 0).val)
    (hn : n.val = ((grid0.coords t 1).val * 2 + k.val / 128 - 4) * 128 + k.val % 128) :
    kAll (iblk m c 7 t) (iblk m c 8 t) (iblk m c 9 t) (iblk m c 10 t) (iblk m c 11 t) (iblk m c 12 t) (ix2 k y)
      = (m ((c : Thread nD τ).loc main_arg0) : FVec Ideal S2x8192x1152 .bf16) (ix3 b n ⟨768 + y.val, by omega⟩) :=
  kAll_read _ _ _ _ _ _ k y _ n.val _ hn
    (fun r hi => read_7 m c t r y n b hb hi)
    (fun r hi => read_8 m c t r y n b hb hi)
    (fun r hi => read_9 m c t r y n b hb hi)
    (fun r hi => read_10 m c t r y n b hb hi)
    (fun r hi => read_11 m c t r y n b hb hi)
    (fun r hi => read_12 m c t r y n b hb hi)

end Array

end Cert.Attn

end
-- ==== Proof.AttnArr.lean ====
/-
  The attention kernel's whole result array.
-/
module

public import proofs.«01_k».proof.Proof.AttnOut

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pipeline (Dat)

variable (m : (l : Loc nD τ sig) → Buf (Elt Ideal) l) (c : Dev nD)

/-- The score that one grid point computes is the score of the array's query and key. -/
theorem score_block (t : Fin cfg0.N) (R : Fin 256) (h : Fin 6) (j : Fin 640) (n : Fin 8192) (b : Fin 2) (hb : b.val = (grid0.coords t 0).val)
    (hn : n.val = 256 * (grid0.coords t 1).val + R.val) :
    rowScore (grid0.coords t) (iblk m c 13 t) (qAll (iblk m c 0 t)) (kAll (iblk m c 1 t) (iblk m c 2 t) (iblk m c 3 t) (iblk m c 4 t) (iblk m c 5 t) (iblk m c 6 t))
        ⟨R.val / 128, by omega⟩ h ⟨R.val % 128, by omega⟩ j
      = kScore (m ((c : Thread nD τ).loc main_arg0)) (m ((c : Thread nD τ).loc main_arg1)) b n h j := by
  have hc : (grid0.coords t 1).val < 32 := (grid0.coords t 1).isLt
  have er : (⟨R.val % 128, by omega⟩ : Fin 128) = ⟨n.val % 128, by omega⟩ := Fin.ext (by show R.val % 128 = n.val % 128; omega)
  have ew : BitVec.ofNat 32 (grid0.coords t 1).val * 2#32 + BitVec.ofNat 32 (R.val / 128) = BitVec.ofNat 32 (n.val / 128) := by
    have h1 := tileWord_nat ⟨(grid0.coords t 1).val, hc⟩ ⟨R.val / 128, by omega⟩
    have h2 : 2 * (grid0.coords t 1).val + R.val / 128 = n.val / 128 := by omega
    dsimp only at h1
    rw [h1, h2]
  unfold rowScore kScore tileWord
  rw [read_13, read_13]
  refine congrArg₂ (fun w z => Scalar.select w z (⊥ : EReal)) ?_ (congrArg₂ (· + ·) (Finset.sum_congr rfl fun e _ => ?_) ?_)
  · dsimp only
    rw [ew, er]
  · rw [qAll_apply, read_q m c t _ _ n b hb (by dsimp only; omega),
      read_k m c t _ _ (keyRow n j) b hb (by unfold keyRow; dsimp only; omega)]
  · rw [er]

/-- What one grid point writes back is the result array's block. -/
theorem block_eq (t : Fin cfg0.N) (R : Fin 256) (y : Fin 384) (n : Fin 8192) (b : Fin 2) (hb : b.val = (grid0.coords t 0).val)
    (hn : n.val = 256 * (grid0.coords t 1).val + R.val) :
    out0_15 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 R y)
      = kOut (m ((c : Thread nD τ).loc main_arg0)) (m ((c : Thread nD τ).loc main_arg1)) (m ((c : Thread nD τ).loc main_arg2)) b n y := by
  have hc : (grid0.coords t 1).val < 32 := (grid0.coords t 1).isLt
  rw [out_apply]
  unfold kOut
  rw [read_14]
  refine congrArg (fun z => rmsRow z _ y) (funext fun y' => congrArg₂ quotRow (funext fun j => ?_) (funext fun j => ?_))
  · exact score_block m c t R _ j n b hb hn
  · exact read_v m c t _ y' (keyRow n j) b hb (by unfold keyRow; dsimp only; omega)

/-- The result array after the kernel has run. -/
theorem arr_eq : (dats m 0 c).arrAt 15 cfg0.N
    = kArr (m ((c : Thread nD τ).loc main_arg0)) (m ((c : Thread nD τ).loc main_arg1)) (m ((c : Thread nD τ).loc main_arg2)) := by
  refine (dats m 0 c).arrAt_eq_of_covers 15 _ (by decide +kernel) fun t hf y => ?_
  blk_simp
  rw [after0_15]
  have ey : y = ix3 0 (y 1) (y 2) := by
    funext a
    match a with
    | ⟨0, _⟩ => exact Fin.ext (by have := (y 0).isLt; show (y 0).val = 0; change (y 0).val < 1 at this; omega)
    | ⟨1, _⟩ => rfl
    | ⟨2, _⟩ => rfl
  rw [ey]
  unfold kArr
  have e2 : ((win0_15.blk t).view.emb (ix3 0 (y 1) (y 2)) 2 : Fin 384) = y 2 := Fin.ext (by
    blk_simp [index_o t])
  refine (block_eq m c t (y 1) (y 2) ((win0_15.blk t).view.emb (ix3 0 (y 1) (y 2)) 1) ((win0_15.blk t).view.emb (ix3 0 (y 1) (y 2)) 0) ?_ ?_).trans ?_
  · blk_simp [index_o t]
    exact Nat.add_zero _
  · blk_simp [index_o t]
    pointwise
    omega
  · exact congrArg (kOut _ _ _ _ _) e2.symm

end Cert.Attn

end
-- ==== Proof.AttnRef.lean ====
/-
  The reference's result, entry by entry.
-/
module

public import proofs.«01_k».proof.Proof.AttnMath
public import proofs.«01_k».proof.Proof.Gen.ReferenceIdeal.Run
public import Idealize.ShloMosaic.Lib.Pointwise
public import Idealize.ShloMosaic.Lib.ValueIdx

@[expose] public section

set_option maxRecDepth 16384

noncomputable section

namespace Cert.AttnRef

open Cert.ReferenceIdeal Cert.ReferenceIdeal.Gen Idealize.ShloMosaic Idealize.ShloMosaic.TcCoe Idealize.SL.Sem Cert.Attn

/-- The chunk numbers, shifted by the eight padded chunks, that each chunk's window gathers. -/
def bandIdx : IVec S128x9x1 32 := broadcastInDim S128x9x1 ![0, 1] bcast_S128x9_S128x9x1_0_1 (select (cmpi .slt (addi (broadcastInDim S128x9 ![0, 1] bcast_S128x1_S128x9_0_1 (broadcastInDim S128x1 ![0] bcast_S128_S128x1_0 (iotaInDim S128 32 0))) (broadcastInDim S128x9 ![0, 1] bcast_S1x9_S128x9_0_1 (broadcastInDim S1x9 ![1] bcast_S9_S1x9_1 (iotaInDim S9 32 0)))) (broadcastInDim S128x9 ![] bcast_S_S128x9 (constantI S_ 32 0#32))) (addi (addi (broadcastInDim S128x9 ![0, 1] bcast_S128x1_S128x9_0_1 (broadcastInDim S128x1 ![0] bcast_S128_S128x1_0 (iotaInDim S128 32 0))) (broadcastInDim S128x9 ![0, 1] bcast_S1x9_S128x9_0_1 (broadcastInDim S1x9 ![1] bcast_S9_S1x9_1 (iotaInDim S9 32 0)))) (broadcastInDim S128x9 ![] bcast_S_S128x9 (constantI S_ 32 136#32))) (addi (broadcastInDim S128x9 ![0, 1] bcast_S128x1_S128x9_0_1 (broadcastInDim S128x1 ![0] bcast_S128_S128x1_0 (iotaInDim S128 32 0))) (broadcastInDim S128x9 ![0, 1] bcast_S1x9_S128x9_0_1 (broadcastInDim S1x9 ![1] bcast_S9_S1x9_1 (iotaInDim S9 32 0)))))
/-- The row of the bias table for each query place and key place of a window. -/
def relIdx : IVec S64x576x1 32 := broadcastInDim S64x576x1 ![0, 1] bcast_S64x576_S64x576x1_0_1 (select (cmpi .slt (addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (broadcastInDim S64x1 ![0] bcast_S64_S64x1_0 (addi (broadcastInDim S64 ![] bcast_S_S64 (constantI S_ 32 512#32)) (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32))) (broadcastInDim S64x576 ![] bcast_S_S64x576 (constantI S_ 32 0#32))) (addi (addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (broadcastInDim S64x1 ![0] bcast_S64_S64x1_0 (addi (broadcastInDim S64 ![] bcast_S_S64 (constantI S_ 32 512#32)) (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32))) (broadcastInDim S64x576 ![] bcast_S_S64x576 (constantI S_ 32 257#32))) (addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (broadcastInDim S64x1 ![0] bcast_S64_S64x1_0 (addi (broadcastInDim S64 ![] bcast_S_S64 (constantI S_ 32 512#32)) (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32))))
/-- The queries, in chunks. -/
def qArr (x : FVec Ideal S2x8192x1152 .bf16) : FVec Ideal S2x128x64x6x64 .f32 := shapeCast _ (extractStridedSlice S2x8192x384 ![0, 0, 0] (extf .f32 x bitsLt_bf16_f32) slices_S2x8192x1152_S2x8192x384_0_0_0) shapeCasts_S2x8192x384_S2x128x64x6x64
/-- The keys, in chunks. -/
def kArrR (x : FVec Ideal S2x8192x1152 .bf16) : FVec Ideal S2x128x64x6x64 .f32 := shapeCast _ (extractStridedSlice S2x8192x384 ![0, 0, 384] (extf .f32 x bitsLt_bf16_f32) slices_S2x8192x1152_S2x8192x384_0_0_384) shapeCasts_S2x8192x384_S2x128x64x6x64
/-- The values, in chunks. -/
def vArrR (x : FVec Ideal S2x8192x1152 .bf16) : FVec Ideal S2x128x64x6x64 .f32 := shapeCast _ (extractStridedSlice S2x8192x384 ![0, 0, 768] (extf .f32 x bitsLt_bf16_f32) slices_S2x8192x1152_S2x8192x384_0_0_768) shapeCasts_S2x8192x384_S2x128x64x6x64
/-- Each chunk's window: the nine chunks that end with it, zeros before the start. -/
def winArr (a : FVec Ideal S2x128x64x6x64 .f32) : FVec Ideal S2x128x576x6x64 .f32 := shapeCast _ (Host.gather gather_S2x136x64x6x64_S128x9x1_S2x128x9x64x6x64_0345_1_n_n_1_2_2164664 (pad S2x136x64x6x64 ![0, 8, 0, 0, 0] ![0, 0, 0, 0, 0] ![0, 0, 0, 0, 0] a (sitofp .f32 (constantI S_ 32 0#32)) pads_S2x128x64x6x64_S2x136x64x6x64_000_800_000_000_000 h_S_) bandIdx) shapeCasts_S2x128x9x64x6x64_S2x128x576x6x64
/-- The masked scores. -/
def scoreArr (x : FVec Ideal S2x8192x1152 .bf16) (rb : FVec Ideal S6x257 .f32) : FVec Ideal S2x128x6x64x576 .f32 := select (broadcastInDim S2x128x6x64x576 ![0, 1, 2, 3, 4] bcast_S1x128x1x1x576_S2x128x6x64x576_0_1_2_3_4 (broadcastInDim S1x128x1x1x576 ![1, 4] bcast_S128x576_S1x128x1x1x576_1_4 (cmpi .sge (addi (broadcastInDim S128x576 ![0, 1] bcast_S128x1_S128x576_0_1 (muli (subi (broadcastInDim S128x1 ![0] bcast_S128_S128x1_0 (iotaInDim S128 32 0)) (broadcastInDim S128x1 ![] bcast_S_S128x1 (constantI S_ 32 8#32))) (broadcastInDim S128x1 ![] bcast_S_S128x1 (constantI S_ 32 64#32)))) (broadcastInDim S128x576 ![0, 1] bcast_S1x576_S128x576_0_1 (broadcastInDim S1x576 ![1] bcast_S576_S1x576_1 (iotaInDim S576 32 0)))) (broadcastInDim S128x576 ![] bcast_S_S128x576 (constantI S_ 32 0#32))))) (addf (mulf (Host.dotGeneral dot_S2x128x64x6x64_S2x128x576x6x64_S2x128x6x64x576_4_4_2_2_013_013 none (qArr x) (winArr (kArrR x))) (broadcastInDim S2x128x6x64x576 ![] bcast_S_S2x128x6x64x576 (constant S_ .f32 0x3E000000#32))) (broadcastInDim S2x128x6x64x576 ![0, 1, 2, 3, 4] bcast_S1x1x6x64x576_S2x128x6x64x576_0_1_2_3_4 (broadcastInDim S1x1x6x64x576 ![2, 3, 4] bcast_S6x64x576_S1x1x6x64x576_2_3_4 (Host.gather gather_S6x257_S64x576x1_S6x64x576_0_1_n_n_1_2_61 rb relIdx)))) (broadcastInDim S2x128x6x64x576 ![] bcast_S_S2x128x6x64x576 (id (constant S_ .f32 0xFF800000#32)))
/-- The maximum of each row of scores. -/
def maxArr (s : FVec Ideal S2x128x6x64x576 .f32) : FVec Ideal S2x128x6x64 .f32 := maximumf (broadcastInDim S2x128x6x64 ![] bcast_S_S2x128x6x64 (constant S_ .f32 0xFF800000#32)) (Host.reduce FloatOps.maximumf s (constant S_ .f32 0xFF800000#32) reducesTo_S2x128x6x64x576_S2x128x6x64_d4 h_S_)
/-- The exponentials of the scores less their row's maximum. -/
def expArr (s : FVec Ideal S2x128x6x64x576 .f32) : FVec Ideal S2x128x6x64x576 .f32 := Host.exp (subf s (broadcastInDim S2x128x6x64x576 ![0, 1, 2, 3, 4] bcast_S2x128x6x64x1_S2x128x6x64x576_0_1_2_3_4 (broadcastInDim S2x128x6x64x1 ![0, 1, 2, 3] bcast_S2x128x6x64_S2x128x6x64x1_0_1_2_3 (maxArr s))))
/-- Each row divided by its sum. -/
def divArr (e : FVec Ideal S2x128x6x64x576 .f32) : FVec Ideal S2x128x6x64x576 .f32 := Host.divf e (broadcastInDim S2x128x6x64x576 ![0, 1, 2, 3, 4] bcast_S2x128x6x64x1_S2x128x6x64x576_0_1_2_3_4 (broadcastInDim S2x128x6x64x1 ![0, 1, 2, 3] bcast_S2x128x6x64_S2x128x6x64x1_0_1_2_3 (Host.reduceAdd e (constant S_ .f32 0x00000000#32) reducesTo_S2x128x6x64x576_S2x128x6x64_d4 h_S_)))
/-- The heads' results for given weights, side by side. -/
def catArr (v : FVec Ideal S2x128x576x6x64 .f32) (p : FVec Ideal S2x128x6x64x576 .f32) : FVec Ideal S2x8192x384 .f32 := shapeCast _ (transpose S2x128x64x6x64 [0, 1, 4, 2, 3] (Host.dotGeneral dot_S2x128x576x6x64_S2x128x6x64x576_S2x128x6x64x64_2_4_4_3_013_012 none v p) transposes_S2x128x6x64x64_S2x128x64x6x64_0_1_4_2_3) shapeCasts_S2x128x64x6x64_S2x8192x384
/-- The heads' results, side by side. -/
def headArr (x : FVec Ideal S2x8192x1152 .bf16) (rb : FVec Ideal S6x257 .f32) : FVec Ideal S2x8192x384 .f32 := catArr (winArr (vArrR x)) (divArr (expArr (scoreArr x rb)))
/-- The normalised, scaled and rounded result. -/
def rmsArr (o : FVec Ideal S2x8192x384 .f32) (gn : FVec Ideal S384 .f32) : FVec Ideal S2x8192x384 .bf16 := truncf .bf16 (mulf (mulf o (broadcastInDim S2x8192x384 ![0, 1, 2] bcast_S2x8192x1_S2x8192x384_0_1_2 (Host.rsqrt (addf (Host.divf (broadcastInDim S2x8192x1 ![0, 1] bcast_S2x8192_S2x8192x1_0_1 (Host.reduceAdd (mulf o o) (constant S_ .f32 0x00000000#32) reducesTo_S2x8192x384_S2x8192_d2 h_S_)) (broadcastInDim S2x8192x1 ![] bcast_S_S2x8192x1 (constant S_ .f32 0x43C00000#32))) (broadcastInDim S2x8192x1 ![] bcast_S_S2x8192x1 (constant S_ .f32 0x358637BD#32)))))) (broadcastInDim S2x8192x384 ![0, 1, 2] bcast_S1x1x384_S2x8192x384_0_1_2 (broadcastInDim S1x1x384 ![2] bcast_S384_S1x1x384_2 gn))) bitsLt_bf16_f32
/-- The reference's result array. -/
def refArr (x : FVec Ideal S2x8192x1152 .bf16) (rb : FVec Ideal S6x257 .f32) (gn : FVec Ideal S384 .f32) : FVec Ideal S2x8192x384 .bf16 := rmsArr (headArr x rb) gn

/-- The printed result term is the composition of these stages. -/
theorem res_eq (m : (l : Loc nD τ sig) → Buf (Elt Ideal) l) (c : Dev nD) :
    Cert.ReferenceIdeal.Value.res_main_v99 m c = refArr (m ((c.tc : Thread nD τ).loc main_arg0)) (m ((c.tc : Thread nD τ).loc main_arg1)) (m ((c.tc : Thread nD τ).loc main_arg2)) := rfl

end Cert.AttnRef

end
-- ==== Proof.AttnRefRow.lean ====
/-
  The reference's softmax, weighted sum and normalisation, row by row.
-/
module

public import proofs.«01_k».proof.Proof.AttnRef
public import proofs.«01_k».proof.Proof.AttnBlock
public import Idealize.ShloMosaic.Lib.Claim
public import Idealize.ShloMosaic.Lib.Pointwise
public import Idealize.ShloMosaic.Lib.ValueIdx

@[expose] public section

set_option maxRecDepth 16384

noncomputable section

namespace Cert.AttnRef

open Cert.ReferenceIdeal Cert.ReferenceIdeal.Gen Idealize.ShloMosaic Idealize.ShloMosaic.TcCoe Idealize.SL.Sem Cert.Attn

theorem rowFold_apply (s : FVec Ideal S2x128x6x64x576 .f32) (b : Fin 2) (ch : Fin 128) (h : Fin 6) (q : Fin 64) :
    Host.reduce FloatOps.maximumf s (constant S_ .f32 0xFF800000#32) reducesTo_S2x128x6x64x576_S2x128x6x64_d4 h_S_ (ix4 b ch h q) = Finset.univ.fold max (Ideal.ofBits .f32 4286578688#32) (fun kk => s (ix5 b ch h q kk)) := by
  pointwise

theorem floor_apply (i : S2x128x6x64.Idx) : (broadcastInDim S2x128x6x64 ![] bcast_S_S2x128x6x64 (constant S_ .f32 0xFF800000#32) : FVec Ideal S2x128x6x64 .f32) i = Ideal.ofBits .f32 0xFF800000#32 := by
  pointwise

theorem max_apply (B S : FVec Ideal S2x128x6x64 .f32) (i : S2x128x6x64.Idx) : maximumf B S i = max (B i) (S i) := rfl

/-- The row maximum, at a row. -/
theorem maxArr_apply (s : FVec Ideal S2x128x6x64x576 .f32) (b : Fin 2) (ch : Fin 128) (h : Fin 6) (q : Fin 64) :
    maxArr s (ix4 b ch h q) = top (fun kk => s (ix5 b ch h q kk)) := by
  unfold maxArr
  rw [max_apply, floor_apply, rowFold_apply, ofBits_neg_inf]
  exact max_eq_right bot_le

/-- The exponentials, at a place. -/
theorem expArr_apply (s : FVec Ideal S2x128x6x64x576 .f32) (b : Fin 2) (ch : Fin 128) (h : Fin 6) (q : Fin 64) (kk : Fin 576) :
    expArr s (ix5 b ch h q kk) = Ideal.exp (s (ix5 b ch h q kk) - top (fun kk => s (ix5 b ch h q kk))) := by
  have e := maxArr_apply s b ch h q
  unfold expArr
  generalize maxArr s = M at e ⊢
  pointwise
  rw [e]

/-- A row divided by its sum, at a place. -/
theorem divArr_apply (e : FVec Ideal S2x128x6x64x576 .f32) (b : Fin 2) (ch : Fin 128) (h : Fin 6) (q : Fin 64) (kk : Fin 576) :
    divArr e (ix5 b ch h q kk) = Ideal.div (e (ix5 b ch h q kk)) (∑ kk, e (ix5 b ch h q kk)) := by
  unfold divArr
  generalize hS : Host.reduceAdd e (constant S_ .f32 0x00000000#32) reducesTo_S2x128x6x64x576_S2x128x6x64_d4 h_S_ = S
  have hs : S (ix4 b ch h q) = ∑ kk, e (ix5 b ch h q kk) := by
    rw [← hS]
    pointwise
  pointwise
  rw [hs]

/-- The weighted sums, at a place. -/
theorem catArr_apply (v : FVec Ideal S2x128x576x6x64 .f32) (p : FVec Ideal S2x128x6x64x576 .f32) (b : Fin 2) (n : Fin 8192) (y : Fin 384) :
    catArr v p (ix3 b n y) = ∑ kk, v (ix5 b ⟨n.val / 64, by omega⟩ kk ⟨y.val / 64, by omega⟩ ⟨y.val % 64, by omega⟩) * p (ix5 b ⟨n.val / 64, by omega⟩ ⟨y.val / 64, by omega⟩ ⟨n.val % 64, by omega⟩ kk) := by
  unfold catArr
  pointwise

/-- A head's result at a query is the softmax row of its scores and values. -/
theorem headArr_apply (x : FVec Ideal S2x8192x1152 .bf16) (rb : FVec Ideal S6x257 .f32) (b : Fin 2) (n : Fin 8192) (y : Fin 384) :
    headArr x rb (ix3 b n y) = softRow (fun kk => scoreArr x rb (ix5 b ⟨n.val / 64, by omega⟩ ⟨y.val / 64, by omega⟩ ⟨n.val % 64, by omega⟩ kk))
      (fun kk => winArr (vArrR x) (ix5 b ⟨n.val / 64, by omega⟩ kk ⟨y.val / 64, by omega⟩ ⟨y.val % 64, by omega⟩)) := by
  unfold headArr softRow
  rw [catArr_apply]
  refine Finset.sum_congr rfl fun kk _ => ?_
  rw [divArr_apply]
  simp only [expArr_apply]

/-- The normalisation, at a place. -/
theorem rmsArr_apply (o : FVec Ideal S2x8192x384 .f32) (gn : FVec Ideal S384 .f32) (b : Fin 2) (n : Fin 8192) (y : Fin 384) :
    rmsArr o gn (ix3 b n y) = rmsRow (fun y' => o (ix3 b n y')) (gn (ix1 y)) y := by
  unfold rmsArr
  generalize hS : Host.reduceAdd (mulf o o) (constant S_ .f32 0x00000000#32) reducesTo_S2x8192x384_S2x8192_d2 h_S_ = S
  have hs : S (ix2 b n) = ∑ k, o (ix3 b n k) * o (ix3 b n k) := by
    rw [← hS]
    pointwise
  pointwise
  rw [hs]
  rfl

end Cert.AttnRef

end
-- ==== Proof.AttnRefIdx.lean ====
/-
  The reference's windows, bias rows and scores, at a place.
-/
module

public import proofs.«01_k».proof.Proof.AttnRef
public import proofs.«01_k».proof.Proof.AttnBlock
public import Idealize.ShloMosaic.Lib.Claim
public import Idealize.ShloMosaic.Lib.Pointwise
public import Idealize.ShloMosaic.Lib.ValueIdx

@[expose] public section

set_option maxRecDepth 16384

noncomputable section

namespace Cert.AttnRef

open Cert.ReferenceIdeal Cert.ReferenceIdeal.Gen Idealize.ShloMosaic Idealize.ShloMosaic.TcCoe Idealize.SL.Sem Cert.Attn

/-- The queries, at a place. -/
theorem qArr_apply (x : FVec Ideal S2x8192x1152 .bf16) (b : Fin 2) (ch : Fin 128) (q : Fin 64) (h : Fin 6) (d : Fin 64) :
    qArr x (ix5 b ch q h d) = x (ix3 b ⟨ch.val * 64 + q.val, by omega⟩ ⟨h.val * 64 + d.val, by omega⟩) := by
  unfold qArr
  pointwise

/-- The keys, at a place. -/
theorem kArrR_apply (x : FVec Ideal S2x8192x1152 .bf16) (b : Fin 2) (ch : Fin 128) (q : Fin 64) (h : Fin 6) (d : Fin 64) :
    kArrR x (ix5 b ch q h d) = x (ix3 b ⟨ch.val * 64 + q.val, by omega⟩ ⟨384 + (h.val * 64 + d.val), by omega⟩) := by
  unfold kArrR
  pointwise

/-- The values, at a place. -/
theorem vArrR_apply (x : FVec Ideal S2x8192x1152 .bf16) (b : Fin 2) (ch : Fin 128) (q : Fin 64) (h : Fin 6) (d : Fin 64) :
    vArrR x (ix5 b ch q h d) = x (ix3 b ⟨ch.val * 64 + q.val, by omega⟩ ⟨768 + (h.val * 64 + d.val), by omega⟩) := by
  unfold vArrR
  pointwise

theorem band_word : ∀ (ch : Fin 128) (a : Fin 9),
    Scalar.select (IntOp.cmpi .slt (IntOp.addi (BitVec.ofNat 32 ch.val) (BitVec.ofNat 32 a.val)) 0#32) (IntOp.addi (IntOp.addi (BitVec.ofNat 32 ch.val) (BitVec.ofNat 32 a.val)) 136#32) (IntOp.addi (BitVec.ofNat 32 ch.val) (BitVec.ofNat 32 a.val)) = BitVec.ofNat 32 (ch.val + a.val) := by
  decide +kernel

/-- The chunk gathered for chunk `ch` at place `a` of its window is `ch + a`, counted with the padding. -/
theorem bandIdx_apply (ch : Fin 128) (a : Fin 9) : bandIdx (ix3 ch a 0) = BitVec.ofNat 32 (ch.val + a.val) := by
  unfold bandIdx
  pointwise
  exact band_word ch a

theorem rel_word : ∀ D : Fin 640,
    Scalar.select (IntOp.cmpi .slt (IntOp.addi (IntOp.minsi (id (constantI S_ 32 128#32) ix0) (IntOp.maxsi (id (constantI S_ 32 4294967168#32) ix0) (BitVec.ofNat 32 D.val - 63#32))) 128#32) 0#32) (IntOp.addi (IntOp.addi (IntOp.minsi (id (constantI S_ 32 128#32) ix0) (IntOp.maxsi (id (constantI S_ 32 4294967168#32) ix0) (BitVec.ofNat 32 D.val - 63#32))) 128#32) 257#32) (IntOp.addi (IntOp.minsi (id (constantI S_ 32 128#32) ix0) (IntOp.maxsi (id (constantI S_ 32 4294967168#32) ix0) (BitVec.ofNat 32 D.val - 63#32))) 128#32) = BitVec.ofNat 32 (min (D.val + 65) 256) := by
  decide +kernel

theorem rel_diff (q kk : ℕ) (hq : q < 64) (hk : kk < 576) :
    IntOp.subi (IntOp.addi 512#32 (BitVec.ofNat 32 q)) (BitVec.ofNat 32 kk) = BitVec.ofNat 32 (q + 575 - kk) - 63#32 := by
  apply BitVec.eq_of_toNat_eq
  simp only [IntOp.subi, IntOp.addi, BitVec.toNat_sub, BitVec.toNat_add, BitVec.toNat_ofNat]
  omega

/-- The bias row of query place `q` and key place `kk`. -/
theorem relIdx_apply (q : Fin 64) (kk : Fin 576) : relIdx (ix3 q kk 0) = BitVec.ofNat 32 (min (640 + q.val - kk.val) 256) := by
  unfold relIdx
  pointwise
  simp only [rel_diff q.val kk.val q.isLt kk.isLt]
  have h := rel_word ⟨q.val + 575 - kk.val, by omega⟩
  dsimp only at h
  rw [show q.val + 575 - kk.val + 65 = 640 + q.val - kk.val by omega] at h
  exact h

theorem chunk_start : ∀ i : Fin 136, min (BitVec.ofNat 32 i.val).toInt.toNat (136 - 1) = i.val := by
  decide +kernel

theorem row_start : ∀ i : Fin 257, min (BitVec.ofNat 32 i.val).toInt.toNat (257 - 1) = i.val := by
  decide +kernel

/-- The chunk gather, at a place. -/
theorem chunkGather_apply (p : FVec Ideal S2x136x64x6x64 .f32) (b : Fin 2) (ch : Fin 128) (a : Fin 9) (r : Fin 64) (h : Fin 6) (d : Fin 64) :
    Host.gather gather_S2x136x64x6x64_S128x9x1_S2x128x9x64x6x64_0345_1_n_n_1_2_2164664 p bandIdx (ix6 b ch a r h d)
      = p (ix5 b ⟨ch.val + a.val, by omega⟩ r h d) := by
  unfold Host.gather
  congr 1
  funext x
  refine Fin.ext ?_
  show (gather_S2x136x64x6x64_S128x9x1_S2x128x9x64x6x64_0345_1_n_n_1_2_2164664).start (ix6 b ch a r h d) bandIdx x + (gather_S2x136x64x6x64_S128x9x1_S2x128x9x64x6x64_0345_1_n_n_1_2_2164664).batchCoord (ix6 b ch a r h d) x + (gather_S2x136x64x6x64_S128x9x1_S2x128x9x64x6x64_0345_1_n_n_1_2_2164664).offCoord (ix6 b ch a r h d) x = _
  rw [GatherDims.batchCoord_eq_zero _ _ _ (fun h => List.not_mem_nil h)]
  match x with
  | ⟨0, hx⟩ =>
    rw [GatherDims.offCoord, dif_pos (show (⟨0, hx⟩ : Fin _) ∈ GatherDims.sKept gather_S2x136x64x6x64_S128x9x1_S2x128x9x64x6x64_0345_1_n_n_1_2_2164664 from by revert hx; decide), GatherDims.start, dif_neg (show ¬((⟨0, hx⟩ : Fin _) ∈ GatherDims.startIndexMap gather_S2x136x64x6x64_S128x9x1_S2x128x9x64x6x64_0345_1_n_n_1_2_2164664) from by revert hx; decide), Nat.zero_add]
    rfl
  | ⟨2, hx⟩ =>
    rw [GatherDims.offCoord, dif_pos (show (⟨2, hx⟩ : Fin _) ∈ GatherDims.sKept gather_S2x136x64x6x64_S128x9x1_S2x128x9x64x6x64_0345_1_n_n_1_2_2164664 from by revert hx; decide), GatherDims.start, dif_neg (show ¬((⟨2, hx⟩ : Fin _) ∈ GatherDims.startIndexMap gather_S2x136x64x6x64_S128x9x1_S2x128x9x64x6x64_0345_1_n_n_1_2_2164664) from by revert hx; decide), Nat.zero_add]
    rfl
  | ⟨3, hx⟩ =>
    rw [GatherDims.offCoord, dif_pos (show (⟨3, hx⟩ : Fin _) ∈ GatherDims.sKept gather_S2x136x64x6x64_S128x9x1_S2x128x9x64x6x64_0345_1_n_n_1_2_2164664 from by revert hx; decide), GatherDims.start, dif_neg (show ¬((⟨3, hx⟩ : Fin _) ∈ GatherDims.startIndexMap gather_S2x136x64x6x64_S128x9x1_S2x128x9x64x6x64_0345_1_n_n_1_2_2164664) from by revert hx; decide), Nat.zero_add]
    rfl
  | ⟨4, hx⟩ =>
    rw [GatherDims.offCoord, dif_pos (show (⟨4, hx⟩ : Fin _) ∈ GatherDims.sKept gather_S2x136x64x6x64_S128x9x1_S2x128x9x64x6x64_0345_1_n_n_1_2_2164664 from by revert hx; decide), GatherDims.start, dif_neg (show ¬((⟨4, hx⟩ : Fin _) ∈ GatherDims.startIndexMap gather_S2x136x64x6x64_S128x9x1_S2x128x9x64x6x64_0345_1_n_n_1_2_2164664) from by revert hx; decide), Nat.zero_add]
    rfl
  | ⟨1, hx⟩ =>
    rw [GatherDims.offCoord_eq_zero _ _ _ (fun h => ((GatherDims.mem_sKept _ _).mp h).1 (List.mem_singleton.mpr rfl))]
    unfold GatherDims.start
    rw [dif_pos (show (⟨1, hx⟩ : Fin _) ∈ GatherDims.startIndexMap gather_S2x136x64x6x64_S128x9x1_S2x128x9x64x6x64_0345_1_n_n_1_2_2164664 from List.mem_singleton.mpr rfl)]
    have hsi : (gather_S2x136x64x6x64_S128x9x1_S2x128x9x64x6x64_0345_1_n_n_1_2_2164664).siIdx (ix6 b ch a r h d) ⟨List.idxOf (⟨1, hx⟩ : Fin _) (gather_S2x136x64x6x64_S128x9x1_S2x128x9x64x6x64_0345_1_n_n_1_2_2164664).startIndexMap, List.idxOf_lt_length_iff.2 (List.mem_singleton.mpr rfl)⟩ = ix3 ch a 0 := by
      funext b
      refine Fin.ext ?_
      match b with
      | ⟨0, _⟩ => rfl
      | ⟨1, _⟩ => rfl
      | ⟨2, _⟩ => rfl
    rw [hsi, bandIdx_apply]
    have hw := chunk_start ⟨ch.val + a.val, by omega⟩
    dsimp only at hw
    exact hw

/-- The bias gather, at a place. -/
theorem biasGather_apply (rb : FVec Ideal S6x257 .f32) (h : Fin 6) (q : Fin 64) (kk : Fin 576) :
    Host.gather gather_S6x257_S64x576x1_S6x64x576_0_1_n_n_1_2_61 rb relIdx (ix3 h q kk) = rb (ix2 h ⟨min (640 + q.val - kk.val) 256, by omega⟩) := by
  unfold Host.gather
  congr 1
  funext x
  refine Fin.ext ?_
  show (gather_S6x257_S64x576x1_S6x64x576_0_1_n_n_1_2_61).start (ix3 h q kk) relIdx x + (gather_S6x257_S64x576x1_S6x64x576_0_1_n_n_1_2_61).batchCoord (ix3 h q kk) x + (gather_S6x257_S64x576x1_S6x64x576_0_1_n_n_1_2_61).offCoord (ix3 h q kk) x = _
  rw [GatherDims.batchCoord_eq_zero _ _ _ (fun h => List.not_mem_nil h)]
  match x with
  | ⟨0, hx⟩ =>
    rw [GatherDims.offCoord, dif_pos (show (⟨0, hx⟩ : Fin _) ∈ GatherDims.sKept gather_S6x257_S64x576x1_S6x64x576_0_1_n_n_1_2_61 from by revert hx; decide), GatherDims.start, dif_neg (show ¬((⟨0, hx⟩ : Fin _) ∈ GatherDims.startIndexMap gather_S6x257_S64x576x1_S6x64x576_0_1_n_n_1_2_61) from by revert hx; decide), Nat.zero_add]
    rfl
  | ⟨1, hx⟩ =>
    rw [GatherDims.offCoord_eq_zero _ _ _ (fun h => ((GatherDims.mem_sKept _ _).mp h).1 (List.mem_singleton.mpr rfl))]
    unfold GatherDims.start
    rw [dif_pos (show (⟨1, hx⟩ : Fin _) ∈ GatherDims.startIndexMap gather_S6x257_S64x576x1_S6x64x576_0_1_n_n_1_2_61 from List.mem_singleton.mpr rfl)]
    have hsi : (gather_S6x257_S64x576x1_S6x64x576_0_1_n_n_1_2_61).siIdx (ix3 h q kk) ⟨List.idxOf (⟨1, hx⟩ : Fin _) (gather_S6x257_S64x576x1_S6x64x576_0_1_n_n_1_2_61).startIndexMap, List.idxOf_lt_length_iff.2 (List.mem_singleton.mpr rfl)⟩ = ix3 q kk 0 := by
      funext b
      refine Fin.ext ?_
      match b with
      | ⟨0, _⟩ => rfl
      | ⟨1, _⟩ => rfl
      | ⟨2, _⟩ => rfl
    rw [hsi, relIdx_apply]
    have hw := row_start ⟨min (640 + q.val - kk.val) 256, by omega⟩
    dsimp only at hw
    exact hw

/-- A window's entry is the padded chunk's: zero before the start. -/
theorem winArr_apply (a : FVec Ideal S2x128x64x6x64 .f32) (b : Fin 2) (ch : Fin 128) (kk : Fin 576) (h : Fin 6) (d : Fin 64)
    (hv : 8 ≤ ch.val + kk.val / 64) :
    winArr a (ix5 b ch kk h d) = a (ix5 b ⟨ch.val + kk.val / 64 - 8, by omega⟩ ⟨kk.val % 64, by omega⟩ h d) := by
  unfold winArr
  pointwise
  rw [chunkGather_apply]
  pointwise
  exact dif_pos ⟨⟨hv, by omega⟩, by omega⟩

/-- The masked scores, at a place. -/
theorem scoreArr_apply (x : FVec Ideal S2x8192x1152 .bf16) (rb : FVec Ideal S6x257 .f32) (b : Fin 2) (ch : Fin 128) (q : Fin 64) (h : Fin 6) (kk : Fin 576) :
    scoreArr x rb (ix5 b ch h q kk) = Scalar.select (IntOp.cmpi .sge (IntOp.addi (IntOp.muli (IntOp.subi (BitVec.ofNat 32 ch.val) 8#32) 64#32) (BitVec.ofNat 32 kk.val)) 0#32)
      ((∑ e, qArr x (ix5 b ch q h e) * winArr (kArrR x) (ix5 b ch kk h e)) * Ideal.ofBits .f32 0x3E000000#32 + rb (ix2 h ⟨min (640 + q.val - kk.val) 256, by omega⟩)) ⊥ := by
  unfold scoreArr
  pointwise
  rw [biasGather_apply, ← ofBits_neg_inf]
  rfl

end Cert.AttnRef

end
-- ==== Proof.AttnPre.lean ====
/-
  What the precondition says of the arguments: the queries, the keys and the relative bias are real numbers.
-/
module

public import proofs.«01_k».proof.Pre_finite_scores
public import proofs.«01_k».proof.Proof.AttnBlock
public import Idealize.ShloMosaic.Lib.Claim

@[expose] public section

set_option maxRecDepth 16384

noncomputable section

namespace Cert.AttnPre

open Cert.Pre_finite_scores Cert.Pre_finite_scores.Facts Idealize.ShloMosaic Cert.Attn

theorem ofBits_pos_inf : Ideal.ofBits .f32 0x7F800000#32 = (⊤ : EReal) := by
  simp [Ideal.ofBits, Ideal.ieee]

theorem and_one {c d : BitVec 1} (h : IntOp.andi c d = 1#1) : c = 1#1 ∧ d = 1#1 := by
  revert c d
  decide

/-- A conjunction over a set that is one is one at every member. -/
theorem fold_and {ι : Type} [DecidableEq ι] (t : Finset ι) (f : ι → BitVec 1) (h : t.fold IntOp.andi 1#1 f = 1#1) : ∀ i ∈ t, f i = 1#1 := by
  induction t using Finset.induction_on with
  | empty => intro i hi; exact absurd hi (Finset.notMem_empty i)
  | insert a u ha ih =>
    rw [Finset.fold_insert ha] at h
    obtain ⟨h1, h2⟩ := and_one h
    intro i hi
    rcases Finset.mem_insert.mp hi with rfl | hi
    · exact h1
    · exact ih h2 i hi

/-- Two bounds that both hold: the number is neither infinity. -/
theorem bounds (y : EReal) (h : IntOp.andi (Ideal.cmp .ogt y ⊥) (Ideal.cmp .olt y ⊤) = 1#1) : y ≠ ⊥ ∧ y ≠ ⊤ := by
  obtain ⟨h1, h2⟩ := and_one h
  constructor
  · rintro rfl
    simp [Ideal.cmp] at h1
  · rintro rfl
    simp [Ideal.cmp] at h2

variable [Cert.Pre_finite_scores.Facts]

/-- Under the precondition the queries, the keys and the bias table hold real numbers. -/
theorem finite (x : FVec Ideal S2x8192x1152 .bf16) (rb : FVec Ideal S6x257 .f32) (gn : FVec Ideal S384 .f32)
    (hp : fn x rb gn = fun _ => 1#1) :
    (∀ (b : Fin 2) (n : Fin 8192) (k : Fin 768), x (ix3 b n ⟨k.val, by omega⟩) ≠ (⊥ : EReal) ∧ x (ix3 b n ⟨k.val, by omega⟩) ≠ (⊤ : EReal))
      ∧ ∀ (h : Fin 6) (j : Fin 257), rb (ix2 h j) ≠ (⊥ : EReal) ∧ rb (ix2 h j) ≠ (⊤ : EReal) := by
  have h0 := congrFun hp (fun i => i.elim0)
  unfold fn at h0
  dsimp only at h0
  obtain ⟨h1, h2⟩ := and_one h0
  rw [Host.reduce_eq_fold] at h1 h2
  have h1' := fold_and _ _ h1
  have h2' := fold_and _ _ h2
  constructor
  · intro b n k
    have h := h1' (ix3 b n k) (Finset.mem_filter.mpr ⟨Finset.mem_univ _, funext fun i => i.elim0⟩)
    refine bounds _ (Eq.trans ?_ h)
    rw [← ofBits_neg_inf, ← ofBits_pos_inf]
    pointwise
  · intro b n
    have h := h2' (ix2 b n) (Finset.mem_filter.mpr ⟨Finset.mem_univ _, funext fun i => i.elim0⟩)
    refine bounds _ (Eq.trans ?_ h)
    rw [← ofBits_neg_inf, ← ofBits_pos_inf]
    pointwise

end Cert.AttnPre

end
-- ==== Proof.AttnEq.lean ====
/-
  The equation: at real queries, keys and bias, the kernel's result array is the reference's.
-/
module

public import proofs.«01_k».proof.Proof.AttnArr
public import proofs.«01_k».proof.Proof.AttnRefRow
public import proofs.«01_k».proof.Proof.AttnRefIdx
public import proofs.«01_k».proof.Proof.AttnPre

@[expose] public section

set_option maxRecDepth 16384

noncomputable section

namespace Cert.AttnEq

open Cert.KernelIdeal Idealize.ShloMosaic Cert.Attn Cert.AttnRef

/-- A real number, as an extended one. -/
def Real' (y : EReal) : Prop := ∃ r : ℝ, y = (r : EReal)

theorem real_of {y : EReal} (h : y ≠ ⊥ ∧ y ≠ ⊤) : Real' y := ⟨y.toReal, (EReal.coe_toReal h.2 h.1).symm⟩

theorem Real'.ne_bot {y : EReal} (h : Real' y) : y ≠ ⊥ := by
  obtain ⟨r, rfl⟩ := h
  exact EReal.coe_ne_bot r

theorem Real'.ne_top {y : EReal} (h : Real' y) : y ≠ ⊤ := by
  obtain ⟨r, rfl⟩ := h
  exact EReal.coe_ne_top r

theorem Real'.add {y z : EReal} (hy : Real' y) (hz : Real' z) : Real' (y + z) := by
  obtain ⟨r, rfl⟩ := hy
  obtain ⟨s, rfl⟩ := hz
  exact ⟨r + s, (EReal.coe_add r s).symm⟩

theorem Real'.mul {y z : EReal} (hy : Real' y) (hz : Real' z) : Real' (y * z) := by
  obtain ⟨r, rfl⟩ := hy
  obtain ⟨s, rfl⟩ := hz
  exact ⟨r * s, (EReal.coe_mul r s).symm⟩

theorem Real'.sum {ι : Type} (t : Finset ι) (f : ι → EReal) (h : ∀ i, Real' (f i)) : Real' (∑ i ∈ t, f i) := by
  classical
  induction t using Finset.induction_on with
  | empty => exact ⟨0, by simp⟩
  | insert a s ha ih =>
    rw [Finset.sum_insert ha]
    exact (h a).add ih

theorem eighth_bf16 : Ideal.ofBits .bf16 0x3E00#16 = ((1 / 8 : ℝ) : EReal) := by
  simp [Ideal.ofBits, Ideal.ieee]
  norm_num
  rw [← EReal.coe_mul]
  norm_num

theorem eighth_f32 : Ideal.ofBits .f32 0x3E000000#32 = ((1 / 8 : ℝ) : EReal) := by
  simp [Ideal.ofBits, Ideal.ieee]
  norm_num
  rw [← EReal.coe_mul]
  norm_num

/-- The sum of the scaled products is the scaled sum of the products. -/
theorem scale_sum (q k : Fin 64 → EReal) :
    (∑ e, q e * k e) * Ideal.ofBits .f32 0x3E000000#32 = ∑ e, (q e * Ideal.ofBits .bf16 0x3E00#16) * k e := by
  rw [eighth_f32, eighth_bf16, sum_mul_real _ _ _ (by norm_num)]
  exact Finset.sum_congr rfl fun e _ => mul_right_comm _ _ _

theorem valid_word : ∀ N : Fin 9216, IntOp.cmpi .sge (BitVec.ofNat 32 N.val - 512#32) 0#32 = if 512 ≤ N.val then 1#1 else 0#1 := by
  decide +kernel

/-- The kernel's test that a key's row is not before the start. -/
theorem valid_kernel (T j : ℕ) (hT : T < 64) (hj : j < 640) :
    IntOp.cmpi .sge ((BitVec.ofNat 32 T - 4#32) * 128#32 + BitVec.ofNat 32 j) 0#32 = if 512 ≤ T * 128 + j then 1#1 else 0#1 := by
  have e : (BitVec.ofNat 32 T - 4#32) * 128#32 + BitVec.ofNat 32 j = BitVec.ofNat 32 (T * 128 + j) - 512#32 := by
    apply BitVec.eq_of_toNat_eq
    simp only [BitVec.toNat_sub, BitVec.toNat_add, BitVec.toNat_mul, BitVec.toNat_ofNat]
    omega
  have h := valid_word ⟨T * 128 + j, by omega⟩
  dsimp only at h
  rw [e]
  exact h

/-- The reference's test that a key's row is not before the start. -/
theorem valid_ref (ch kk : ℕ) (hc : ch < 128) (hk : kk < 576) :
    IntOp.cmpi .sge (IntOp.addi (IntOp.muli (IntOp.subi (BitVec.ofNat 32 ch) 8#32) 64#32) (BitVec.ofNat 32 kk)) 0#32 = if 512 ≤ ch * 64 + kk then 1#1 else 0#1 := by
  have e : IntOp.addi (IntOp.muli (IntOp.subi (BitVec.ofNat 32 ch) 8#32) 64#32) (BitVec.ofNat 32 kk) = BitVec.ofNat 32 (ch * 64 + kk) - 512#32 := by
    apply BitVec.eq_of_toNat_eq
    simp only [IntOp.addi, IntOp.muli, IntOp.subi, BitVec.toNat_sub, BitVec.toNat_add, BitVec.toNat_mul, BitVec.toNat_ofNat]
    omega
  have h := valid_word ⟨ch * 64 + kk, by omega⟩
  dsimp only at h
  rw [e]
  exact h

theorem one_bot : Ideal.cmp .one (⊥ : EReal) ⊥ = 0#1 := by
  simp [Ideal.cmp]

theorem one_real {y : EReal} (h : y ≠ ⊥) : Ideal.cmp .one y ⊥ = 1#1 := by
  simp [Ideal.cmp, h]

theorem and_zero (c : BitVec 1) : IntOp.andi 0#1 c = 0#1 := by revert c; decide
theorem and_oneL (c : BitVec 1) : IntOp.andi 1#1 c = c := by revert c; decide

variable (x : FVec Ideal S2x8192x1152 .bf16) (rb : FVec Ideal S6x257 .f32)

/-- Outside the query's band the kernel's score is minus infinity. -/
theorem kScore_out (b : Fin 2) (n : Fin 8192) (h : Fin 6) (j : Fin 640)
    (ho : ¬(64 * (n.val / 64 % 2) ≤ j.val ∧ j.val < 64 * (n.val / 64 % 2) + 576)) : kScore x rb b n h j = ⊥ := by
  have e : biasAt rb 0 ⟨n.val % 128, by omega⟩ j = ⊥ := by
    unfold biasAt
    exact if_neg (by dsimp only; omega)
  unfold kScore
  rw [e, one_bot, and_zero, sel_zero]

/-- Inside the band, at a key not before the start, the kernel's score is the scaled product and the bias. -/
theorem kScore_in (hrb : ∀ (h : Fin 6) (j : Fin 257), rb (ix2 h j) ≠ (⊥ : EReal) ∧ rb (ix2 h j) ≠ (⊤ : EReal)) (b : Fin 2) (n : Fin 8192) (h : Fin 6) (j : Fin 640)
    (hi : 64 * (n.val / 64 % 2) ≤ j.val ∧ j.val < 64 * (n.val / 64 % 2) + 576) :
    kScore x rb b n h j = if 512 ≤ n.val / 128 * 128 + j.val then
      (∑ e : Fin 64, (x (ix3 b n ⟨64 * h.val + e.val, by omega⟩) * Ideal.ofBits .bf16 0x3E00#16) * x (ix3 b (keyRow n j) ⟨384 + (64 * h.val + e.val), by omega⟩))
        + rb (ix2 h ⟨min (640 + n.val % 128 - j.val) 256, by omega⟩) else ⊥ := by
  have e : ∀ h', biasAt rb h' ⟨n.val % 128, by omega⟩ j = rb (ix2 h' ⟨min (640 + n.val % 128 - j.val) 256, by omega⟩) := by
    intro h'
    unfold biasAt
    exact if_pos (by dsimp only; omega)
  unfold kScore
  rw [e, e, one_real (hrb _ _).1, and_oneL, valid_kernel (n.val / 128) j.val (by omega) j.isLt]
  by_cases hv : 512 ≤ n.val / 128 * 128 + j.val
  · rw [if_pos hv, if_pos hv, sel_one]
  · rw [if_neg hv, if_neg hv, sel_zero]

/-- The row of the key at place `kk` of a query's window. -/
theorem keyRow_eq (n : Fin 8192) (kk : Fin 576) (hv : 512 ≤ n.val / 64 * 64 + kk.val) :
    (⟨(n.val / 64 + kk.val / 64 - 8) * 64 + kk.val % 64, by omega⟩ : Fin 8192) = keyRow n ⟨kk.val + 64 * (n.val / 64 % 2), by omega⟩ := by
  unfold keyRow
  apply Fin.ext
  dsimp only
  omega

/-- The reference's score, at a place of a query's window, in the kernel's terms. -/
theorem scoreArr_in (b : Fin 2) (n : Fin 8192) (h : Fin 6) (kk : Fin 576) :
    scoreArr x rb (ix5 b ⟨n.val / 64, by omega⟩ h ⟨n.val % 64, by omega⟩ kk) = if 512 ≤ n.val / 64 * 64 + kk.val then
      (∑ e : Fin 64, (x (ix3 b n ⟨64 * h.val + e.val, by omega⟩) * Ideal.ofBits .bf16 0x3E00#16) * x (ix3 b (keyRow n ⟨kk.val + 64 * (n.val / 64 % 2), by omega⟩) ⟨384 + (64 * h.val + e.val), by omega⟩))
        + rb (ix2 h ⟨min (640 + n.val % 64 - kk.val) 256, by omega⟩) else ⊥ := by
  rw [scoreArr_apply, valid_ref (n.val / 64) kk.val (by omega) kk.isLt]
  by_cases hv : 512 ≤ n.val / 64 * 64 + kk.val
  · rw [if_pos hv, if_pos hv, sel_one, scale_sum]
    congr 1
    refine Finset.sum_congr rfl fun e _ => ?_
    rw [qArr_apply, winArr_apply _ _ _ _ _ _ (by dsimp only; omega), kArrR_apply, ← keyRow_eq n kk hv]
    congr 2
    · congr 1
      exact congrArg₂ (ix3 b) (Fin.ext (by dsimp only; omega)) (Fin.ext (by dsimp only; omega))
    · exact congrArg (ix3 b _) (Fin.ext (by dsimp only; omega))
  · rw [if_neg hv, if_neg hv, sel_zero]

/-- One head's result at one query: the kernel's quotient is the reference's softmax row. -/
theorem head_eq (hx : ∀ (b : Fin 2) (n : Fin 8192) (k : Fin 768), x (ix3 b n ⟨k.val, by omega⟩) ≠ (⊥ : EReal) ∧ x (ix3 b n ⟨k.val, by omega⟩) ≠ (⊤ : EReal))
    (hrb : ∀ (h : Fin 6) (j : Fin 257), rb (ix2 h j) ≠ (⊥ : EReal) ∧ rb (ix2 h j) ≠ (⊤ : EReal)) (b : Fin 2) (n : Fin 8192) (y : Fin 384) :
    quotRow (kScore x rb b n ⟨y.val / 64, by omega⟩) (fun j => x (ix3 b (keyRow n j) ⟨768 + y.val, by omega⟩)) = headArr x rb (ix3 b n y) := by
  have hreal : ∀ kk : Fin 576, 512 ≤ n.val / 64 * 64 + kk.val → Real' (scoreArr x rb (ix5 b ⟨n.val / 64, by omega⟩ ⟨y.val / 64, by omega⟩ ⟨n.val % 64, by omega⟩ kk)) := by
    intro kk hv
    rw [scoreArr_in, if_pos hv]
    refine Real'.add (Real'.sum _ _ fun e => Real'.mul (Real'.mul ?_ ?_) ?_) (real_of (hrb _ _))
    · exact real_of (hx b n ⟨64 * (y.val / 64) + e.val, by omega⟩)
    · exact ⟨_, eighth_bf16⟩
    · exact real_of (hx b _ ⟨384 + (64 * (y.val / 64) + e.val), by omega⟩)
  rw [headArr_apply]
  refine quotRow_band _ _ _ _ (64 * (n.val / 64 % 2)) (by omega) ?_ ?_ ?_ ?_ ⟨512, by omega⟩ ?_
  · intro kk
    rw [scoreArr_in, kScore_in x rb hrb b n _ _ (by dsimp only; omega)]
    have hc : (512 ≤ n.val / 128 * 128 + (kk.val + 64 * (n.val / 64 % 2))) ↔ 512 ≤ n.val / 64 * 64 + kk.val := by omega
    by_cases hv : 512 ≤ n.val / 64 * 64 + kk.val
    · rw [if_pos hv, if_pos (hc.mpr hv)]
      congr 1
      exact congrArg (fun r : Fin 257 => rb (ix2 _ r)) (Fin.ext (by dsimp only; omega))
    · rw [if_neg hv, if_neg (fun h' => hv (hc.mp h'))]
  · intro kk hk
    have hv : 512 ≤ n.val / 64 * 64 + kk.val := by
      by_contra hv
      exact hk (by rw [scoreArr_in, if_neg hv])
    rw [winArr_apply _ _ _ _ _ _ (by dsimp only; omega), vArrR_apply, ← keyRow_eq n kk hv]
    exact congrArg (fun c => x (ix3 b _ c)) (Fin.ext (by dsimp only; omega))
  · intro j hj
    exact kScore_out x rb b n _ j hj
  · intro kk
    by_cases hv : 512 ≤ n.val / 64 * 64 + kk.val
    · exact (hreal kk hv).ne_top
    · rw [scoreArr_in, if_neg hv]
      exact bot_ne_top
  · exact (hreal ⟨512, by omega⟩ (by dsimp only; omega)).ne_bot

/-- The kernel's result array is the reference's. -/
theorem arr_ref (gn : FVec Ideal S384 .f32) (hx : ∀ (b : Fin 2) (n : Fin 8192) (k : Fin 768), x (ix3 b n ⟨k.val, by omega⟩) ≠ (⊥ : EReal) ∧ x (ix3 b n ⟨k.val, by omega⟩) ≠ (⊤ : EReal))
    (hrb : ∀ (h : Fin 6) (j : Fin 257), rb (ix2 h j) ≠ (⊥ : EReal) ∧ rb (ix2 h j) ≠ (⊤ : EReal)) : kArr x rb gn = refArr x rb gn := by
  funext i
  obtain ⟨b, n, y, rfl⟩ : ∃ (b : Fin 2) (n : Fin 8192) (y : Fin 384), i = ix3 b n y := ⟨i 0, i 1, i 2, by
    funext a
    match a with
    | ⟨0, _⟩ => rfl
    | ⟨1, _⟩ => rfl
    | ⟨2, _⟩ => rfl⟩
  unfold refArr
  rw [rmsArr_apply]
  show kOut x rb gn b n y = _
  unfold kOut
  congr 1
  funext y'
  exact head_eq x rb hx hrb b n y'

end Cert.AttnEq

end
-- ==== Proof.AttnClaim.lean ====
/-
  The claims about the attention call.
-/
module

public import proofs.«01_k».proof.Defs
public import proofs.«01_k».proof.Proof.Gen.Kernel.Frame
public import proofs.«01_k».proof.Proof.Gen.KernelIdeal.Frame
public import proofs.«01_k».proof.Proof.Gen.Pre_finite_scores
public import proofs.«01_k».proof.Proof.AttnEq

@[expose] public section

noncomputable section

namespace Cert.AttnClaim

open Idealize.ShloMosaic Idealize.SL.Sem

/-- The reference runs, keeps its arguments and leaves every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems rfl r.2⟩) (Cert.ReferenceIdeal.Value.run (F := Ideal) m ρ)

/-- The kernel's result array is the reference's, from equal arguments with real queries, keys and bias. -/
theorem value : Cert.algebraic_KernelIdeal_ReferenceIdeal_pre_finite_scores (hKernelIdeal := Cert.KernelIdeal.Gen.facts) (hReferenceIdeal := Cert.ReferenceIdeal.Gen.facts) (hPre_finite_scores := Cert.Pre_finite_scores.Gen.facts) := by
  intro m ρ m' ρ' hp ha
  refine ⟨_, Cert.KernelIdeal.Value.run_blocks (F := Ideal) m ρ, ?_⟩
  refine (θ_run _ _ _).mono (fun r h c => ⟨(h c).1.trans ?_, (h c).2⟩) (Cert.ReferenceIdeal.Value.run (F := Ideal) m' ρ')
  obtain ⟨h0, h1, h2⟩ := ha c
  obtain ⟨hx, hrb⟩ := Cert.AttnPre.finite _ _ _ (hp c)
  rw [Cert.AttnRef.res_eq, h0, h1, h2, Cert.Attn.arr_eq]
  exact (Cert.AttnEq.arr_ref _ _ _ hx hrb).symm

end Cert.AttnClaim

end
-- ==== Proof.LayerMath.lean ====
/-
  The arithmetic that the layer's projections and feed-forward calls share: a row's normalisation, and the gated unit.
-/
module

public import Idealize.ShloMosaic.Lib.Pointwise

@[expose] public section

set_option maxRecDepth 16384

noncomputable section

namespace Cert.Layer

open Idealize.ShloMosaic

/-- One entry of a row of 1024 after the root-mean-square normalisation: the entry times the reciprocal root of the mean
    square plus the small constant, times the gain. -/
def rms (o : Fin 1024 → EReal) (g : EReal) (x : Fin 1024) : EReal :=
  o x * Ideal.rsqrt (Ideal.div (∑ k, o k * o k) (Ideal.ofBits .f32 0x44800000#32) + Ideal.ofBits .f32 0x358637BD#32) * g

/-- The gated unit: `a` times its logistic, times `b`. -/
def unit (a b : EReal) : EReal := a * Ideal.logistic a * b

/-- A sum over 2816 hidden units is the sum over the first 1408 plus the sum over the last 1408. -/
theorem sum_halves (f : Fin 2816 → EReal) :
    ∑ k, f k = ∑ k : Fin 1408, f ⟨k.val, by omega⟩ + ∑ k : Fin 1408, f ⟨1408 + k.val, by omega⟩ :=
  Fin.sum_univ_add (a := 1408) (b := 1408) f

/-- Three rows side by side: 384, 256 and 384 entries. -/
def beside (a : Fin 384 → EReal) (s : Fin 256 → EReal) (b : Fin 384 → EReal) (k : Fin 1024) : EReal :=
  if h : k.val < 384 then a ⟨k.val, h⟩
  else if h' : k.val - 384 < 256 then s ⟨k.val - 384, h'⟩
  else b ⟨k.val - 384 - 256, by omega⟩

end Cert.Layer

end
-- ==== Proof.FfnBlock.lean ====
/-
  What one grid point of the dense feed-forward call computes from its blocks, entry by entry.
-/
module

public import proofs.«01_k».proof.Proof.LayerMath
public import proofs.«01_k».proof.Proof.Gen.Kernel2Ideal.Value
public import Idealize.ShloMosaic.Lib.Pipeline.ValueKit

@[expose] public section

set_option maxRecDepth 16384

noncomputable section

namespace Cert.Ffn

open Cert.Kernel2Ideal Cert.Kernel2Ideal.Gen Idealize.ShloMosaic Cert.Layer

/-- One half of the hidden units of 512 tokens: the gated unit of the two products. -/
def hidden (h : FVec Ideal S512x1024 .bf16) (a b : Vec Ideal S1024x1408 .bf16) : FVec Ideal S512x1408 .bf16 :=
  have p : FVec Ideal S512x1408 .f32 := matmul dot_S512x1024_S1024x1408_S512x1408_1_0_0_1_n_n none h (shapeCast S1024x1408 a shapeCasts_S1024x1408_S1024x1408 : FVec Ideal S1024x1408 .bf16) (constant S512x1408 .f32 0x00000000#32)
  truncf .bf16 (mulf (mulf p (logistic p)) (matmul dot_S512x1024_S1024x1408_S512x1408_1_0_0_1_n_n none h (shapeCast S1024x1408 b shapeCasts_S1024x1408_S1024x1408 : FVec Ideal S1024x1408 .bf16) (constant S512x1408 .f32 0x00000000#32))) bitsLt_bf16_f32

theorem hidden_apply (h : FVec Ideal S512x1024 .bf16) (a b : Vec Ideal S1024x1408 .bf16) (r : Fin 512) (f : Fin 1408) :
    hidden h a b (ix2 r f) = unit (∑ k : Fin 1024, h (ix2 r k) * a (ix2 k f)) (∑ k : Fin 1024, h (ix2 r k) * b (ix2 k f)) := by
  pointwise [hidden, unit]

/-- The product of one half of the hidden units with its rows of the last weights. -/
def part (u : FVec Ideal S512x1408 .bf16) (d : Vec Ideal S1408x1024 .bf16) : FVec Ideal S512x1024 .f32 :=
  matmul dot_S512x1408_S1408x1024_S512x1024_1_0_0_1_n_n none u (shapeCast S1408x1024 d shapeCasts_S1408x1024_S1408x1024 : FVec Ideal S1408x1024 .bf16) (constant S512x1024 .f32 0x00000000#32)

theorem part_apply (u : FVec Ideal S512x1408 .bf16) (d : Vec Ideal S1408x1024 .bf16) (r : Fin 512) (y : Fin 1024) :
    part u d (ix2 r y) = ∑ f : Fin 1408, u (ix2 r f) * d (ix2 f y) := by
  pointwise [part]

/-- The sum of the two halves' products. -/
theorem both_apply (h : FVec Ideal S512x1024 .bf16) (a b a' b' : Vec Ideal S1024x1408 .bf16) (d d' : Vec Ideal S1408x1024 .bf16) (r : Fin 512) (y : Fin 1024) :
    k0_pay2 h a b d a' b' d' (ix2 r y) = ∑ f : Fin 1408, hidden h a b (ix2 r f) * d (ix2 f y) + ∑ f : Fin 1408, hidden h a' b' (ix2 r f) * d' (ix2 f y) := by
  refine Eq.trans (b := (addf (part (hidden h a b) d) (part (hidden h a' b') d') : FVec Ideal S512x1024 .f32) (ix2 r y)) rfl ?_
  rw [← part_apply, ← part_apply]
  rfl

/-- The residual plus the normalised rows. -/
def addNorm (x o : FVec Ideal S512x1024 .f32) (gn : Vec Ideal S1x1024 .f32) : FVec Ideal S512x1024 .f32 :=
  addf x (mulf (mulf o (broadcastTo S512x1024 (rsqrt (addf (divf (shapeCast S512x1 (multiReduction .add [1] S512 (mulf o o) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) (broadcastTo S512x1024 (shapeCast S1x1024 gn shapeCasts_S1x1024_S1x1024) broadcasts_S1x1024_S512x1024))

theorem addNorm_apply (x o : FVec Ideal S512x1024 .f32) (gn : Vec Ideal S1x1024 .f32) (r : Fin 512) (y : Fin 1024) :
    addNorm x o gn (ix2 r y) = x (ix2 r y) + rms (fun y' => o (ix2 r y')) (gn (ix2 0 y)) y := by
  pointwise [addNorm, rms]

variable (x0 : Vec Ideal S512x1024 .f32) (x1 : Vec Ideal S512x1024 .bf16) (x2 x3 : Vec Ideal S1024x2816 .bf16) (x4 : Vec Ideal S2816x1024 .bf16) (x5 : Vec Ideal S1x1024 .f32)

/-- One hidden unit of one token of the block. -/
def blockUnit (r : Fin 512) (f : Fin 2816) : EReal :=
  unit (∑ k : Fin 1024, x1 (ix2 r k) * x2 (ix2 k f)) (∑ k : Fin 1024, x1 (ix2 r k) * x3 (ix2 k f))

theorem hidden_low (r : Fin 512) (f : Fin 1408) :
    hidden (View.ld x1 r0_0) (View.ld x2 r0_1) (View.ld x3 r0_1) (ix2 r f) = blockUnit x1 x2 x3 r ⟨f.val, by omega⟩ := by
  rw [hidden_apply]
  unfold blockUnit
  congr 1 <;> refine Finset.sum_congr rfl fun k _ => ?_ <;> pointwise

theorem hidden_high (r : Fin 512) (f : Fin 1408) :
    hidden (View.ld x1 r0_0) (View.ld x2 r0_3) (View.ld x3 r0_3) (ix2 r f) = blockUnit x1 x2 x3 r ⟨1408 + f.val, by omega⟩ := by
  rw [hidden_apply]
  unfold blockUnit
  congr 1 <;> refine Finset.sum_congr rfl fun k _ => ?_ <;> pointwise

/-- The block's product before the normalisation is one sum over all hidden units. -/
theorem both_sum (r : Fin 512) (y : Fin 1024) :
    k0_pay2 (View.ld x1 r0_0) (View.ld x2 r0_1) (View.ld x3 r0_1) (View.ld x4 r0_2) (View.ld x2 r0_3) (View.ld x3 r0_3) (View.ld x4 r0_4) (ix2 r y)
      = ∑ f : Fin 2816, blockUnit x1 x2 x3 r f * x4 (ix2 f y) := by
  rw [both_apply, sum_halves]
  refine congrArg₂ (· + ·) (Finset.sum_congr rfl fun f _ => ?_) (Finset.sum_congr rfl fun f _ => ?_)
  · rw [hidden_low]
    refine congrArg₂ (fun a z : EReal => a * z) rfl ?_
    pointwise
  · rw [hidden_high]
    refine congrArg₂ (fun a z : EReal => a * z) rfl ?_
    pointwise

/-- What one grid point writes back, entry by entry. -/
theorem out_apply (r : Fin 512) (y : Fin 1024) :
    out0_6 (F := Ideal) x0 x1 x2 x3 x4 x5 (ix2 r y)
      = x0 (ix2 r y) + rms (fun y' => ∑ f : Fin 2816, blockUnit x1 x2 x3 r f * x4 (ix2 f y')) (x5 (ix2 0 y)) y := by
  unfold out0_6
  refine (congrFun (View.canon_cons_unit_lit _ _ [] (by decide)) _).trans ?_
  refine Eq.trans (b := addNorm (View.ld x0 r0_0) (k0_pay2 (View.ld x1 r0_0) (View.ld x2 r0_1) (View.ld x3 r0_1) (View.ld x4 r0_2) (View.ld x2 r0_3) (View.ld x3 r0_3) (View.ld x4 r0_4)) (View.ld x5 r0_5) (ix2 r y)) ?_ ?_
  · show k0_pay1 _ _ _ _ _ = _
    refine congrArg (addNorm (View.ld x0 r0_0) (k0_pay2 (View.ld x1 r0_0) (View.ld x2 r0_1) (View.ld x3 r0_1) (View.ld x4 r0_2) (View.ld x2 r0_3) (View.ld x3 r0_3) (View.ld x4 r0_4)) (View.ld x5 r0_5)) ?_
    pointwise
  · rw [addNorm_apply]
    simp only [both_sum]
    refine congrArg₂ (fun a z => a + rms _ z y) ?_ ?_ <;> pointwise

end Cert.Ffn

end
-- ==== Proof.FfnArr.lean ====
/-
  The dense feed-forward call's whole result array.
-/
module

public import proofs.«01_k».proof.Proof.FfnBlock
public import Idealize.ShloMosaic.Lib.Claim

@[expose] public section

set_option maxRecDepth 16384

noncomputable section

namespace Cert.Ffn

open Cert.Kernel2Ideal Cert.Kernel2Ideal.Gen Idealize.ShloMosaic Idealize.ShloMosaic.TcCoe Idealize.SL.Sem Cert.Layer
open Idealize.ShloMosaic.Pipeline (Dat)

variable (m : (l : Loc nD τ sig) → Buf (Elt Ideal) l) (c : Dev nD)

/-- The result array as one function of the arguments. -/
def kArr (x : FVec Ideal S16384x1024 .f32) (h : FVec Ideal S16384x1024 .bf16) (wg wu : FVec Ideal S1024x2816 .f32) (wd : FVec Ideal S2816x1024 .f32) (gn : FVec Ideal S1024 .f32) :
    FVec Ideal S16384x1024 .f32 := fun i =>
  x (ix2 (i 0) (i 1)) + rms (fun y' => ∑ f : Fin 2816, unit (∑ k : Fin 1024, h (ix2 (i 0) k) * wg (ix2 k f)) (∑ k : Fin 1024, h (ix2 (i 0) k) * wu (ix2 k f)) * wd (ix2 f y')) (gn (ix1 (i 1))) (i 1)

/-- The gate weights that the kernel reads are the argument's. -/
theorem gate_apply (k : Fin 1024) (f : Fin 2816) :
    (V m c main_v0 : FVec Ideal S1024x2816 .bf16) (ix2 k f) = (m ((c : Thread nD τ).loc main_arg2) : FVec Ideal S1024x2816 .f32) (ix2 k f) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

/-- The second weights that the kernel reads are the argument's. -/
theorem up_apply (k : Fin 1024) (f : Fin 2816) :
    (V m c main_v1 : FVec Ideal S1024x2816 .bf16) (ix2 k f) = (m ((c : Thread nD τ).loc main_arg3) : FVec Ideal S1024x2816 .f32) (ix2 k f) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

/-- The last weights that the kernel reads are the argument's. -/
theorem down_apply (f : Fin 2816) (y : Fin 1024) :
    (V m c main_v2 : FVec Ideal S2816x1024 .bf16) (ix2 f y) = (m ((c : Thread nD τ).loc main_arg4) : FVec Ideal S2816x1024 .f32) (ix2 f y) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

/-- The gain that the kernel reads is the argument's. -/
theorem gain_apply (y : Fin 1024) :
    (V m c main_v3 : FVec Ideal S1x1024 .f32) (ix2 0 y) = (m ((c : Thread nD τ).loc main_arg5) : FVec Ideal S1024 .f32) (ix1 y) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

theorem index_0 : ∀ t : Fin cfg0.N, win0_0.index t = ![(grid0.coords t 0).val, 0] :=
  (by decide +kernel : ∀ t : Fin grid0.N, win0_0.index t = ![(grid0.coords t 0).val, 0])
theorem index_1 : ∀ t : Fin cfg0.N, win0_1.index t = ![(grid0.coords t 0).val, 0] :=
  (by decide +kernel : ∀ t : Fin grid0.N, win0_1.index t = ![(grid0.coords t 0).val, 0])
theorem index_2 : ∀ t : Fin cfg0.N, win0_2.index t = ![0, 0] :=
  (by decide +kernel : ∀ t : Fin grid0.N, win0_2.index t = ![0, 0])
theorem index_3 : ∀ t : Fin cfg0.N, win0_3.index t = ![0, 0] :=
  (by decide +kernel : ∀ t : Fin grid0.N, win0_3.index t = ![0, 0])
theorem index_4 : ∀ t : Fin cfg0.N, win0_4.index t = ![0, 0] :=
  (by decide +kernel : ∀ t : Fin grid0.N, win0_4.index t = ![0, 0])
theorem index_5 : ∀ t : Fin cfg0.N, win0_5.index t = ![0, 0] :=
  (by decide +kernel : ∀ t : Fin grid0.N, win0_5.index t = ![0, 0])
theorem index_6 : ∀ t : Fin cfg0.N, win0_6.index t = ![(grid0.coords t 0).val, 0] :=
  (by decide +kernel : ∀ t : Fin grid0.N, win0_6.index t = ![(grid0.coords t 0).val, 0])

theorem read_x (t : Fin cfg0.N) (r : Fin 512) (y : Fin 1024) (n : Fin 16384) (hn : n.val = 512 * (grid0.coords t 0).val + r.val) :
    (iblk m c 0 t : Vec Ideal S512x1024 .f32) (ix2 r y) = (m ((c : Thread nD τ).loc main_arg0) : FVec Ideal S16384x1024 .f32) (ix2 n y) := by
  rw [← V_main_arg0 m c]
  blk_ext [iblk, index_0 t]

theorem read_h (t : Fin cfg0.N) (r : Fin 512) (y : Fin 1024) (n : Fin 16384) (hn : n.val = 512 * (grid0.coords t 0).val + r.val) :
    (iblk m c 1 t : Vec Ideal S512x1024 .bf16) (ix2 r y) = (m ((c : Thread nD τ).loc main_arg1) : FVec Ideal S16384x1024 .bf16) (ix2 n y) := by
  rw [← V_main_arg1 m c]
  blk_ext [iblk, index_1 t]

theorem read_gate (t : Fin cfg0.N) (k : Fin 1024) (f : Fin 2816) :
    (iblk m c 2 t : Vec Ideal S1024x2816 .bf16) (ix2 k f) = (m ((c : Thread nD τ).loc main_arg2) : FVec Ideal S1024x2816 .f32) (ix2 k f) := by
  rw [← gate_apply m c]
  blk_ext [iblk, index_2 t]

theorem read_up (t : Fin cfg0.N) (k : Fin 1024) (f : Fin 2816) :
    (iblk m c 3 t : Vec Ideal S1024x2816 .bf16) (ix2 k f) = (m ((c : Thread nD τ).loc main_arg3) : FVec Ideal S1024x2816 .f32) (ix2 k f) := by
  rw [← up_apply m c]
  blk_ext [iblk, index_3 t]

theorem read_down (t : Fin cfg0.N) (f : Fin 2816) (y : Fin 1024) :
    (iblk m c 4 t : Vec Ideal S2816x1024 .bf16) (ix2 f y) = (m ((c : Thread nD τ).loc main_arg4) : FVec Ideal S2816x1024 .f32) (ix2 f y) := by
  rw [← down_apply m c]
  blk_ext [iblk, index_4 t]

theorem read_gain (t : Fin cfg0.N) (y : Fin 1024) :
    (iblk m c 5 t : Vec Ideal S1x1024 .f32) (ix2 0 y) = (m ((c : Thread nD τ).loc main_arg5) : FVec Ideal S1024 .f32) (ix1 y) := by
  rw [← gain_apply m c]
  blk_ext [iblk, index_5 t]

/-- What one grid point writes back is the result array's block. -/
theorem block_eq (t : Fin cfg0.N) (r : Fin 512) (y : Fin 1024) (n : Fin 16384) (hn : n.val = 512 * (grid0.coords t 0).val + r.val) :
    out0_6 (F := Ideal) (iblk m c 0 t) (iblk m c 1 t) (iblk m c 2 t) (iblk m c 3 t) (iblk m c 4 t) (iblk m c 5 t) (ix2 r y)
      = kArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 n y) := by
  rw [out_apply]
  unfold kArr blockUnit
  rw [read_x m c t r y n hn, read_gain]
  refine congrArg (fun z => _ + rms z _ y) (funext fun y' => Finset.sum_congr rfl fun f _ => ?_)
  rw [read_down]
  refine congrArg (· * _) (congrArg₂ unit (Finset.sum_congr rfl fun k _ => ?_) (Finset.sum_congr rfl fun k _ => ?_))
  · rw [read_h m c t r k n hn, read_gate]
    rfl
  · rw [read_h m c t r k n hn, read_up]
    rfl

/-- The result array after the kernel has run. -/
theorem arr_eq : (dats m 0 c).arrAt 6 cfg0.N
    = kArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have ey : y = ix2 (y 0) (y 1) := by
    funext a
    match a with
    | ⟨0, _⟩ => rfl
    | ⟨1, _⟩ => rfl
  have e1 : ((win0_6.blk t).view.emb y 1 : Fin 1024) = y 1 := Fin.ext (by
    blk_simp [index_6 t])
  rw [ey] at e1 ⊢
  refine (block_eq m c t (y 0) (y 1) ((win0_6.blk t).view.emb (ix2 (y 0) (y 1)) 0) ?_).trans ?_
  · blk_simp [index_6 t]
    pointwise
    omega
  · refine congrArg _ ?_
    funext a
    match a with
    | ⟨0, _⟩ => rfl
    | ⟨1, _⟩ => exact e1.symm

end Cert.Ffn

end
-- ==== Proof.FfnRef.lean ====
/-
  The dense feed-forward reference's result, entry by entry.
-/
module

public import proofs.«01_k».proof.Proof.LayerMath
public import proofs.«01_k».proof.Proof.Gen.Reference2Ideal.Run
public import Idealize.ShloMosaic.Lib.ValueIdx

@[expose] public section

set_option maxRecDepth 16384

noncomputable section

namespace Cert.FfnRef

open Cert.Reference2Ideal Cert.Reference2Ideal.Gen Idealize.ShloMosaic Idealize.ShloMosaic.TcCoe Idealize.SL.Sem Cert.Layer

/-- The normalised rows, times the gain. -/
def normArr (o : FVec Ideal S16384x1024 .f32) (gn : FVec Ideal S1024 .f32) : FVec Ideal S16384x1024 .f32 :=
  mulf (mulf o (broadcastInDim S16384x1024 ![0, 1] bcast_S16384x1_S16384x1024_0_1 (Host.rsqrt (addf (Host.divf (broadcastInDim S16384x1 ![0] bcast_S16384_S16384x1_0 (Host.reduceAdd (mulf o o) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 gn))

theorem normArr_apply (o : FVec Ideal S16384x1024 .f32) (gn : FVec Ideal S1024 .f32) (n : Fin 16384) (y : Fin 1024) :
    normArr o gn (ix2 n y) = rms (fun y' => o (ix2 n y')) (gn (ix1 y)) y := by
  unfold normArr rms
  generalize hS : Host.reduceAdd (mulf o o) (constant S_ .f32 0x00000000#32) reducesTo_S16384x1024_S16384_d1 h_S_ = S
  have hs : S (ix1 n) = ∑ k : Fin 1024, o (ix2 n k) * o (ix2 n k) := by
    rw [← hS]
    pointwise
  pointwise
  rw [hs]

/-- The product of the tokens with one of the first two weights. -/
def dotArr (h : FVec Ideal S16384x1024 .bf16) (w : FVec Ideal S1024x2816 .f32) : FVec Ideal S16384x2816 .f32 :=
  Host.dotGeneral dot_S16384x1024_S1024x2816_S16384x2816_1_0_0_1_n_n none (extf .f32 h bitsLt_bf16_f32) w

theorem dotArr_apply (h : FVec Ideal S16384x1024 .bf16) (w : FVec Ideal S1024x2816 .f32) (n : Fin 16384) (f : Fin 2816) :
    dotArr h w (ix2 n f) = ∑ k : Fin 1024, h (ix2 n k) * w (ix2 k f) := by
  pointwise [dotArr]

/-- The hidden units. -/
def unitArr (a b : FVec Ideal S16384x2816 .f32) : FVec Ideal S16384x2816 .f32 :=
  mulf (mulf a (Host.divf (broadcastInDim S16384x2816 ![] bcast_S_S16384x2816 (constant S_ .f32 0x3F800000#32)) (addf (broadcastInDim S16384x2816 ![] bcast_S_S16384x2816 (constant S_ .f32 0x3F800000#32)) (Host.exp (Host.negf a))))) b

theorem ofBits_one : Ideal.ofBits .f32 0x3F800000#32 = (1 : EReal) := by
  simp [Ideal.ofBits, Ideal.ieee]
  rw [← EReal.coe_mul]
  norm_num

theorem unitArr_apply (a b : FVec Ideal S16384x2816 .f32) (n : Fin 16384) (f : Fin 2816) :
    unitArr a b (ix2 n f) = unit (a (ix2 n f)) (b (ix2 n f)) := by
  pointwise [unitArr, unit, Ideal.logistic, ofBits_one]

/-- The product of the hidden units with the last weights. -/
def downArr (u : FVec Ideal S16384x2816 .f32) (w : FVec Ideal S2816x1024 .f32) : FVec Ideal S16384x1024 .f32 :=
  Host.dotGeneral dot_S16384x2816_S2816x1024_S16384x1024_1_0_0_1_n_n none u w

theorem downArr_apply (u : FVec Ideal S16384x2816 .f32) (w : FVec Ideal S2816x1024 .f32) (n : Fin 16384) (y : Fin 1024) :
    downArr u w (ix2 n y) = ∑ f : Fin 2816, u (ix2 n f) * w (ix2 f y) := by
  pointwise [downArr]

/-- The reference's result array. -/
def refArr (x : FVec Ideal S16384x1024 .f32) (h : FVec Ideal S16384x1024 .bf16) (wg wu : FVec Ideal S1024x2816 .f32) (wd : FVec Ideal S2816x1024 .f32) (gn : FVec Ideal S1024 .f32) :
    FVec Ideal S16384x1024 .f32 :=
  addf x (normArr (downArr (unitArr (dotArr h wg) (dotArr h wu)) wd) gn)

theorem refArr_apply (x : FVec Ideal S16384x1024 .f32) (h : FVec Ideal S16384x1024 .bf16) (wg wu : FVec Ideal S1024x2816 .f32) (wd : FVec Ideal S2816x1024 .f32) (gn : FVec Ideal S1024 .f32)
    (n : Fin 16384) (y : Fin 1024) :
    refArr x h wg wu wd gn (ix2 n y)
      = x (ix2 n y) + rms (fun y' => ∑ f : Fin 2816, unit (∑ k : Fin 1024, h (ix2 n k) * wg (ix2 k f)) (∑ k : Fin 1024, h (ix2 n k) * wu (ix2 k f)) * wd (ix2 f y')) (gn (ix1 y)) y := by
  show x (ix2 n y) + normArr _ gn (ix2 n y) = _
  rw [normArr_apply]
  simp only [downArr_apply, unitArr_apply, dotArr_apply]

end Cert.FfnRef

end
-- ==== Proof.FfnClaim.lean ====
/-
  The claims about the dense feed-forward call.
-/
module

public import proofs.«01_k».proof.Defs
public import proofs.«01_k».proof.Proof.Gen.Kernel2.Frame
public import proofs.«01_k».proof.Proof.Gen.Kernel2Ideal.Frame
public import proofs.«01_k».proof.Proof.FfnArr
public import proofs.«01_k».proof.Proof.FfnRef

@[expose] public section

set_option maxRecDepth 16384

noncomputable section

namespace Cert.FfnClaim

open Idealize.ShloMosaic Idealize.SL.Sem

/-- The reference runs, keeps its arguments and leaves every counter at zero. -/
theorem reference_frame (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run _ _ _).mono (fun r h => ⟨fun c => (h c).2, sem_eq_zero_of_no_sems rfl r.2⟩) (Cert.Reference2Ideal.Value.run (F := Ideal) m ρ)

/-- The reference's array is the kernel's. -/
theorem arr_ref (x : FVec Ideal ⟨2, ![16384, 1024]⟩ .f32) (h : FVec Ideal ⟨2, ![16384, 1024]⟩ .bf16) (wg wu : FVec Ideal ⟨2, ![1024, 2816]⟩ .f32) (wd : FVec Ideal ⟨2, ![2816, 1024]⟩ .f32) (gn : FVec Ideal ⟨1, ![1024]⟩ .f32) :
    Cert.FfnRef.refArr x h wg wu wd gn = Cert.Ffn.kArr x h wg wu wd gn := by
  funext i
  obtain ⟨n, y, rfl⟩ : ∃ (n : Fin 16384) (y : Fin 1024), i = ix2 n y := ⟨i 0, i 1, by
    funext a
    match a with
    | ⟨0, _⟩ => rfl
    | ⟨1, _⟩ => rfl⟩
  exact Cert.FfnRef.refArr_apply x h wg wu wd gn n y

/-- The kernel's results are the reference's, from equal arguments. -/
theorem value : Cert.algebraic_Kernel2Ideal_Reference2Ideal (hKernel2Ideal := Cert.Kernel2Ideal.Gen.facts) (hReference2Ideal := Cert.Reference2Ideal.Gen.facts) := by
  intro m ρ m' ρ' _ ha
  refine ⟨_, Cert.Kernel2Ideal.Value.run_blocks (F := Ideal) m ρ, ?_⟩
  refine (θ_run _ _ _).mono (fun r h c => ⟨(h c).1.trans ?_, (h c).2⟩) (Cert.Reference2Ideal.Value.run (F := Ideal) m' ρ')
  obtain ⟨h0, h1, h2, h3, h4, h5⟩ := ha c
  rw [Cert.Ffn.arr_eq]
  show Cert.FfnRef.refArr _ _ _ _ _ _ = _
  rw [h0, h1, h2, h3, h4, h5]
  exact arr_ref _ _ _ _ _ _

end Cert.FfnClaim

end
-- ==== Proof.InProjBlock.lean ====
/-
  What one grid point of the first projection computes from its blocks, entry by entry.
-/
module

public import proofs.«01_k».proof.Proof.LayerMath
public import proofs.«01_k».proof.Proof.Gen.Kernel3Ideal.Value
public import Idealize.ShloMosaic.Lib.Pipeline.ValueKit

@[expose] public section

set_option maxRecDepth 16384

noncomputable section

namespace Cert.InProj

open Cert.Kernel3Ideal Cert.Kernel3Ideal.Gen Idealize.ShloMosaic Cert.Layer

/-- The normalised rows of 512 tokens. -/
theorem norm_apply (x : Vec Ideal S512x1024 .f32) (gn : Vec Ideal S1x1024 .f32) (r : Fin 512) (k : Fin 1024) :
    k0_pay1 x gn (ix2 r k) = rms (fun y => x (ix2 r y)) (gn (ix2 0 k)) k := by
  pointwise [k0_pay1, rms]

variable (x0 : Vec Ideal S512x1024 .f32) (x1 : Vec Ideal S1x1024 .f32) (x2 : Vec Ideal S1024x2816 .bf16)

/-- What one grid point writes back to window 3, entry by entry. -/
theorem out_apply3 (r : Fin 512) (f : Fin 1408) :
    out0_3 (F := Ideal) x0 x1 x2 (ix2 r f)
      = ∑ k : Fin 1024, rms (fun y => x0 (ix2 r y)) (x1 (ix2 0 k)) k * x2 (ix2 k ⟨0 + f.val, by omega⟩) := by
  unfold out0_3
  refine (congrFun (View.canon_cons_unit_lit _ _ [] (by decide)) _).trans ?_
  refine Eq.trans (b := ∑ k : Fin 1024, k0_pay1 (View.ld x0 r0_0) (View.ld x1 r0_1) (ix2 r k) * View.ld x2 r0_2 (ix2 k f)) ?_ ?_
  · unfold k0_pay2
    generalize k0_pay1 (View.ld x0 r0_0) (View.ld x1 r0_1) = N
    pointwise
  · refine Finset.sum_congr rfl fun k _ => ?_
    rw [norm_apply]
    refine congrArg₂ (fun a z : EReal => a * z) (congrArg₂ (fun z g => rms z g k) (funext fun y => ?_) ?_) ?_ <;> pointwise

/-- What one grid point writes back to window 4, entry by entry. -/
theorem out_apply4 (r : Fin 512) (f : Fin 256) :
    out0_4 (F := Ideal) x0 x1 x2 (ix2 r f)
      = ∑ k : Fin 1024, rms (fun y => x0 (ix2 r y)) (x1 (ix2 0 k)) k * x2 (ix2 k ⟨1408 + f.val, by omega⟩) := by
  unfold out0_4
  refine (congrFun (View.canon_cons_unit_lit _ _ [] (by decide)) _).trans ?_
  refine Eq.trans (b := ∑ k : Fin 1024, k0_pay1 (View.ld x0 r0_0) (View.ld x1 r0_1) (ix2 r k) * View.ld x2 r0_4 (ix2 k f)) ?_ ?_
  · unfold k0_pay3
    generalize k0_pay1 (View.ld x0 r0_0) (View.ld x1 r0_1) = N
    pointwise
  · refine Finset.sum_congr rfl fun k _ => ?_
    rw [norm_apply]
    refine congrArg₂ (fun a z : EReal => a * z) (congrArg₂ (fun z g => rms z g k) (funext fun y => ?_) ?_) ?_ <;> pointwise

/-- What one grid point writes back to window 5, entry by entry. -/
theorem out_apply5 (r : Fin 512) (f : Fin 1152) :
    out0_5 (F := Ideal) x0 x1 x2 (ix2 r f)
      = ∑ k : Fin 1024, rms (fun y => x0 (ix2 r y)) (x1 (ix2 0 k)) k * x2 (ix2 k ⟨1664 + f.val, by omega⟩) := by
  unfold out0_5
  refine (congrFun (View.canon_cons_unit_lit _ _ [] (by decide)) _).trans ?_
  refine Eq.trans (b := ∑ k : Fin 1024, k0_pay1 (View.ld x0 r0_0) (View.ld x1 r0_1) (ix2 r k) * View.ld x2 r0_6 (ix2 k f)) ?_ ?_
  · unfold k0_pay4
    generalize k0_pay1 (View.ld x0 r0_0) (View.ld x1 r0_1) = N
    pointwise
  · refine Finset.sum_congr rfl fun k _ => ?_
    rw [norm_apply]
    refine congrArg₂ (fun a z : EReal => a * z) (congrArg₂ (fun z g => rms z g k) (funext fun y => ?_) ?_) ?_ <;> pointwise

end Cert.InProj

end
-- ==== Proof.InProjArr.lean ====
/-
  The first projection's whole result arrays.
-/
module

public import proofs.«01_k».proof.Proof.InProjBlock
public import Idealize.ShloMosaic.Lib.Claim

@[expose] public section

set_option maxRecDepth 16384

noncomputable section

namespace Cert.InProj

open Cert.Kernel3Ideal Cert.Kernel3Ideal.Gen Idealize.ShloMosaic Idealize.ShloMosaic.TcCoe Idealize.SL.Sem Cert.Layer
open Idealize.ShloMosaic.Pipeline (Dat)

variable (m : (l : Loc nD τ sig) → Buf (Elt Ideal) l) (c : Dev nD)

/-- One entry of the result array of window 3: a normalised row times a column of the weights. -/
def entry3 (x : FVec Ideal S16384x1024 .f32) (gn : FVec Ideal S1024 .f32) (w : FVec Ideal S1024x2816 .f32) (n : Fin 16384) (f : Fin 1408) : EReal :=
  ∑ k : Fin 1024, rms (fun y => x (ix2 n y)) (gn (ix1 k)) k * w (ix2 k ⟨0 + f.val, by have := f.isLt; omega⟩)

/-- The result array of window 3 as one function of the arguments. -/
def kArr3 (x : FVec Ideal S16384x1024 .f32) (gn : FVec Ideal S1024 .f32) (w : FVec Ideal S1024x2816 .f32) : FVec Ideal S16384x1408 .f32 := fun i =>
  entry3 x gn w (i 0) (i 1)

/-- One entry of the result array of window 4: a normalised row times a column of the weights. -/
def entry4 (x : FVec Ideal S16384x1024 .f32) (gn : FVec Ideal S1024 .f32) (w : FVec Ideal S1024x2816 .f32) (n : Fin 16384) (f : Fin 256) : EReal :=
  ∑ k : Fin 1024, rms (fun y => x (ix2 n y)) (gn (ix1 k)) k * w (ix2 k ⟨1408 + f.val, by have := f.isLt; omega⟩)

/-- The result array of window 4 as one function of the arguments. -/
def kArr4 (x : FVec Ideal S16384x1024 .f32) (gn : FVec Ideal S1024 .f32) (w : FVec Ideal S1024x2816 .f32) : FVec Ideal S16384x256 .f32 := fun i =>
  entry4 x gn w (i 0) (i 1)

/-- One entry of the result array of window 5: a normalised row times a column of the weights. -/
def entry5 (x : FVec Ideal S16384x1024 .f32) (gn : FVec Ideal S1024 .f32) (w : FVec Ideal S1024x2816 .f32) (n : Fin 16384) (f : Fin 1152) : EReal :=
  ∑ k : Fin 1024, rms (fun y => x (ix2 n y)) (gn (ix1 k)) k * w (ix2 k ⟨1664 + f.val, by have := f.isLt; omega⟩)

/-- The result array of window 5 as one function of the arguments. -/
def kArr5 (x : FVec Ideal S16384x1024 .f32) (gn : FVec Ideal S1024 .f32) (w : FVec Ideal S1024x2816 .f32) : FVec Ideal S16384x1152 .bf16 := fun i =>
  entry5 x gn w (i 0) (i 1)

/-- The gain that the kernel reads is the argument's. -/
theorem gain_apply (y : Fin 1024) :
    (V m c main_v0 : FVec Ideal S1x1024 .f32) (ix2 0 y) = (m ((c : Thread nD τ).loc main_arg1) : FVec Ideal S1024 .f32) (ix1 y) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

/-- The weights that the kernel reads are the argument's. -/
theorem weight_apply (k : Fin 1024) (f : Fin 2816) :
    (V m c main_v1 : FVec Ideal S1024x2816 .bf16) (ix2 k f) = (m ((c : Thread nD τ).loc main_arg2) : FVec Ideal S1024x2816 .f32) (ix2 k f) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

theorem index_0 : ∀ t : Fin cfg0.N, win0_0.index t = ![(grid0.coords t 0).val, 0] :=
  (by decide +kernel : ∀ t : Fin grid0.N, win0_0.index t = ![(grid0.coords t 0).val, 0])
theorem index_1 : ∀ t : Fin cfg0.N, win0_1.index t = ![0, 0] :=
  (by decide +kernel : ∀ t : Fin grid0.N, win0_1.index t = ![0, 0])
theorem index_2 : ∀ t : Fin cfg0.N, win0_2.index t = ![0, 0] :=
  (by decide +kernel : ∀ t : Fin grid0.N, win0_2.index t = ![0, 0])
theorem index_3 : ∀ t : Fin cfg0.N, win0_3.index t = ![(grid0.coords t 0).val, 0] :=
  (by decide +kernel : ∀ t : Fin grid0.N, win0_3.index t = ![(grid0.coords t 0).val, 0])
theorem index_4 : ∀ t : Fin cfg0.N, win0_4.index t = ![(grid0.coords t 0).val, 0] :=
  (by decide +kernel : ∀ t : Fin grid0.N, win0_4.index t = ![(grid0.coords t 0).val, 0])
theorem index_5 : ∀ t : Fin cfg0.N, win0_5.index t = ![(grid0.coords t 0).val, 0] :=
  (by decide +kernel : ∀ t : Fin grid0.N, win0_5.index t = ![(grid0.coords t 0).val, 0])

theorem read_x (t : Fin cfg0.N) (r : Fin 512) (y : Fin 1024) (n : Fin 16384) (hn : n.val = 512 * (grid0.coords t 0).val + r.val) :
    (iblk m c 0 t : Vec Ideal S512x1024 .f32) (ix2 r y) = (m ((c : Thread nD τ).loc main_arg0) : FVec Ideal S16384x1024 .f32) (ix2 n y) := by
  rw [← V_main_arg0 m c]
  blk_ext [iblk, index_0 t]

theorem read_gain (t : Fin cfg0.N) (y : Fin 1024) :
    (iblk m c 1 t : Vec Ideal S1x1024 .f32) (ix2 0 y) = (m ((c : Thread nD τ).loc main_arg1) : FVec Ideal S1024 .f32) (ix1 y) := by
  rw [← gain_apply m c]
  blk_ext [iblk, index_1 t]

theorem read_weight (t : Fin cfg0.N) (k : Fin 1024) (f : Fin 2816) :
    (iblk m c 2 t : Vec Ideal S1024x2816 .bf16) (ix2 k f) = (m ((c : Thread nD τ).loc main_arg2) : FVec Ideal S1024x2816 .f32) (ix2 k f) := by
  rw [← weight_apply m c]
  blk_ext [iblk, index_2 t]

/-- What one grid point writes back to result 3 is that array's block. -/
theorem block_eq3 (t : Fin cfg0.N) (r : Fin 512) (y : Fin 1408) (n : Fin 16384) (hn : n.val = 512 * (grid0.coords t 0).val + r.val) :
    out0_3 (F := Ideal) (iblk m c 0 t) (iblk m c 1 t) (iblk m c 2 t) (ix2 r y)
      = entry3 (m ((c : Thread nD τ).loc main_arg0)) (m ((c : Thread nD τ).loc main_arg1)) (m ((c : Thread nD τ).loc main_arg2)) n y := by
  rw [out_apply3]
  unfold entry3
  refine Finset.sum_congr rfl fun k _ => ?_
  rw [read_gain, read_weight]
  refine congrArg (fun z => rms z _ k * _) (funext fun y => ?_)
  exact read_x m c t r y n hn

/-- Result 3 after the kernel has run. -/
theorem arr_eq3 : (dats m 0 c).arrAt 3 cfg0.N
    = kArr3 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have ey : y = ix2 (y 0) (y 1) := by
    funext a
    match a with
    | ⟨0, _⟩ => rfl
    | ⟨1, _⟩ => rfl
  have e1 : ((win0_3.blk t).view.emb y 1 : Fin 1408) = y 1 := Fin.ext (by
    blk_simp [index_3 t])
  rw [ey] at e1 ⊢
  refine (block_eq3 m c t (y 0) (y 1) ((win0_3.blk t).view.emb (ix2 (y 0) (y 1)) 0) ?_).trans ?_
  · blk_simp [index_3 t]
    pointwise
    omega
  · exact congrArg (entry3 (m ((c : Thread nD τ).loc main_arg0)) (m ((c : Thread nD τ).loc main_arg1)) (m ((c : Thread nD τ).loc main_arg2)) ((win0_3.blk t).view.emb (ix2 (y 0) (y 1)) 0)) e1.symm

/-- What one grid point writes back to result 4 is that array's block. -/
theorem block_eq4 (t : Fin cfg0.N) (r : Fin 512) (y : Fin 256) (n : Fin 16384) (hn : n.val = 512 * (grid0.coords t 0).val + r.val) :
    out0_4 (F := Ideal) (iblk m c 0 t) (iblk m c 1 t) (iblk m c 2 t) (ix2 r y)
      = entry4 (m ((c : Thread nD τ).loc main_arg0)) (m ((c : Thread nD τ).loc main_arg1)) (m ((c : Thread nD τ).loc main_arg2)) n y := by
  rw [out_apply4]
  unfold entry4
  refine Finset.sum_congr rfl fun k _ => ?_
  rw [read_gain, read_weight]
  refine congrArg (fun z => rms z _ k * _) (funext fun y => ?_)
  exact read_x m c t r y n hn

/-- Result 4 after the kernel has run. -/
theorem arr_eq4 : (dats m 0 c).arrAt 4 cfg0.N
    = kArr4 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have ey : y = ix2 (y 0) (y 1) := by
    funext a
    match a with
    | ⟨0, _⟩ => rfl
    | ⟨1, _⟩ => rfl
  have e1 : ((win0_4.blk t).view.emb y 1 : Fin 256) = y 1 := Fin.ext (by
    blk_simp [index_4 t])
  rw [ey] at e1 ⊢
  refine (block_eq4 m c t (y 0) (y 1) ((win0_4.blk t).view.emb (ix2 (y 0) (y 1)) 0) ?_).trans ?_
  · blk_simp [index_4 t]
    pointwise
    omega
  · exact congrArg (entry4 (m ((c : Thread nD τ).loc main_arg0)) (m ((c : Thread nD τ).loc main_arg1)) (m ((c : Thread nD τ).loc main_arg2)) ((win0_4.blk t).view.emb (ix2 (y 0) (y 1)) 0)) e1.symm

/-- What one grid point writes back to result 5 is that array's block. -/
theorem block_eq5 (t : Fin cfg0.N) (r : Fin 512) (y : Fin 1152) (n : Fin 16384) (hn : n.val = 512 * (grid0.coords t 0).val + r.val) :
    out0_5 (F := Ideal) (iblk m c 0 t) (iblk m c 1 t) (iblk m c 2 t) (ix2 r y)
      = entry5 (m ((c : Thread nD τ).loc main_arg0)) (m ((c : Thread nD τ).loc main_arg1)) (m ((c : Thread nD τ).loc main_arg2)) n y := by
  rw [out_apply5]
  unfold entry5
  refine Finset.sum_congr rfl fun k _ => ?_
  rw [read_gain, read_weight]
  refine congrArg (fun z => rms z _ k * _) (funext fun y => ?_)
  exact read_x m c t r y n hn

/-- Result 5 after the kernel has run. -/
theorem arr_eq5 : (dats m 0 c).arrAt 5 cfg0.N
    = kArr5 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  have ey : y = ix2 (y 0) (y 1) := by
    funext a
    match a with
    | ⟨0, _⟩ => rfl
    | ⟨1, _⟩ => rfl
  have e1 : ((win0_5.blk t).view.emb y 1 : Fin 1152) = y 1 := Fin.ext (by
    blk_simp [index_5 t])
  rw [ey] at e1 ⊢
  refine (block_eq5 m c t (y 0) (y 1) ((win0_5.blk t).view.emb (ix2 (y 0) (y 1)) 0) ?_).trans ?_
  · blk_simp [index_5 t]
    pointwise
    omega
  · exact congrArg (entry5 (m ((c : Thread nD τ).loc main_arg0)) (m ((c : Thread nD τ).loc main_arg1)) (m ((c : Thread nD τ).loc main_arg2)) ((win0_5.blk t).view.emb (ix2 (y 0) (y 1)) 0)) e1.symm

end Cert.InProj

end
-- ==== Proof.InProjRef.lean ====
/-
  The first projection's reference results, entry by entry.
-/
module

public import proofs.«01_k».proof.Proof.FfnRef
public import proofs.«01_k».proof.Proof.Gen.Reference3Ideal.Run

@[expose] public section

set_option maxRecDepth 16384

noncomputable section

namespace Cert.InProjRef

open Cert.Reference3Ideal Cert.Reference3Ideal.Gen Idealize.ShloMosaic Idealize.ShloMosaic.TcCoe Idealize.SL.Sem Cert.Layer

/-- The normalised rows times the weights: all columns. -/
def prodArr (x : FVec Ideal S16384x1024 .f32) (gn : FVec Ideal S1024 .f32) (w : FVec Ideal S1024x2816 .f32) : FVec Ideal S16384x2816 .f32 :=
  Host.dotGeneral dot_S16384x1024_S1024x2816_S16384x2816_1_0_0_1_n_n none (Cert.FfnRef.normArr x gn) w

theorem prodArr_apply (x : FVec Ideal S16384x1024 .f32) (gn : FVec Ideal S1024 .f32) (w : FVec Ideal S1024x2816 .f32) (n : Fin 16384) (f : Fin 2816) :
    prodArr x gn w (ix2 n f) = ∑ k : Fin 1024, rms (fun y => x (ix2 n y)) (gn (ix1 k)) k * w (ix2 k f) := by
  refine Eq.trans (b := ∑ k : Fin 1024, Cert.FfnRef.normArr x gn (ix2 n k) * w (ix2 k f)) ?_ ?_
  · unfold prodArr
    generalize Cert.FfnRef.normArr x gn = N
    pointwise
  · simp only [Cert.FfnRef.normArr_apply]

/-- The reference's result array of columns 0 to 1408. -/
def refArr3 (x : FVec Ideal S16384x1024 .f32) (gn : FVec Ideal S1024 .f32) (w : FVec Ideal S1024x2816 .f32) : FVec Ideal S16384x1408 .f32 :=
  extractStridedSlice S16384x1408 ![0, 0] (prodArr x gn w) slices_S16384x2816_S16384x1408_0_0

theorem refArr3_apply (x : FVec Ideal S16384x1024 .f32) (gn : FVec Ideal S1024 .f32) (w : FVec Ideal S1024x2816 .f32) (n : Fin 16384) (f : Fin 1408) :
    refArr3 x gn w (ix2 n f) = ∑ k : Fin 1024, rms (fun y => x (ix2 n y)) (gn (ix1 k)) k * w (ix2 k ⟨0 + f.val, by omega⟩) := by
  rw [← prodArr_apply]
  unfold refArr3
  generalize prodArr x gn w = N
  pointwise

/-- The reference's result array of columns 1408 to 1664. -/
def refArr4 (x : FVec Ideal S16384x1024 .f32) (gn : FVec Ideal S1024 .f32) (w : FVec Ideal S1024x2816 .f32) : FVec Ideal S16384x256 .f32 :=
  extractStridedSlice S16384x256 ![0, 1408] (prodArr x gn w) slices_S16384x2816_S16384x256_0_1408

theorem refArr4_apply (x : FVec Ideal S16384x1024 .f32) (gn : FVec Ideal S1024 .f32) (w : FVec Ideal S1024x2816 .f32) (n : Fin 16384) (f : Fin 256) :
    refArr4 x gn w (ix2 n f) = ∑ k : Fin 1024, rms (fun y => x (ix2 n y)) (gn (ix1 k)) k * w (ix2 k ⟨1408 + f.val, by omega⟩) := by
  rw [← prodArr_apply]
  unfold refArr4
  generalize prodArr x gn w = N
  pointwise

/-- The reference's result array of columns 1664 to 2816. -/
def refArr5 (x : FVec Ideal S16384x1024 .f32) (gn : FVec Ideal S1024 .f32) (w : FVec Ideal S1024x2816 .f32) : FVec Ideal S16384x1152 .bf16 :=
  truncf .bf16 (extractStridedSlice S16384x1152 ![0, 1664] (prodArr x gn w) slices_S16384x2816_S16384x1152_0_1664 : FVec Ideal S16384x1152 .f32) bitsLt_bf16_f32

theorem refArr5_apply (x : FVec Ideal S16384x1024 .f32) (gn : FVec Ideal S1024 .f32) (w : FVec Ideal S1024x2816 .f32) (n : Fin 16384) (f : Fin 1152) :
    refArr5 x gn w (ix2 n f) = ∑ k : Fin 1024, rms (fun y => x (ix2 n y)) (gn (ix1 k)) k * w (ix2 k ⟨1664 + f.val, by omega⟩) := by
  rw [← prodArr_apply]
  unfold refArr5
  generalize prodArr x gn w = N
  pointwise

end Cert.InProjRef

end
-- ==== Proof.InProjClaim.lean ====
/-
  The claims about the first projection.
-/
module

public import proofs.«01_k».proof.Defs
public import proofs.«01_k».proof.Proof.Gen.Kernel3.Frame
public import proofs.«01_k».proof.Proof.Gen.Kernel3Ideal.Frame
public import proofs.«01_k».proof.Proof.InProjArr
public import proofs.«01_k».proof.Proof.InProjRef

@[expose] public section

set_option maxRecDepth 16384

noncomputable section

namespace Cert.InProjClaim

open Idealize.ShloMosaic Idealize.SL.Sem

/-- The reference runs, keeps its arguments and leaves every counter at zero. -/
theorem reference_frame (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0) :=
  (θ_run _ _ _).mono (fun r h => ⟨fun c => (h c).2.2.2, sem_eq_zero_of_no_sems rfl r.2⟩) (Cert.Reference3Ideal.Value.run (F := Ideal) m ρ)

/-- The reference's array is the kernel's. -/
theorem arr_ref3 (x : FVec Ideal ⟨2, ![16384, 1024]⟩ .f32) (gn : FVec Ideal ⟨1, ![1024]⟩ .f32) (w : FVec Ideal ⟨2, ![1024, 2816]⟩ .f32) :
    Cert.InProjRef.refArr3 x gn w = Cert.InProj.kArr3 x gn w := by
  funext i
  obtain ⟨n, y, rfl⟩ : ∃ (n : Fin 16384) (y : Fin 1408), i = ix2 n y := ⟨i 0, i 1, by
    funext a
    match a with
    | ⟨0, _⟩ => rfl
    | ⟨1, _⟩ => rfl⟩
  exact Cert.InProjRef.refArr3_apply x gn w n y

/-- The reference's array is the kernel's. -/
theorem arr_ref4 (x : FVec Ideal ⟨2, ![16384, 1024]⟩ .f32) (gn : FVec Ideal ⟨1, ![1024]⟩ .f32) (w : FVec Ideal ⟨2, ![1024, 2816]⟩ .f32) :
    Cert.InProjRef.refArr4 x gn w = Cert.InProj.kArr4 x gn w := by
  funext i
  obtain ⟨n, y, rfl⟩ : ∃ (n : Fin 16384) (y : Fin 256), i = ix2 n y := ⟨i 0, i 1, by
    funext a
    match a with
    | ⟨0, _⟩ => rfl
    | ⟨1, _⟩ => rfl⟩
  exact Cert.InProjRef.refArr4_apply x gn w n y

/-- The reference's array is the kernel's. -/
theorem arr_ref5 (x : FVec Ideal ⟨2, ![16384, 1024]⟩ .f32) (gn : FVec Ideal ⟨1, ![1024]⟩ .f32) (w : FVec Ideal ⟨2, ![1024, 2816]⟩ .f32) :
    Cert.InProjRef.refArr5 x gn w = Cert.InProj.kArr5 x gn w := by
  funext i
  obtain ⟨n, y, rfl⟩ : ∃ (n : Fin 16384) (y : Fin 1152), i = ix2 n y := ⟨i 0, i 1, by
    funext a
    match a with
    | ⟨0, _⟩ => rfl
    | ⟨1, _⟩ => rfl⟩
  exact Cert.InProjRef.refArr5_apply x gn w n y

/-- The kernel's results are the reference's, from equal arguments. -/
theorem value : Cert.algebraic_Kernel3Ideal_Reference3Ideal (hKernel3Ideal := Cert.Kernel3Ideal.Gen.facts) (hReference3Ideal := Cert.Reference3Ideal.Gen.facts) := by
  intro m ρ m' ρ' _ ha
  refine ⟨_, _, _, Cert.Kernel3Ideal.Value.run_blocks (F := Ideal) m ρ, ?_⟩
  refine (θ_run _ _ _).mono (fun r h c => ⟨(h c).1.trans ?_, (h c).2.1.trans ?_, (h c).2.2.1.trans ?_, (h c).2.2.2⟩) (Cert.Reference3Ideal.Value.run (F := Ideal) m' ρ')
  · obtain ⟨h0, h1, h2⟩ := ha c
    rw [Cert.InProj.arr_eq3]
    show Cert.InProjRef.refArr3 _ _ _ = _
    rw [h0, h1, h2]
    exact arr_ref3 _ _ _
  · obtain ⟨h0, h1, h2⟩ := ha c
    rw [Cert.InProj.arr_eq4]
    show Cert.InProjRef.refArr4 _ _ _ = _
    rw [h0, h1, h2]
    exact arr_ref4 _ _ _
  · obtain ⟨h0, h1, h2⟩ := ha c
    rw [Cert.InProj.arr_eq5]
    show Cert.InProjRef.refArr5 _ _ _ = _
    rw [h0, h1, h2]
    exact arr_ref5 _ _ _

end Cert.InProjClaim

end
-- ==== Proof.OutProjBlock.lean ====
/-
  What one grid point of the second projection computes from its blocks, entry by entry.
-/
module

public import proofs.«01_k».proof.Proof.FfnBlock
public import proofs.«01_k».proof.Proof.Gen.Kernel4Ideal.Value
public import Idealize.ShloMosaic.Lib.Pipeline.ValueKit

@[expose] public section

set_option maxRecDepth 16384

noncomputable section

namespace Cert.OutProj

open Cert.Kernel4Ideal Cert.Kernel4Ideal.Gen Idealize.ShloMosaic Cert.Layer

/-- The product of the three mixers' rows, side by side, with the weights. -/
def prod (a : Vec Ideal S512x384 .bf16) (s : Vec Ideal S512x256 .bf16) (b : Vec Ideal S512x384 .bf16) (w : Vec Ideal S1024x1024 .bf16) : FVec Ideal S512x1024 .f32 :=
  have cat : FVec Ideal S512x1024 .bf16 := concatenate S512x1024 1 [⟨S512x384, a⟩, ⟨S512x256, s⟩, ⟨S512x384, b⟩] concatenates_S512x384_S512x256_S512x384_S512x1024_d1
  matmul dot_S512x1024_S1024x1024_S512x1024_1_0_0_1_n_n none cat (shapeCast S1024x1024 w shapeCasts_S1024x1024_S1024x1024 : FVec Ideal S1024x1024 .bf16) (constant S512x1024 .f32 0x00000000#32)

theorem cat_apply (a : Vec Ideal S512x384 .bf16) (s : Vec Ideal S512x256 .bf16) (b : Vec Ideal S512x384 .bf16) (r : Fin 512) (k : Fin 1024) :
    (concatenate S512x1024 1 [⟨S512x384, a⟩, ⟨S512x256, s⟩, ⟨S512x384, b⟩] concatenates_S512x384_S512x256_S512x384_S512x1024_d1 : Vec Ideal S512x1024 .bf16) (ix2 r k)
      = beside (fun i => a (ix2 r i)) (fun i => s (ix2 r i)) (fun i => b (ix2 r i)) k := by
  unfold beside
  pointwise

theorem prod_apply (a : Vec Ideal S512x384 .bf16) (s : Vec Ideal S512x256 .bf16) (b : Vec Ideal S512x384 .bf16) (w : Vec Ideal S1024x1024 .bf16) (r : Fin 512) (y : Fin 1024) :
    prod a s b w (ix2 r y) = ∑ k : Fin 1024, beside (fun i => a (ix2 r i)) (fun i => s (ix2 r i)) (fun i => b (ix2 r i)) k * w (ix2 k y) := by
  simp only [← cat_apply]
  unfold prod
  generalize (concatenate S512x1024 1 [⟨S512x384, a⟩, ⟨S512x256, s⟩, ⟨S512x384, b⟩] concatenates_S512x384_S512x256_S512x384_S512x1024_d1 : Vec Ideal S512x1024 .bf16) = N
  pointwise

/-- The rows after the second normalisation. -/
def normTo (o : FVec Ideal S512x1024 .f32) (gn : Vec Ideal S1x1024 .f32) : FVec Ideal S512x1024 .f32 :=
  mulf (mulf o (broadcastTo S512x1024 (rsqrt (addf (divf (shapeCast S512x1 (multiReduction .add [1] S512 (mulf o o) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) (broadcastTo S512x1024 (shapeCast S1x1024 gn shapeCasts_S1x1024_S1x1024) broadcasts_S1x1024_S512x1024)

theorem normTo_apply (o : FVec Ideal S512x1024 .f32) (gn : Vec Ideal S1x1024 .f32) (r : Fin 512) (y : Fin 1024) :
    normTo o gn (ix2 r y) = rms (fun y' => o (ix2 r y')) (gn (ix2 0 y)) y := by
  pointwise [normTo, rms]

variable (x0 : Vec Ideal S512x1024 .f32) (x1 : Vec Ideal S512x384 .bf16) (x2 : Vec Ideal S512x256 .bf16) (x3 : Vec Ideal S512x384 .bf16) (x4 : Vec Ideal S1024x1024 .bf16) (x5 x6 : Vec Ideal S1x1024 .f32)

/-- The block's residual rows. -/
def sumRow (r : Fin 512) (y : Fin 1024) : EReal :=
  x0 (ix2 r y) + rms (fun y' => ∑ k : Fin 1024, beside (fun i => x1 (ix2 r i)) (fun i => x2 (ix2 r i)) (fun i => x3 (ix2 r i)) k * x4 (ix2 k y')) (x5 (ix2 0 y)) y

theorem sum_apply (r : Fin 512) (y : Fin 1024) :
    k0_pay2 x1 x2 x3 x4 x0 x5 (ix2 r y) = sumRow x0 x1 x2 x3 x4 x5 r y := by
  refine Eq.trans (b := Cert.Ffn.addNorm x0 (prod x1 x2 x3 x4) x5 (ix2 r y)) rfl ?_
  rw [Cert.Ffn.addNorm_apply]
  simp only [prod_apply]
  rfl

/-- What a whole-block read returns is the block. -/
theorem ld_whole : View.ld x0 r0_3 = x0 ∧ View.ld x1 r0_0 = x1 ∧ View.ld x2 r0_1 = x2 ∧ View.ld x4 r0_2 = x4 ∧ View.ld x5 r0_4 = x5 := by
  refine ⟨?_, ?_, ?_, ?_, ?_⟩ <;> funext i
  · obtain ⟨r, y, rfl⟩ : ∃ (r : Fin 512) (y : Fin 1024), i = ix2 r y := ⟨i 0, i 1, by
      funext a
      match a with
      | ⟨0, _⟩ => rfl
      | ⟨1, _⟩ => rfl⟩
    pointwise
  · obtain ⟨r, y, rfl⟩ : ∃ (r : Fin 512) (y : Fin 384), i = ix2 r y := ⟨i 0, i 1, by
      funext a
      match a with
      | ⟨0, _⟩ => rfl
      | ⟨1, _⟩ => rfl⟩
    pointwise
  · obtain ⟨r, y, rfl⟩ : ∃ (r : Fin 512) (y : Fin 256), i = ix2 r y := ⟨i 0, i 1, by
      funext a
      match a with
      | ⟨0, _⟩ => rfl
      | ⟨1, _⟩ => rfl⟩
    pointwise
  · obtain ⟨r, y, rfl⟩ : ∃ (r : Fin 1024) (y : Fin 1024), i = ix2 r y := ⟨i 0, i 1, by
      funext a
      match a with
      | ⟨0, _⟩ => rfl
      | ⟨1, _⟩ => rfl⟩
    pointwise
  · obtain ⟨r, y, rfl⟩ : ∃ (r : Fin 1) (y : Fin 1024), i = ix2 r y := ⟨i 0, i 1, by
      funext a
      match a with
      | ⟨0, _⟩ => rfl
      | ⟨1, _⟩ => rfl⟩
    obtain rfl : r = 0 := Subsingleton.elim _ _
    pointwise

/-- What one grid point writes back to the residual, entry by entry. -/
theorem out_apply7 (r : Fin 512) (y : Fin 1024) :
    out0_7 (F := Ideal) x0 x1 x2 x3 x4 x5 x6 (ix2 r y) = sumRow x0 x1 x2 x3 x4 x5 r y := by
  obtain ⟨e0, e1, e2, e4, e5⟩ := ld_whole x0 x1 x2 x4 x5
  obtain ⟨-, e3, -⟩ := ld_whole x0 x3 x2 x4 x5
  unfold out0_7
  rw [e0, e1, e2, e3, e4, e5]
  refine (congrFun (View.canon_cons_unit_lit _ _ [] (by decide)) _).trans ?_
  rw [← sum_apply]

/-- What one grid point writes back to the normalised rows, entry by entry. -/
theorem out_apply8 (r : Fin 512) (y : Fin 1024) :
    out0_8 (F := Ideal) x0 x1 x2 x3 x4 x5 x6 (ix2 r y) = rms (sumRow x0 x1 x2 x3 x4 x5 r) (x6 (ix2 0 y)) y := by
  obtain ⟨e0, e1, e2, e4, e5⟩ := ld_whole x0 x1 x2 x4 x5
  obtain ⟨-, e3, -, -, e6⟩ := ld_whole x0 x3 x2 x4 x6
  unfold out0_8
  rw [e0, e1, e2, e3, e4, e5, e6]
  refine (congrFun (View.canon_cons_unit_lit _ _ [] (by decide)) _).trans ?_
  refine Eq.trans (b := normTo (k0_pay2 x1 x2 x3 x4 x0 x5) x6 (ix2 r y)) ?_ ?_
  · show k0_pay3 (F := Ideal) _ _ _ _ _ _ _ _ = _
    refine congrArg (normTo (k0_pay2 x1 x2 x3 x4 x0 x5) x6) ?_
    pointwise
  · rw [normTo_apply]
    simp only [sum_apply]

end Cert.OutProj

end
-- ==== Proof.OutProjArr.lean ====
/-
  The second projection's whole result arrays.
-/
module

public import proofs.«01_k».proof.Proof.OutProjBlock
public import Idealize.ShloMosaic.Lib.Claim

@[expose] public section

set_option maxRecDepth 16384

noncomputable section

namespace Cert.OutProj

open Cert.Kernel4Ideal Cert.Kernel4Ideal.Gen Idealize.ShloMosaic Idealize.ShloMosaic.TcCoe Idealize.SL.Sem Cert.Layer
open Idealize.ShloMosaic.Pipeline (Dat)

variable (m : (l : Loc nD τ sig) → Buf (Elt Ideal) l) (c : Dev nD)

/-- One entry of the residual rows. -/
def sumAt (x : FVec Ideal S16384x1024 .f32) (a : FVec Ideal S16384x384 .bf16) (s : FVec Ideal S16384x256 .bf16) (b : FVec Ideal S16384x384 .bf16) (w : FVec Ideal S1024x1024 .f32) (gp : FVec Ideal S1024 .f32) (n : Fin 16384) (y : Fin 1024) : EReal :=
  x (ix2 n y) + rms (fun y' => ∑ k : Fin 1024, beside (fun i => a (ix2 n i)) (fun i => s (ix2 n i)) (fun i => b (ix2 n i)) k * w (ix2 k y')) (gp (ix1 y)) y

/-- One entry of the residual. -/
def entry7 (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) (n : Fin 16384) (y : Fin 1024) : EReal :=
  sumAt x a s b w gp n y

/-- One entry of the normalised rows. -/
def entry8 (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) (n : Fin 16384) (y : Fin 1024) : EReal :=
  rms (sumAt x a s b w gp n) (gq (ix1 y)) y

/-- The residual's array as one function of the arguments. -/
def kArr7 (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) : FVec Ideal S16384x1024 .f32 := fun i =>
  entry7 x a s b w gp gq (i 0) (i 1)

/-- The normalised rows' array as one function of the arguments. -/
def kArr8 (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) : FVec Ideal S16384x1024 .bf16 := fun i =>
  entry8 x a s b w gp gq (i 0) (i 1)

/-- The weights that the kernel reads are the argument's. -/
theorem weight_apply (k : Fin 1024) (f : Fin 1024) :
    (V m c main_v0 : FVec Ideal S1024x1024 .bf16) (ix2 k f) = (m ((c : Thread nD τ).loc main_arg4) : FVec Ideal S1024x1024 .f32) (ix2 k f) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

/-- The first gain that the kernel reads is the argument's. -/
theorem post_apply (y : Fin 1024) :
    (V m c main_v1 : FVec Ideal S1x1024 .f32) (ix2 0 y) = (m ((c : Thread nD τ).loc main_arg5) : FVec Ideal S1024 .f32) (ix1 y) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

/-- The second gain that the kernel reads is the argument's. -/
theorem pre_apply (y : Fin 1024) :
    (V m c main_v2 : FVec Ideal S1x1024 .f32) (ix2 0 y) = (m ((c : Thread nD τ).loc main_arg6) : FVec Ideal S1024 .f32) (ix1 y) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

theorem index_0 : ∀ t : Fin cfg0.N, win0_0.index t = ![(grid0.coords t 0).val, 0] :=
  (by decide +kernel : ∀ t : Fin grid0.N, win0_0.index t = ![(grid0.coords t 0).val, 0])
theorem index_1 : ∀ t : Fin cfg0.N, win0_1.index t = ![(grid0.coords t 0).val, 0] :=
  (by decide +kernel : ∀ t : Fin grid0.N, win0_1.index t = ![(grid0.coords t 0).val, 0])
theorem index_2 : ∀ t : Fin cfg0.N, win0_2.index t = ![(grid0.coords t 0).val, 0] :=
  (by decide +kernel : ∀ t : Fin grid0.N, win0_2.index t = ![(grid0.coords t 0).val, 0])
theorem index_3 : ∀ t : Fin cfg0.N, win0_3.index t = ![(grid0.coords t 0).val, 0] :=
  (by decide +kernel : ∀ t : Fin grid0.N, win0_3.index t = ![(grid0.coords t 0).val, 0])
theorem index_4 : ∀ t : Fin cfg0.N, win0_4.index t = ![0, 0] :=
  (by decide +kernel : ∀ t : Fin grid0.N, win0_4.index t = ![0, 0])
theorem index_5 : ∀ t : Fin cfg0.N, win0_5.index t = ![0, 0] :=
  (by decide +kernel : ∀ t : Fin grid0.N, win0_5.index t = ![0, 0])
theorem index_6 : ∀ t : Fin cfg0.N, win0_6.index t = ![0, 0] :=
  (by decide +kernel : ∀ t : Fin grid0.N, win0_6.index t = ![0, 0])
theorem index_7 : ∀ t : Fin cfg0.N, win0_7.index t = ![(grid0.coords t 0).val, 0] :=
  (by decide +kernel : ∀ t : Fin grid0.N, win0_7.index t = ![(grid0.coords t 0).val, 0])
theorem index_8 : ∀ t : Fin cfg0.N, win0_8.index t = ![(grid0.coords t 0).val, 0] :=
  (by decide +kernel : ∀ t : Fin grid0.N, win0_8.index t = ![(grid0.coords t 0).val, 0])

theorem read_x (t : Fin cfg0.N) (r : Fin 512) (y : Fin 1024) (n : Fin 16384) (hn : n.val = 512 * (grid0.coords t 0).val + r.val) :
    (iblk m c 0 t : Vec Ideal S512x1024 .f32) (ix2 r y) = (m ((c : Thread nD τ).loc main_arg0) : FVec Ideal S16384x1024 .f32) (ix2 n y) := by
  rw [← V_main_arg0 m c]
  blk_ext [iblk, index_0 t]

theorem read_a (t : Fin cfg0.N) (r : Fin 512) (y : Fin 384) (n : Fin 16384) (hn : n.val = 512 * (grid0.coords t 0).val + r.val) :
    (iblk m c 1 t : Vec Ideal S512x384 .bf16) (ix2 r y) = (m ((c : Thread nD τ).loc main_arg1) : FVec Ideal S16384x384 .bf16) (ix2 n y) := by
  rw [← V_main_arg1 m c]
  blk_ext [iblk, index_1 t]

theorem read_s (t : Fin cfg0.N) (r : Fin 512) (y : Fin 256) (n : Fin 16384) (hn : n.val = 512 * (grid0.coords t 0).val + r.val) :
    (iblk m c 2 t : Vec Ideal S512x256 .bf16) (ix2 r y) = (m ((c : Thread nD τ).loc main_arg2) : FVec Ideal S16384x256 .bf16) (ix2 n y) := by
  rw [← V_main_arg2 m c]
  blk_ext [iblk, index_2 t]

theorem read_b (t : Fin cfg0.N) (r : Fin 512) (y : Fin 384) (n : Fin 16384) (hn : n.val = 512 * (grid0.coords t 0).val + r.val) :
    (iblk m c 3 t : Vec Ideal S512x384 .bf16) (ix2 r y) = (m ((c : Thread nD τ).loc main_arg3) : FVec Ideal S16384x384 .bf16) (ix2 n y) := by
  rw [← V_main_arg3 m c]
  blk_ext [iblk, index_3 t]

theorem read_weight (t : Fin cfg0.N) (k : Fin 1024) (f : Fin 1024) :
    (iblk m c 4 t : Vec Ideal S1024x1024 .bf16) (ix2 k f) = (m ((c : Thread nD τ).loc main_arg4) : FVec Ideal S1024x1024 .f32) (ix2 k f) := by
  rw [← weight_apply m c]
  blk_ext [iblk, index_4 t]

theorem read_post (t : Fin cfg0.N) (y : Fin 1024) :
    (iblk m c 5 t : Vec Ideal S1x1024 .f32) (ix2 0 y) = (m ((c : Thread nD τ).loc main_arg5) : FVec Ideal S1024 .f32) (ix1 y) := by
  rw [← post_apply m c]
  blk_ext [iblk, index_5 t]

theorem read_pre (t : Fin cfg0.N) (y : Fin 1024) :
    (iblk m c 6 t : Vec Ideal S1x1024 .f32) (ix2 0 y) = (m ((c : Thread nD τ).loc main_arg6) : FVec Ideal S1024 .f32) (ix1 y) := by
  rw [← pre_apply m c]
  blk_ext [iblk, index_6 t]

/-- The block's residual entries are the array's. -/
theorem sum_eq (t : Fin cfg0.N) (r : Fin 512) (y : Fin 1024) (n : Fin 16384) (hn : n.val = 512 * (grid0.coords t 0).val + r.val) :
    sumRow (iblk m c 0 t) (iblk m c 1 t) (iblk m c 2 t) (iblk m c 3 t) (iblk m c 4 t) (iblk m c 5 t) r y = sumAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n y := by
  unfold sumRow sumAt
  rw [read_x m c t r y n hn, read_post]
  refine congrArg (fun z => _ + rms z _ y) (funext fun y' => Finset.sum_congr rfl fun k _ => ?_)
  rw [read_weight]
  refine congrArg (fun z : EReal => z * _) ?_
  have ea : (fun i : Fin 384 => (iblk m c 1 t : Vec Ideal S512x384 .bf16) (ix2 r i)) = fun i => (m ((c : Thread nD τ).loc main_arg1) : FVec Ideal S16384x384 .bf16) (ix2 n i) := funext fun i => read_a m c t r i n hn
  have es : (fun i : Fin 256 => (iblk m c 2 t : Vec Ideal S512x256 .bf16) (ix2 r i)) = fun i => (m ((c : Thread nD τ).loc main_arg2) : FVec Ideal S16384x256 .bf16) (ix2 n i) := funext fun i => read_s m c t r i n hn
  have eb : (fun i : Fin 384 => (iblk m c 3 t : Vec Ideal S512x384 .bf16) (ix2 r i)) = fun i => (m ((c : Thread nD τ).loc main_arg3) : FVec Ideal S16384x384 .bf16) (ix2 n i) := funext fun i => read_b m c t r i n hn
  rw [ea, es, eb]

/-- What one grid point writes back to result 7 is that array's block. -/
theorem block_eq7 (t : Fin cfg0.N) (r : Fin 512) (y : Fin 1024) (n : Fin 16384) (hn : n.val = 512 * (grid0.coords t 0).val + r.val) :
    out0_7 (F := Ideal) (iblk m c 0 t) (iblk m c 1 t) (iblk m c 2 t) (iblk m c 3 t) (iblk m c 4 t) (iblk m c 5 t) (iblk m c 6 t) (ix2 r y)
      = entry7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n y := by
  rw [out_apply7]
  exact sum_eq m c t r y n hn

/-- Result 7 after the kernel has run. -/
theorem arr_eq7 : (dats m 0 c).arrAt 7 cfg0.N
    = kArr7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  have ey : y = ix2 (y 0) (y 1) := by
    funext a
    match a with
    | ⟨0, _⟩ => rfl
    | ⟨1, _⟩ => rfl
  have e1 : ((win0_7.blk t).view.emb y 1 : Fin 1024) = y 1 := Fin.ext (by
    blk_simp [index_7 t])
  rw [ey] at e1 ⊢
  refine (block_eq7 m c t (y 0) (y 1) ((win0_7.blk t).view.emb (ix2 (y 0) (y 1)) 0) ?_).trans ?_
  · blk_simp [index_7 t]
    pointwise
    omega
  · exact congrArg (entry7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ((win0_7.blk t).view.emb (ix2 (y 0) (y 1)) 0)) e1.symm

/-- What one grid point writes back to result 8 is that array's block. -/
theorem block_eq8 (t : Fin cfg0.N) (r : Fin 512) (y : Fin 1024) (n : Fin 16384) (hn : n.val = 512 * (grid0.coords t 0).val + r.val) :
    out0_8 (F := Ideal) (iblk m c 0 t) (iblk m c 1 t) (iblk m c 2 t) (iblk m c 3 t) (iblk m c 4 t) (iblk m c 5 t) (iblk m c 6 t) (ix2 r y)
      = entry8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n y := by
  rw [out_apply8, read_pre]
  exact congrArg (fun z => rms z _ y) (funext fun y' => sum_eq m c t r y' n hn)

/-- Result 8 after the kernel has run. -/
theorem arr_eq8 : (dats m 0 c).arrAt 8 cfg0.N
    = kArr8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  have ey : y = ix2 (y 0) (y 1) := by
    funext a
    match a with
    | ⟨0, _⟩ => rfl
    | ⟨1, _⟩ => rfl
  have e1 : ((win0_8.blk t).view.emb y 1 : Fin 1024) = y 1 := Fin.ext (by
    blk_simp [index_8 t])
  rw [ey] at e1 ⊢
  refine (block_eq8 m c t (y 0) (y 1) ((win0_8.blk t).view.emb (ix2 (y 0) (y 1)) 0) ?_).trans ?_
  · blk_simp [index_8 t]
    pointwise
    omega
  · exact congrArg (entry8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ((win0_8.blk t).view.emb (ix2 (y 0) (y 1)) 0)) e1.symm

end Cert.OutProj

end
-- ==== Proof.OutProjRef.lean ====
/-
  The second projection's reference results, entry by entry.
-/
module

public import proofs.«01_k».proof.Proof.FfnRef
public import proofs.«01_k».proof.Proof.Gen.Reference4Ideal.Run

@[expose] public section

set_option maxRecDepth 16384

noncomputable section

namespace Cert.OutProjRef

open Cert.Reference4Ideal Cert.Reference4Ideal.Gen Idealize.ShloMosaic Idealize.ShloMosaic.TcCoe Idealize.SL.Sem Cert.Layer

/-- The three mixers' rows side by side. -/
def catArr (a : FVec Ideal S16384x384 .bf16) (s : FVec Ideal S16384x256 .bf16) (b : FVec Ideal S16384x384 .bf16) : FVec Ideal S16384x1024 .f32 :=
  (concatenate S16384x1024 1 [⟨S16384x384, extf .f32 a bitsLt_bf16_f32⟩, ⟨S16384x256, extf .f32 s bitsLt_bf16_f32⟩, ⟨S16384x384, extf .f32 b bitsLt_bf16_f32⟩] concatenates_S16384x384_S16384x256_S16384x384_S16384x1024_d1 : FVec Ideal S16384x1024 .f32)

theorem catArr_apply (a : FVec Ideal S16384x384 .bf16) (s : FVec Ideal S16384x256 .bf16) (b : FVec Ideal S16384x384 .bf16) (n : Fin 16384) (k : Fin 1024) :
    catArr a s b (ix2 n k) = beside (fun i => a (ix2 n i)) (fun i => s (ix2 n i)) (fun i => b (ix2 n i)) k := by
  unfold catArr beside
  pointwise

/-- Their product with the weights. -/
def prodArr (x : FVec Ideal S16384x1024 .f32) (w : FVec Ideal S1024x1024 .f32) : FVec Ideal S16384x1024 .f32 :=
  Host.dotGeneral dot_S16384x1024_S1024x1024_S16384x1024_1_0_0_1_n_n none x w

theorem prodArr_apply (x : FVec Ideal S16384x1024 .f32) (w : FVec Ideal S1024x1024 .f32) (n : Fin 16384) (y : Fin 1024) :
    prodArr x w (ix2 n y) = ∑ k : Fin 1024, x (ix2 n k) * w (ix2 k y) := by
  pointwise [prodArr]

/-- The reference's residual. -/
def refArr7 (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) : FVec Ideal S16384x1024 .f32 :=
  addf x (Cert.FfnRef.normArr (prodArr (catArr a s b) w) gp)

theorem refArr7_apply (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) (n : Fin 16384) (y : Fin 1024) :
    refArr7 x a s b w gp gq (ix2 n y) = x (ix2 n y) + rms (fun y' => ∑ k : Fin 1024, beside (fun i => a (ix2 n i)) (fun i => s (ix2 n i)) (fun i => b (ix2 n i)) k * w (ix2 k y')) (gp (ix1 y)) y := by
  show x (ix2 n y) + Cert.FfnRef.normArr _ gp (ix2 n y) = _
  rw [Cert.FfnRef.normArr_apply]
  simp only [prodArr_apply, catArr_apply]

/-- The reference's normalised rows. -/
def refArr8 (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) : FVec Ideal S16384x1024 .bf16 :=
  truncf .bf16 (Cert.FfnRef.normArr (refArr7 x a s b w gp gq) gq) bitsLt_bf16_f32

theorem refArr8_apply (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) (n : Fin 16384) (y : Fin 1024) :
    refArr8 x a s b w gp gq (ix2 n y) = rms (fun y => x (ix2 n y) + rms (fun y' => ∑ k : Fin 1024, beside (fun i => a (ix2 n i)) (fun i => s (ix2 n i)) (fun i => b (ix2 n i)) k * w (ix2 k y')) (gp (ix1 y)) y) (gq (ix1 y)) y := by
  show Cert.FfnRef.normArr _ gq (ix2 n y) = _
  rw [Cert.FfnRef.normArr_apply]
  simp only [refArr7_apply]

end Cert.OutProjRef

end
-- ==== Proof.OutProjClaim.lean ====
/-
  The claims about the second projection.
-/
module

public import proofs.«01_k».proof.Defs
public import proofs.«01_k».proof.Proof.Gen.Kernel4.Frame
public import proofs.«01_k».proof.Proof.Gen.Kernel4Ideal.Frame
public import proofs.«01_k».proof.Proof.OutProjArr
public import proofs.«01_k».proof.Proof.OutProjRef

@[expose] public section

set_option maxRecDepth 16384

noncomputable section

namespace Cert.OutProjClaim

open Idealize.ShloMosaic Idealize.SL.Sem

/-- The reference runs, keeps its arguments and leaves every counter at zero. -/
theorem reference_frame (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0) :=
  (θ_run _ _ _).mono (fun r h => ⟨fun c => (h c).2.2, sem_eq_zero_of_no_sems rfl r.2⟩) (Cert.Reference4Ideal.Value.run (F := Ideal) m ρ)

/-- The reference's array is the kernel's. -/
theorem arr_ref7 (x : FVec Ideal ⟨2, ![16384, 1024]⟩ .f32) (a : FVec Ideal ⟨2, ![16384, 384]⟩ .bf16) (s : FVec Ideal ⟨2, ![16384, 256]⟩ .bf16) (b : FVec Ideal ⟨2, ![16384, 384]⟩ .bf16) (w : FVec Ideal ⟨2, ![1024, 1024]⟩ .f32) (gp gq : FVec Ideal ⟨1, ![1024]⟩ .f32) :
    Cert.OutProjRef.refArr7 x a s b w gp gq = Cert.OutProj.kArr7 x a s b w gp gq := by
  funext i
  obtain ⟨n, y, rfl⟩ : ∃ (n : Fin 16384) (y : Fin 1024), i = ix2 n y := ⟨i 0, i 1, by
    funext a
    match a with
    | ⟨0, _⟩ => rfl
    | ⟨1, _⟩ => rfl⟩
  exact Cert.OutProjRef.refArr7_apply x a s b w gp gq n y

/-- The reference's array is the kernel's. -/
theorem arr_ref8 (x : FVec Ideal ⟨2, ![16384, 1024]⟩ .f32) (a : FVec Ideal ⟨2, ![16384, 384]⟩ .bf16) (s : FVec Ideal ⟨2, ![16384, 256]⟩ .bf16) (b : FVec Ideal ⟨2, ![16384, 384]⟩ .bf16) (w : FVec Ideal ⟨2, ![1024, 1024]⟩ .f32) (gp gq : FVec Ideal ⟨1, ![1024]⟩ .f32) :
    Cert.OutProjRef.refArr8 x a s b w gp gq = Cert.OutProj.kArr8 x a s b w gp gq := by
  funext i
  obtain ⟨n, y, rfl⟩ : ∃ (n : Fin 16384) (y : Fin 1024), i = ix2 n y := ⟨i 0, i 1, by
    funext a
    match a with
    | ⟨0, _⟩ => rfl
    | ⟨1, _⟩ => rfl⟩
  exact Cert.OutProjRef.refArr8_apply x a s b w gp gq n y

/-- The kernel's results are the reference's, from equal arguments. -/
theorem value : Cert.algebraic_Kernel4Ideal_Reference4Ideal (hKernel4Ideal := Cert.Kernel4Ideal.Gen.facts) (hReference4Ideal := Cert.Reference4Ideal.Gen.facts) := by
  intro m ρ m' ρ' _ ha
  refine ⟨_, _, Cert.Kernel4Ideal.Value.run_blocks (F := Ideal) m ρ, ?_⟩
  refine (θ_run _ _ _).mono (fun r h c => ⟨(h c).1.trans ?_, (h c).2.1.trans ?_, (h c).2.2⟩) (Cert.Reference4Ideal.Value.run (F := Ideal) m' ρ')
  · obtain ⟨h0, h1, h2, h3, h4, h5, h6⟩ := ha c
    rw [Cert.OutProj.arr_eq7]
    show Cert.OutProjRef.refArr7 _ _ _ _ _ _ (m' ((c.tc : Thread Cert.Reference4Ideal.nD Cert.Reference4Ideal.τ).loc Cert.Reference4Ideal.main_arg6)) = _
    rw [h0, h1, h2, h3, h4, h5, h6]
    exact arr_ref7 _ _ _ _ _ _ _
  · obtain ⟨h0, h1, h2, h3, h4, h5, h6⟩ := ha c
    rw [Cert.OutProj.arr_eq8]
    show Cert.OutProjRef.refArr8 _ _ _ _ _ _ _ = _
    rw [h0, h1, h2, h3, h4, h5, h6]
    exact arr_ref8 _ _ _ _ _ _ _

end Cert.OutProjClaim

end
-- ==== Proof.CombBlock.lean ====
/-
  What one grid point of the expert-combining call computes from its blocks, entry by entry.
-/
module

public import proofs.«01_k».proof.Proof.FfnBlock
public import proofs.«01_k».proof.Proof.Gen.Kernel5Ideal.Value
public import Idealize.ShloMosaic.Lib.Pipeline.ValueKit

@[expose] public section

set_option maxRecDepth 16384

noncomputable section

namespace Cert.Comb

open Cert.Kernel5Ideal Cert.Kernel5Ideal.Gen Idealize.ShloMosaic Cert.Layer

/-- The two experts' rows of 512 tokens, each weighted by its gate, added. -/
def mix (a : Vec Ideal S512x1 .f32) (x : FVec Ideal S512x1024 .f32) (b : Vec Ideal S512x1 .f32) (y : FVec Ideal S512x1024 .f32) : FVec Ideal S512x1024 .f32 :=
  addf (mulf (broadcastTo S512x1024 a broadcasts_S512x1_S512x1024 : FVec Ideal S512x1024 .f32) x) (mulf (broadcastTo S512x1024 b broadcasts_S512x1_S512x1024) y)

theorem mix_apply (a : Vec Ideal S512x1 .f32) (x : FVec Ideal S512x1024 .f32) (b : Vec Ideal S512x1 .f32) (y : FVec Ideal S512x1024 .f32) (r : Fin 512) (k : Fin 1024) :
    mix a x b y (ix2 r k) = a (ix2 r 0) * x (ix2 r k) + b (ix2 r 0) * y (ix2 r k) := by
  pointwise [mix]

variable (x0 x1 x2 : Vec Ideal S512x1024 .f32) (x3 : Vec Ideal S512x128 .f32) (x4 : Vec Ideal S1x1024 .f32)

/-- What one grid point writes back, entry by entry. -/
theorem out_apply (r : Fin 512) (y : Fin 1024) :
    out0_5 (F := Ideal) x0 x1 x2 x3 x4 (ix2 r y)
      = x0 (ix2 r y) + rms (fun k => x3 (ix2 r 2) * x1 (ix2 r k) + x3 (ix2 r 3) * x2 (ix2 r k)) (x4 (ix2 0 y)) y := by
  unfold out0_5
  refine (congrFun (View.canon_cons_unit_lit _ _ [] (by decide)) _).trans ?_
  refine Eq.trans (b := Cert.Ffn.addNorm (View.ld x0 r0_1) (mix (View.ld x3 r0_0) (View.ld x1 r0_1) (View.ld x3 r0_2) (View.ld x2 r0_1)) (View.ld x4 r0_3) (ix2 r y)) ?_ ?_
  · show k0_pay1 _ _ _ _ _ _ _ = _
    refine congrArg (Cert.Ffn.addNorm (View.ld x0 r0_1) (mix (View.ld x3 r0_0) (View.ld x1 r0_1) (View.ld x3 r0_2) (View.ld x2 r0_1)) (View.ld x4 r0_3)) ?_
    pointwise
  · rw [Cert.Ffn.addNorm_apply]
    simp only [mix_apply]
    refine congrArg₂ (fun (a : EReal) z => a + z) (by pointwise) (congrArg₂ (fun z g => rms z g y) (funext fun k => ?_) ?_) <;> pointwise

end Cert.Comb

end
-- ==== Proof.CombArr.lean ====
/-
  The expert-combining call's whole result array.
-/
module

public import proofs.«01_k».proof.Proof.CombBlock
public import Idealize.ShloMosaic.Lib.Claim

@[expose] public section

set_option maxRecDepth 16384

noncomputable section

namespace Cert.Comb

open Cert.Kernel5Ideal Cert.Kernel5Ideal.Gen Idealize.ShloMosaic Idealize.ShloMosaic.TcCoe Idealize.SL.Sem Cert.Layer
open Idealize.ShloMosaic.Pipeline (Dat)

variable (m : (l : Loc nD τ sig) → Buf (Elt Ideal) l) (c : Dev nD)

/-- One entry of the result: the residual plus the normalised sum of the two gated expert rows. -/
def entry (x : FVec Ideal S16384x1024 .f32) (e : FVec Ideal S33792x1024 .f32) (g : FVec Ideal S16384x128 .f32) (gn : FVec Ideal S1024 .f32) (n : Fin 16384) (y : Fin 1024) : EReal :=
  x (ix2 n y) + rms (fun k => g (ix2 n 2) * e (ix2 (Fin.castLE (by decide) n) k) + g (ix2 n 3) * e (ix2 ⟨16384 + n.val, by have := n.isLt; omega⟩ k)) (gn (ix1 y)) y

/-- The result array as one function of the arguments. -/
def kArr (x : FVec Ideal S16384x1024 .f32) (e : FVec Ideal S33792x1024 .f32) (g : FVec Ideal S16384x128 .f32) (gn : FVec Ideal S1024 .f32) :
    FVec Ideal S16384x1024 .f32 := fun i => entry x e g gn (i 0) (i 1)

/-- The gain that the kernel reads is the argument's. -/
theorem gain_apply (y : Fin 1024) :
    (V m c main_v0 : FVec Ideal S1x1024 .f32) (ix2 0 y) = (m ((c : Thread nD τ).loc main_arg3) : FVec Ideal S1024 .f32) (ix1 y) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

theorem index_0 : ∀ t : Fin cfg0.N, win0_0.index t = ![(grid0.coords t 0).val, 0] :=
  (by decide +kernel : ∀ t : Fin grid0.N, win0_0.index t = ![(grid0.coords t 0).val, 0])
theorem index_1 : ∀ t : Fin cfg0.N, win0_1.index t = ![(grid0.coords t 0).val, 0] :=
  (by decide +kernel : ∀ t : Fin grid0.N, win0_1.index t = ![(grid0.coords t 0).val, 0])
theorem index_2 : ∀ t : Fin cfg0.N, win0_2.index t = ![(grid0.coords t 0).val + 32, 0] :=
  (by decide +kernel : ∀ t : Fin grid0.N, win0_2.index t = ![(grid0.coords t 0).val + 32, 0])
theorem index_3 : ∀ t : Fin cfg0.N, win0_3.index t = ![(grid0.coords t 0).val, 0] :=
  (by decide +kernel : ∀ t : Fin grid0.N, win0_3.index t = ![(grid0.coords t 0).val, 0])
theorem index_4 : ∀ t : Fin cfg0.N, win0_4.index t = ![0, 0] :=
  (by decide +kernel : ∀ t : Fin grid0.N, win0_4.index t = ![0, 0])
theorem index_5 : ∀ t : Fin cfg0.N, win0_5.index t = ![(grid0.coords t 0).val, 0] :=
  (by decide +kernel : ∀ t : Fin grid0.N, win0_5.index t = ![(grid0.coords t 0).val, 0])

theorem read_x (t : Fin cfg0.N) (r : Fin 512) (y : Fin 1024) (n : Fin 16384) (hn : n.val = 512 * (grid0.coords t 0).val + r.val) :
    (iblk m c 0 t : Vec Ideal S512x1024 .f32) (ix2 r y) = (m ((c : Thread nD τ).loc main_arg0) : FVec Ideal S16384x1024 .f32) (ix2 n y) := by
  rw [← V_main_arg0 m c]
  blk_ext [iblk, index_0 t]

theorem read_first (t : Fin cfg0.N) (r : Fin 512) (y : Fin 1024) (n : Fin 33792) (hn : n.val = 512 * (grid0.coords t 0).val + r.val) :
    (iblk m c 1 t : Vec Ideal S512x1024 .f32) (ix2 r y) = (m ((c : Thread nD τ).loc main_arg1) : FVec Ideal S33792x1024 .f32) (ix2 n y) := by
  rw [← V_main_arg1 m c]
  blk_ext [iblk, index_1 t]

theorem read_second (t : Fin cfg0.N) (r : Fin 512) (y : Fin 1024) (n : Fin 33792) (hn : n.val = 16384 + (512 * (grid0.coords t 0).val + r.val)) :
    (iblk m c 2 t : Vec Ideal S512x1024 .f32) (ix2 r y) = (m ((c : Thread nD τ).loc main_arg1) : FVec Ideal S33792x1024 .f32) (ix2 n y) := by
  rw [← V_main_arg1 m c]
  blk_ext [iblk, index_2 t]

theorem read_gate (t : Fin cfg0.N) (r : Fin 512) (y : Fin 128) (n : Fin 16384) (hn : n.val = 512 * (grid0.coords t 0).val + r.val) :
    (iblk m c 3 t : Vec Ideal S512x128 .f32) (ix2 r y) = (m ((c : Thread nD τ).loc main_arg2) : FVec Ideal S16384x128 .f32) (ix2 n y) := by
  rw [← V_main_arg2 m c]
  blk_ext [iblk, index_3 t]

theorem read_gain (t : Fin cfg0.N) (y : Fin 1024) :
    (iblk m c 4 t : Vec Ideal S1x1024 .f32) (ix2 0 y) = (m ((c : Thread nD τ).loc main_arg3) : FVec Ideal S1024 .f32) (ix1 y) := by
  rw [← gain_apply m c]
  blk_ext [iblk, index_4 t]

/-- What one grid point writes back to result array is that array's block. -/
theorem block_eq (t : Fin cfg0.N) (r : Fin 512) (y : Fin 1024) (n : Fin 16384) (hn : n.val = 512 * (grid0.coords t 0).val + r.val) :
    out0_5 (F := Ideal) (iblk m c 0 t) (iblk m c 1 t) (iblk m c 2 t) (iblk m c 3 t) (iblk m c 4 t) (ix2 r y)
      = entry (m ((c : Thread nD τ).loc main_arg0)) (m ((c : Thread nD τ).loc main_arg1)) (m ((c : Thread nD τ).loc main_arg2)) (m ((c : Thread nD τ).loc main_arg3)) n y := by
  rw [out_apply]
  unfold entry
  rw [read_x m c t r y n hn, read_gain, read_gate m c t r 2 n hn, read_gate m c t r 3 n hn]
  refine congrArg (fun z => _ + rms z _ y) (funext fun k => ?_)
  rw [read_first m c t r k (Fin.castLE (by decide) n) hn, read_second m c t r k ⟨16384 + n.val, by have := n.isLt; omega⟩ (by show 16384 + n.val = _; rw [hn])]

/-- Result array after the kernel has run. -/
theorem arr_eq : (dats m 0 c).arrAt 5 cfg0.N
    = kArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have ey : y = ix2 (y 0) (y 1) := by
    funext a
    match a with
    | ⟨0, _⟩ => rfl
    | ⟨1, _⟩ => rfl
  have e1 : ((win0_5.blk t).view.emb y 1 : Fin 1024) = y 1 := Fin.ext (by
    blk_simp [index_5 t])
  rw [ey] at e1 ⊢
  refine (block_eq m c t (y 0) (y 1) ((win0_5.blk t).view.emb (ix2 (y 0) (y 1)) 0) ?_).trans ?_
  · blk_simp [index_5 t]
    pointwise
    omega
  · exact congrArg (entry (m ((c : Thread nD τ).loc main_arg0)) (m ((c : Thread nD τ).loc main_arg1)) (m ((c : Thread nD τ).loc main_arg2)) (m ((c : Thread nD τ).loc main_arg3)) ((win0_5.blk t).view.emb (ix2 (y 0) (y 1)) 0)) e1.symm

end Cert.Comb

end
-- ==== Proof.CombRef.lean ====
/-
  The expert-combining reference's result, entry by entry.
-/
module

public import proofs.«01_k».proof.Proof.FfnRef
public import proofs.«01_k».proof.Proof.Gen.Reference5Ideal.Run

@[expose] public section

set_option maxRecDepth 16384

noncomputable section

namespace Cert.CombRef

open Cert.Reference5Ideal Cert.Reference5Ideal.Gen Idealize.ShloMosaic Idealize.ShloMosaic.TcCoe Idealize.SL.Sem Cert.Layer

/-- The two experts' rows, each weighted by its gate, added. -/
def mixArr (e : FVec Ideal S33792x1024 .f32) (g : FVec Ideal S16384x128 .f32) : FVec Ideal S16384x1024 .f32 :=
  addf (mulf (broadcastInDim S16384x1024 ![0, 1] bcast_S16384x1_S16384x1024_0_1 (extractStridedSlice S16384x1 ![0, 0] (extractStridedSlice S16384x2 ![0, 2] g slices_S16384x128_S16384x2_0_2) slices_S16384x2_S16384x1_0_0)) (extractStridedSlice S16384x1024 ![0, 0] e slices_S33792x1024_S16384x1024_0_0)) (mulf (broadcastInDim S16384x1024 ![0, 1] bcast_S16384x1_S16384x1024_0_1 (extractStridedSlice S16384x1 ![0, 1] (extractStridedSlice S16384x2 ![0, 2] g slices_S16384x128_S16384x2_0_2) slices_S16384x2_S16384x1_0_1)) (extractStridedSlice S16384x1024 ![16384, 0] e slices_S33792x1024_S16384x1024_16384_0))

theorem mixArr_apply (e : FVec Ideal S33792x1024 .f32) (g : FVec Ideal S16384x128 .f32) (n : Fin 16384) (k : Fin 1024) :
    mixArr e g (ix2 n k) = g (ix2 n 2) * e (ix2 (Fin.castLE (by decide) n) k) + g (ix2 n 3) * e (ix2 ⟨16384 + n.val, by have := n.isLt; omega⟩ k) := by
  pointwise [mixArr]
  rfl

/-- The reference's result array. -/
def refArr (x : FVec Ideal S16384x1024 .f32) (e : FVec Ideal S33792x1024 .f32) (g : FVec Ideal S16384x128 .f32) (gn : FVec Ideal S1024 .f32) :
    FVec Ideal S16384x1024 .f32 :=
  addf x (Cert.FfnRef.normArr (mixArr e g) gn)

theorem refArr_apply (x : FVec Ideal S16384x1024 .f32) (e : FVec Ideal S33792x1024 .f32) (g : FVec Ideal S16384x128 .f32) (gn : FVec Ideal S1024 .f32)
    (n : Fin 16384) (y : Fin 1024) :
    refArr x e g gn (ix2 n y)
      = x (ix2 n y) + rms (fun k => g (ix2 n 2) * e (ix2 (Fin.castLE (by decide) n) k) + g (ix2 n 3) * e (ix2 ⟨16384 + n.val, by have := n.isLt; omega⟩ k)) (gn (ix1 y)) y := by
  show x (ix2 n y) + Cert.FfnRef.normArr _ gn (ix2 n y) = _
  rw [Cert.FfnRef.normArr_apply]
  simp only [mixArr_apply]

end Cert.CombRef

end
-- ==== Proof.CombClaim.lean ====
/-
  The claims about the expert-combining call.
-/
module

public import proofs.«01_k».proof.Defs
public import proofs.«01_k».proof.Proof.Gen.Kernel5.Frame
public import proofs.«01_k».proof.Proof.Gen.Kernel5Ideal.Frame
public import proofs.«01_k».proof.Proof.CombArr
public import proofs.«01_k».proof.Proof.CombRef

@[expose] public section

set_option maxRecDepth 16384

noncomputable section

namespace Cert.CombClaim

open Idealize.ShloMosaic Idealize.SL.Sem

/-- The reference runs, keeps its arguments and leaves every counter at zero. -/
theorem reference_frame (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0) :=
  (θ_run _ _ _).mono (fun r h => ⟨fun c => (h c).2, sem_eq_zero_of_no_sems rfl r.2⟩) (Cert.Reference5Ideal.Value.run (F := Ideal) m ρ)

/-- The reference's array is the kernel's. -/
theorem arr_ref (x : FVec Ideal ⟨2, ![16384, 1024]⟩ .f32) (e : FVec Ideal ⟨2, ![33792, 1024]⟩ .f32) (g : FVec Ideal ⟨2, ![16384, 128]⟩ .f32) (gn : FVec Ideal ⟨1, ![1024]⟩ .f32) :
    Cert.CombRef.refArr x e g gn = Cert.Comb.kArr x e g gn := by
  funext i
  obtain ⟨n, y, rfl⟩ : ∃ (n : Fin 16384) (y : Fin 1024), i = ix2 n y := ⟨i 0, i 1, by
    funext a
    match a with
    | ⟨0, _⟩ => rfl
    | ⟨1, _⟩ => rfl⟩
  exact Cert.CombRef.refArr_apply x e g gn n y

/-- The kernel's results are the reference's, from equal arguments. -/
theorem value : Cert.algebraic_Kernel5Ideal_Reference5Ideal (hKernel5Ideal := Cert.Kernel5Ideal.Gen.facts) (hReference5Ideal := Cert.Reference5Ideal.Gen.facts) := by
  intro m ρ m' ρ' _ ha
  refine ⟨_, Cert.Kernel5Ideal.Value.run_blocks (F := Ideal) m ρ, ?_⟩
  refine (θ_run _ _ _).mono (fun r h c => ⟨(h c).1.trans ?_, (h c).2⟩) (Cert.Reference5Ideal.Value.run (F := Ideal) m' ρ')
  · obtain ⟨h0, h1, h2, h3⟩ := ha c
    rw [Cert.Comb.arr_eq]
    show Cert.CombRef.refArr _ _ _ _ = _
    rw [h0, h1, h2, h3]
    exact arr_ref _ _ _ _

end Cert.CombClaim

end
-- ==== Proof.MoeBlock.lean ====
/-
  What one grid point of the experts' call adds to the running sum, and what the last one writes back, entry by entry.
-/
module

public import proofs.«01_k».proof.Proof.FfnBlock
public import proofs.«01_k».proof.Proof.Gen.Kernel6Ideal.Value
public import Idealize.ShloMosaic.Lib.Pipeline.ValueKit

@[expose] public section

set_option maxRecDepth 16384

noncomputable section

namespace Cert.Moe

open Cert.Kernel6Ideal Cert.Kernel6Ideal.Gen Idealize.ShloMosaic Cert.Layer

/-- Half of one expert's hidden units of 512 tokens. -/
def hidden (h : FVec Ideal S512x1024 .bf16) (a b : Vec Ideal S1x1024x1408 .bf16) : FVec Ideal S512x1408 .bf16 :=
  have p : FVec Ideal S512x1408 .f32 := matmul dot_S512x1024_S1024x1408_S512x1408_1_0_0_1_n_n none h (shapeCast S1024x1408 a shapeCasts_S1x1024x1408_S1024x1408 : FVec Ideal S1024x1408 .bf16) (constant S512x1408 .f32 0x00000000#32)
  truncf .bf16 (mulf (mulf p (logistic p)) (matmul dot_S512x1024_S1024x1408_S512x1408_1_0_0_1_n_n none h (shapeCast S1024x1408 b shapeCasts_S1x1024x1408_S1024x1408 : FVec Ideal S1024x1408 .bf16) (constant S512x1408 .f32 0x00000000#32))) bitsLt_bf16_f32

theorem hidden_apply (h : FVec Ideal S512x1024 .bf16) (a b : Vec Ideal S1x1024x1408 .bf16) (r : Fin 512) (f : Fin 1408) :
    hidden h a b (ix2 r f) = unit (∑ k : Fin 1024, h (ix2 r k) * a (ix3 0 k f)) (∑ k : Fin 1024, h (ix2 r k) * b (ix3 0 k f)) := by
  pointwise [hidden, unit]

/-- The product of half of the hidden units with their rows of the last weights. -/
def part (u : FVec Ideal S512x1408 .bf16) (d : Vec Ideal S1x1408x1024 .bf16) : FVec Ideal S512x1024 .f32 :=
  matmul dot_S512x1408_S1408x1024_S512x1024_1_0_0_1_n_n none u (shapeCast S1408x1024 d shapeCasts_S1x1408x1024_S1408x1024 : FVec Ideal S1408x1024 .bf16) (constant S512x1024 .f32 0x00000000#32)

theorem part_apply (u : FVec Ideal S512x1408 .bf16) (d : Vec Ideal S1x1408x1024 .bf16) (r : Fin 512) (y : Fin 1024) :
    part u d (ix2 r y) = ∑ f : Fin 1408, u (ix2 r f) * d (ix3 0 f y) := by
  pointwise [part]

/-- The gates with every lane but the expert's own set to zero. -/
def lanes (e : BitVec 32) (w : Vec Ideal S512x128 .f32) : FVec Ideal S512x128 .f32 :=
  select (cmpi .eq (iota .tc S512x128 32 [1] iota_S512x128_d1_w32) (broadcast S512x128 e)) w (broadcast S512x128 (Scalar.ofBits .f32 0x00000000#32) : FVec Ideal S512x128 .f32)

theorem lanes_apply (e : Fin 128) (w : Vec Ideal S512x128 .f32) (r : Fin 512) (l : Fin 128) :
    lanes (BitVec.ofNat 32 e.val) w (ix2 r l) = if l = e then w (ix2 r e) else (0 : EReal) := by
  have key : ∀ a b : Fin 128, (BitVec.ofNat 32 a.val = BitVec.ofNat 32 b.val) ↔ a = b := by decide +kernel
  by_cases hl : l = e
  · subst hl
    rw [if_pos rfl]
    pointwise [lanes]
  · rw [if_neg hl]
    have hz : IntOp.cmpi .eq (BitVec.ofNat 32 l.val) (BitVec.ofNat 32 e.val) = 0#1 := by
      have hne : BitVec.ofNat 32 l.val ≠ BitVec.ofNat 32 e.val := fun h => hl ((key l e).mp h)
      show BitVec.ofBool (BitVec.ofNat 32 l.val == BitVec.ofNat 32 e.val) = 0#1
      rw [beq_eq_false_iff_ne.mpr hne]
      rfl
    pointwise [lanes]
    rw [hz]
    rfl

/-- Every token's gate of the expert. -/
def gate (e : BitVec 32) (w : Vec Ideal S512x128 .f32) : FVec Ideal S512x1 .f32 :=
  shapeCast S512x1 (multiReduction .add [1] S512 (lanes e w) 0x00000000#32 reduces_S512x128_S512 (.inl rfl) rfl) shapeCasts_S512_S512x1

theorem gate_apply (e : Fin 128) (w : Vec Ideal S512x128 .f32) (r : Fin 512) :
    gate (BitVec.ofNat 32 e.val) w (ix2 r 0) = w (ix2 r e) := by
  refine Eq.trans (b := ∑ l : Fin 128, lanes (BitVec.ofNat 32 e.val) w (ix2 r l)) ?_ ?_
  · pointwise [gate]
  · simp only [lanes_apply]
    rw [Finset.sum_ite_eq' Finset.univ e]
    simp

/-- What one grid point adds: the half expert's product, times the gate. -/
theorem pay4_apply (i : grid0.Coords) (e : Fin 128) (he : (i 1).val = e.val) (h : Vec Ideal S512x1024 .bf16) (a b : Vec Ideal S1x1024x1408 .bf16) (d : Vec Ideal S1x1408x1024 .bf16) (w : Vec Ideal S512x128 .f32)
    (o : Vec Ideal S512x1024 .f32) (r : Fin 512) (y : Fin 1024) :
    k0_pay4 i h a b d w o (ix2 r y)
      = o (ix2 r y) + (∑ f : Fin 1408, unit (∑ k : Fin 1024, h (ix2 r k) * a (ix3 0 k f)) (∑ k : Fin 1024, h (ix2 r k) * b (ix3 0 k f)) * d (ix3 0 f y)) * w (ix2 r e) := by
  have e1 : k0_pay4 i h a b d w o = addf (o : FVec Ideal S512x1024 .f32) (mulf (part (hidden h a b) d) (broadcastTo S512x1024 (gate (BitVec.ofNat 32 (i 1).val) w) broadcasts_S512x1_S512x1024)) := rfl
  rw [e1, he]
  refine Eq.trans (b := o (ix2 r y) + part (hidden h a b) d (ix2 r y) * gate (BitVec.ofNat 32 e.val) w (ix2 r 0)) ?_ ?_
  · pointwise
  · rw [gate_apply, part_apply]
    simp only [hidden_apply]

theorem pay2_apply (x o : Vec Ideal S512x1024 .f32) (gn : Vec Ideal S1x1024 .f32) (r : Fin 512) (y : Fin 1024) :
    k0_pay2 x o gn (ix2 r y) = x (ix2 r y) + rms (fun y' => o (ix2 r y')) (gn (ix2 0 y)) y := by
  have e1 : k0_pay2 x o gn = Cert.Ffn.addNorm x o gn := rfl
  rw [e1]
  exact Cert.Ffn.addNorm_apply x o gn r y

theorem pay1_eq (o : FVec Ideal S512x1024 .f32) : k0_pay1 o = o := by
  unfold k0_pay1
  simp only [shapeCast_self]

theorem pay3_apply (r : Fin 512) (y : Fin 1024) : k0_pay3 (F := Ideal) (ix2 r y) = (0 : EReal) := by
  pointwise [k0_pay3]

theorem zeros2 : (![0, 0] : Fin 2 → Nat) = fun _ => 0 := funext fun a => by fin_cases a <;> rfl
theorem zeros3 : (![0, 0, 0] : Fin 3 → Nat) = fun _ => 0 := funext fun a => by fin_cases a <;> rfl

variable (c : Dev nD) (i : grid0.Coords) (arg3 : Memref sig .tc .vmem S512x1024 .f32) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x1024x1408 .bf16) (harg6 : arg6.IsWhole) (arg7 : Memref sig .tc .vmem S1x1024x1408 .bf16) (harg7 : arg7.IsWhole) (arg8 : Memref sig .tc .vmem S1x1408x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole)
  (x0 : Vec Ideal S512x1024 .f32) (x1 : Vec Ideal S512x1024 .bf16) (x2 : Vec Ideal S512x128 .f32) (x3 x4 : Vec Ideal S1x1024x1408 .bf16) (x5 : Vec Ideal S1x1408x1024 .bf16) (x6 : Vec Ideal S1x1024 .f32) (xs : Vec Ideal S512x1024 .f32)

/-- What the first point of a run leaves in the running sum. -/
theorem sum_A (hc0 : cond0_0 i) (hc1 : ¬cond0_1 i) :
    sout0_A_0 c i arg3 harg3 arg4 harg4 arg5 harg5 arg6 harg6 arg7 harg7 arg8 harg8 arg9 harg9 arg10 harg10 arg11 harg11 hc0 hc1 x0 x1 x2 x3 x4 x5 x6
      = k0_pay4 (F := Ideal) i x1 x3 x4 x5 x2 (k0_pay3 (F := Ideal)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S512x1024) zeros2, View.readCov_unit_zero (S := S512x1024) _ zeros2]
  simp only [View.readAt_eq_ld, harg4.read_unread, harg5.read_unread, harg6.read_unread, harg7.read_unread, harg8.read_unread,
    View.ld_unit_zero (S := S512x1024) zeros2, View.ld_unit_zero (S := S512x128) zeros2, View.ld_unit_zero (S := S1x1024x1408) zeros3, View.ld_unit_zero (S := S1x1408x1024) zeros3, pay1_eq]

/-- What a middle point of a run leaves in the running sum. -/
theorem sum_B (hc0 : ¬cond0_0 i) (hc1 : ¬cond0_1 i) :
    sout0_B_0 c i arg3 harg3 arg4 harg4 arg5 harg5 arg6 harg6 arg7 harg7 arg8 harg8 arg9 harg9 arg10 harg10 arg11 harg11 hc0 hc1 x0 x1 x2 x3 x4 x5 x6 xs
      = k0_pay4 (F := Ideal) i x1 x3 x4 x5 x2 xs := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs)]
  unfold kernelRun0_B
  dsimp only
  sl_unfold_words
  rw [View.canon_unit_zero zeros2]
  simp only [View.readAt_eq_ld, harg4.read_unread, harg5.read_unread, harg6.read_unread, harg7.read_unread, harg8.read_unread, harg11.read_unread,
    View.ld_unit_zero (S := S512x1024) zeros2, View.ld_unit_zero (S := S512x128) zeros2, View.ld_unit_zero (S := S1x1024x1408) zeros3, View.ld_unit_zero (S := S1x1408x1024) zeros3, pay1_eq]

/-- What the last point of a run leaves in the running sum. -/
theorem sum_C (hc0 : ¬cond0_0 i) (hc1 : cond0_1 i) :
    sout0_C_0 c i arg3 harg3 arg4 harg4 arg5 harg5 arg6 harg6 arg7 harg7 arg8 harg8 arg9 harg9 arg10 harg10 arg11 harg11 hc0 hc1 x0 x1 x2 x3 x4 x5 x6 xs
      = k0_pay4 (F := Ideal) i x1 x3 x4 x5 x2 xs := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs)]
  unfold kernelRun0_C
  dsimp only
  sl_unfold_words
  rw [View.canon_unit_zero zeros2]
  simp only [View.readAt_eq_ld, harg4.read_unread, harg5.read_unread, harg6.read_unread, harg7.read_unread, harg8.read_unread, harg11.read_unread,
    View.ld_unit_zero (S := S512x1024) zeros2, View.ld_unit_zero (S := S512x128) zeros2, View.ld_unit_zero (S := S1x1024x1408) zeros3, View.ld_unit_zero (S := S1x1408x1024) zeros3, pay1_eq]

/-- What the last point of a run writes back. -/
theorem out_C (hc0 : ¬cond0_0 i) (hc1 : cond0_1 i) :
    out0_C_7 c i arg3 harg3 arg4 harg4 arg5 harg5 arg6 harg6 arg7 harg7 arg8 harg8 arg9 harg9 arg10 harg10 arg11 harg11 hc0 hc1 x0 x1 x2 x3 x4 x5 x6 xs
      = k0_pay2 (F := Ideal) x0 (k0_pay4 (F := Ideal) i x1 x3 x4 x5 x2 xs) x6 := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs)]
  unfold kernelRun0_C
  dsimp only
  sl_unfold_words
  rw [View.canon_unit_zero zeros2, View.readCov_unit_zero (S := S512x1024) _ zeros2]
  simp only [View.readAt_eq_ld, harg3.read_unread, harg4.read_unread, harg5.read_unread, harg6.read_unread, harg7.read_unread, harg8.read_unread, harg9.read_unread, harg11.read_unread,
    View.ld_unit_zero (S := S512x1024) zeros2, View.ld_unit_zero (S := S512x128) zeros2, View.ld_unit_zero (S := S1x1024x1408) zeros3, View.ld_unit_zero (S := S1x1408x1024) zeros3, View.ld_unit_zero (S := S1x1024) zeros2, pay1_eq]

end Cert.Moe

end
-- ==== Proof.MoeArr.lean ====
/-
  The experts' call's whole result array.
-/
module

public import proofs.«01_k».proof.Proof.MoeBlock
public import Idealize.ShloMosaic.Lib.Claim

@[expose] public section

set_option maxRecDepth 16384

noncomputable section

namespace Cert.Moe

open Cert.Kernel6Ideal Cert.Kernel6Ideal.Gen Idealize.ShloMosaic Idealize.ShloMosaic.TcCoe Idealize.SL.Sem Cert.Layer
open Idealize.ShloMosaic.Pipeline (Dat)

section Entries

variable (x : FVec Ideal S16384x1024 .f32) (h : FVec Ideal S16384x1024 .bf16) (g : FVec Ideal S16384x128 .f32) (wg wu : FVec Ideal S8x1024x2816 .f32) (wd : FVec Ideal S8x2816x1024 .f32) (gn : FVec Ideal S1024 .f32)

/-- One hidden unit of one expert for one token. -/
def hid (n : Fin 16384) (e : Fin 8) (z : Fin 2816) : EReal :=
  unit (∑ k : Fin 1024, h (ix2 n k) * wg (ix3 e k z)) (∑ k : Fin 1024, h (ix2 n k) * wu (ix3 e k z))

/-- One half of the hidden units of one expert, times its gate: one entry of one row. -/
def half (n : Fin 16384) (y : Fin 1024) (e : Fin 8) (b : Fin 2) : EReal :=
  (∑ f : Fin 1408, hid h wg wu n e ⟨1408 * b.val + f.val, by omega⟩ * wd (ix3 e ⟨1408 * b.val + f.val, by omega⟩ y)) * g (ix2 n ⟨e.val, by omega⟩)

/-- The half that point `s` of a run adds: experts in order, the lower half first. -/
def piece (n : Fin 16384) (y : Fin 1024) (s : ℕ) : EReal :=
  half h g wg wu wd n y ⟨s % 16 / 2, by omega⟩ ⟨s % 2, by omega⟩

/-- One entry of the result. -/
def entry (n : Fin 16384) (y : Fin 1024) : EReal :=
  x (ix2 n y) + rms (fun y' => ∑ s ∈ Finset.range 16, piece h g wg wu wd n y' s) (gn (ix1 y)) y

/-- The result array as one function of the arguments. -/
def kArr : FVec Ideal S16384x1024 .f32 := fun i => entry x h g wg wu wd gn (i 0) (i 1)

end Entries

variable (m : (l : Loc nD τ sig) → Buf (Elt Ideal) l) (c : Dev nD)

/-- The gate weights that the kernel reads are the argument's. -/
theorem gate_w (e : Fin 8) (k : Fin 1024) (f : Fin 2816) :
    (V m c main_v0 : FVec Ideal S8x1024x2816 .bf16) (ix3 e k f) = (m ((c : Thread nD τ).loc main_arg3) : FVec Ideal S8x1024x2816 .f32) (ix3 e k f) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

/-- The second weights that the kernel reads are the argument's. -/
theorem up_w (e : Fin 8) (k : Fin 1024) (f : Fin 2816) :
    (V m c main_v1 : FVec Ideal S8x1024x2816 .bf16) (ix3 e k f) = (m ((c : Thread nD τ).loc main_arg4) : FVec Ideal S8x1024x2816 .f32) (ix3 e k f) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

/-- The last weights that the kernel reads are the argument's. -/
theorem down_w (e : Fin 8) (f : Fin 2816) (y : Fin 1024) :
    (V m c main_v2 : FVec Ideal S8x2816x1024 .bf16) (ix3 e f y) = (m ((c : Thread nD τ).loc main_arg5) : FVec Ideal S8x2816x1024 .f32) (ix3 e f y) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

/-- The gain that the kernel reads is the argument's. -/
theorem gain_w (y : Fin 1024) :
    (V m c main_v3 : FVec Ideal S1x1024 .f32) (ix2 0 y) = (m ((c : Thread nD τ).loc main_arg6) : FVec Ideal S1024 .f32) (ix1 y) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

theorem coord_1 : ∀ t : Fin cfg0.N, (grid0.coords t 1).val = t.val % 16 / 2 :=
  (by decide +kernel : ∀ t : Fin grid0.N, (grid0.coords t 1).val = t.val % 16 / 2)
theorem index_0 : ∀ t : Fin cfg0.N, win0_0.index t = ![t.val / 16, 0] :=
  (by decide +kernel : ∀ t : Fin grid0.N, win0_0.index t = ![t.val / 16, 0])
theorem index_1 : ∀ t : Fin cfg0.N, win0_1.index t = ![t.val / 16, 0] :=
  (by decide +kernel : ∀ t : Fin grid0.N, win0_1.index t = ![t.val / 16, 0])
theorem index_2 : ∀ t : Fin cfg0.N, win0_2.index t = ![t.val / 16, 0] :=
  (by decide +kernel : ∀ t : Fin grid0.N, win0_2.index t = ![t.val / 16, 0])
theorem index_3 : ∀ t : Fin cfg0.N, win0_3.index t = ![t.val % 16 / 2, 0, t.val % 2] :=
  (by decide +kernel : ∀ t : Fin grid0.N, win0_3.index t = ![t.val % 16 / 2, 0, t.val % 2])
theorem index_4 : ∀ t : Fin cfg0.N, win0_4.index t = ![t.val % 16 / 2, 0, t.val % 2] :=
  (by decide +kernel : ∀ t : Fin grid0.N, win0_4.index t = ![t.val % 16 / 2, 0, t.val % 2])
theorem index_5 : ∀ t : Fin cfg0.N, win0_5.index t = ![t.val % 16 / 2, t.val % 2, 0] :=
  (by decide +kernel : ∀ t : Fin grid0.N, win0_5.index t = ![t.val % 16 / 2, t.val % 2, 0])
theorem index_6 : ∀ t : Fin cfg0.N, win0_6.index t = ![0, 0] :=
  (by decide +kernel : ∀ t : Fin grid0.N, win0_6.index t = ![0, 0])
theorem index_7 : ∀ t : Fin cfg0.N, win0_7.index t = ![t.val / 16, 0] :=
  (by decide +kernel : ∀ t : Fin grid0.N, win0_7.index t = ![t.val / 16, 0])

/-- The result is written back at the last point of a run only. -/
theorem flush_last : ∀ t : Fin cfg0.N, (cfg0.win 7).flush t = true → t.val % 16 = 15 :=
  (by decide +kernel : ∀ t : Fin grid0.N, (cfg0.win 7).flush t = true → t.val % 16 = 15)

theorem read_x (t : Fin cfg0.N) (r : Fin 512) (y : Fin 1024) (n : Fin 16384) (hn : n.val = 512 * (t.val / 16) + r.val) :
    (iblk m c 0 t : Vec Ideal S512x1024 .f32) (ix2 r y) = (m ((c : Thread nD τ).loc main_arg0) : FVec Ideal S16384x1024 .f32) (ix2 n y) := by
  rw [← V_main_arg0 m c]
  blk_ext [iblk, index_0 t]

theorem read_h (t : Fin cfg0.N) (r : Fin 512) (y : Fin 1024) (n : Fin 16384) (hn : n.val = 512 * (t.val / 16) + r.val) :
    (iblk m c 1 t : Vec Ideal S512x1024 .bf16) (ix2 r y) = (m ((c : Thread nD τ).loc main_arg1) : FVec Ideal S16384x1024 .bf16) (ix2 n y) := by
  rw [← V_main_arg1 m c]
  blk_ext [iblk, index_1 t]

theorem read_gates (t : Fin cfg0.N) (r : Fin 512) (l : Fin 128) (n : Fin 16384) (hn : n.val = 512 * (t.val / 16) + r.val) :
    (iblk m c 2 t : Vec Ideal S512x128 .f32) (ix2 r l) = (m ((c : Thread nD τ).loc main_arg2) : FVec Ideal S16384x128 .f32) (ix2 n l) := by
  rw [← V_main_arg2 m c]
  blk_ext [iblk, index_2 t]

theorem read_gate (t : Fin cfg0.N) (k : Fin 1024) (f : Fin 1408) (e : Fin 8) (z : Fin 2816) (he : e.val = t.val % 16 / 2) (hz : z.val = 1408 * (t.val % 2) + f.val) :
    (iblk m c 3 t : Vec Ideal S1x1024x1408 .bf16) (ix3 0 k f) = (m ((c : Thread nD τ).loc main_arg3) : FVec Ideal S8x1024x2816 .f32) (ix3 e k z) := by
  rw [← gate_w m c]
  blk_ext [iblk, index_3 t]

theorem read_up (t : Fin cfg0.N) (k : Fin 1024) (f : Fin 1408) (e : Fin 8) (z : Fin 2816) (he : e.val = t.val % 16 / 2) (hz : z.val = 1408 * (t.val % 2) + f.val) :
    (iblk m c 4 t : Vec Ideal S1x1024x1408 .bf16) (ix3 0 k f) = (m ((c : Thread nD τ).loc main_arg4) : FVec Ideal S8x1024x2816 .f32) (ix3 e k z) := by
  rw [← up_w m c]
  blk_ext [iblk, index_4 t]

theorem read_down (t : Fin cfg0.N) (f : Fin 1408) (y : Fin 1024) (e : Fin 8) (z : Fin 2816) (he : e.val = t.val % 16 / 2) (hz : z.val = 1408 * (t.val % 2) + f.val) :
    (iblk m c 5 t : Vec Ideal S1x1408x1024 .bf16) (ix3 0 f y) = (m ((c : Thread nD τ).loc main_arg5) : FVec Ideal S8x2816x1024 .f32) (ix3 e z y) := by
  rw [← down_w m c]
  blk_ext [iblk, index_5 t]

theorem read_gain (t : Fin cfg0.N) (y : Fin 1024) :
    (iblk m c 6 t : Vec Ideal S1x1024 .f32) (ix2 0 y) = (m ((c : Thread nD τ).loc main_arg6) : FVec Ideal S1024 .f32) (ix1 y) := by
  rw [← gain_w m c]
  blk_ext [iblk, index_6 t]

/-- What point `t` adds to the running sum. -/
theorem step (t : Fin cfg0.N) (o : Vec Ideal S512x1024 .f32) (r : Fin 512) (y : Fin 1024) (n : Fin 16384) (hn : n.val = 512 * (t.val / 16) + r.val) :
    k0_pay4 (F := Ideal) (grid0.coords t) (iblk m c 1 t) (iblk m c 3 t) (iblk m c 4 t) (iblk m c 5 t) (iblk m c 2 t) o (ix2 r y)
      = o (ix2 r y) + piece (m ((c : Thread nD τ).loc main_arg1)) (m ((c : Thread nD τ).loc main_arg2)) (m ((c : Thread nD τ).loc main_arg3)) (m ((c : Thread nD τ).loc main_arg4)) (m ((c : Thread nD τ).loc main_arg5)) n y t.val := by
  rw [pay4_apply (grid0.coords t) ⟨t.val % 16 / 2, by omega⟩ (coord_1 t)]
  unfold piece half hid
  rw [read_gates m c t r _ n hn]
  refine congrArg (fun z : EReal => o (ix2 r y) + z * _) (Finset.sum_congr rfl fun f _ => ?_)
  rw [read_down m c t f y ⟨t.val % 16 / 2, by omega⟩ ⟨1408 * (t.val % 2) + f.val, by omega⟩ rfl rfl]
  refine congrArg (· * _) (congrArg₂ unit (Finset.sum_congr rfl fun k _ => ?_) (Finset.sum_congr rfl fun k _ => ?_))
  · rw [read_h m c t r k n hn, read_gate m c t k f ⟨t.val % 16 / 2, by omega⟩ ⟨1408 * (t.val % 2) + f.val, by omega⟩ rfl rfl]
  · rw [read_h m c t r k n hn, read_up m c t k f ⟨t.val % 16 / 2, by omega⟩ ⟨1408 * (t.val % 2) + f.val, by omega⟩ rfl rfl]

/-- A piece depends on its point's place in the run alone. -/
theorem piece_run (h : FVec Ideal S16384x1024 .bf16) (g : FVec Ideal S16384x128 .f32) (wg wu : FVec Ideal S8x1024x2816 .f32) (wd : FVec Ideal S8x2816x1024 .f32) (n : Fin 16384) (y : Fin 1024) (q s : ℕ) :
    piece h g wg wu wd n y (16 * q + s) = piece h g wg wu wd n y s := by
  have e1 : (⟨(16 * q + s) % 16 / 2, by omega⟩ : Fin 8) = ⟨s % 16 / 2, by omega⟩ := Fin.ext (by dsimp only; omega)
  have e2 : (⟨(16 * q + s) % 2, by omega⟩ : Fin 2) = ⟨s % 2, by omega⟩ := Fin.ext (by dsimp only; omega)
  unfold piece
  rw [e1, e2]

/-- The running sum after point `s` of run `q` is the sum of the pieces so far. -/
theorem running (q : ℕ) (r : Fin 512) (y : Fin 1024) (n : Fin 16384) (hn : n.val = 512 * q + r.val) :
    ∀ (s : ℕ) (_ : s < 16) (hb : 16 * q + s < cfg0.N),
      (outsAt0 m c (16 * q + s) hb).2 (ix2 r y)
        = ∑ k ∈ Finset.range (s + 1), piece (m ((c : Thread nD τ).loc main_arg1)) (m ((c : Thread nD τ).loc main_arg2)) (m ((c : Thread nD τ).loc main_arg3)) (m ((c : Thread nD τ).loc main_arg4)) (m ((c : Thread nD τ).loc main_arg5)) n y k
  | 0, _, hb => by
    have h0 : (⟨16 * q + 0, hb⟩ : Fin cfg0.N).val % 16 = 0 := by dsimp only; omega
    have h1 : ¬(⟨16 * q + 0, hb⟩ : Fin cfg0.N).val % 16 = 15 := by dsimp only; omega
    rw [outsAt0_A m c ⟨16 * q + 0, hb⟩ h0 h1]
    dsimp only
    rw [sum_A, step m c ⟨16 * q + 0, hb⟩ _ r y n (by dsimp only; omega), pay3_apply, zero_add, Finset.sum_range_one]
    exact piece_run _ _ _ _ _ n y q 0
  | s + 1, hs, hb => by
    have ih := running q r y n hn s (by omega) (Nat.lt_of_succ_lt hb)
    have h0 : ¬(⟨16 * q + (s + 1), hb⟩ : Fin cfg0.N).val % 16 = 0 := by dsimp only; omega
    rw [Finset.sum_range_succ, ← ih]
    by_cases h1 : (⟨16 * q + (s + 1), hb⟩ : Fin cfg0.N).val % 16 = 15
    · rw [outsAt0_C m c ⟨16 * q + (s + 1), hb⟩ h0 h1]
      dsimp only
      rw [sum_C, step m c ⟨16 * q + (s + 1), hb⟩ _ r y n (by dsimp only; omega)]
      rw [piece_run]
      rfl
    · rw [outsAt0_B m c ⟨16 * q + (s + 1), hb⟩ h0 h1]
      dsimp only
      rw [sum_B, step m c ⟨16 * q + (s + 1), hb⟩ _ r y n (by dsimp only; omega)]
      rw [piece_run]
      rfl

/-- What the last point of a run writes back is the result array's block. -/
theorem block_eq (t : Fin cfg0.N) (ht : t.val % 16 = 15) (r : Fin 512) (y : Fin 1024) (n : Fin 16384) (hn : n.val = 512 * (t.val / 16) + r.val) :
    (outsAt0 m c t.val t.isLt).1 (ix2 r y)
      = entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n y := by
  have h0 : ¬t.val % 16 = 0 := by omega
  have hsum : ∀ y' : Fin 1024, (outsAt0 m c t.val t.isLt).2 (ix2 r y')
      = ∑ k ∈ Finset.range 16, piece (m ((c : Thread nD τ).loc main_arg1)) (m ((c : Thread nD τ).loc main_arg2)) (m ((c : Thread nD τ).loc main_arg3)) (m ((c : Thread nD τ).loc main_arg4)) (m ((c : Thread nD τ).loc main_arg5)) n y' k := by
    intro y'
    have hq : 16 * (t.val / 16) + 15 = t.val := by omega
    have key := running m c (t.val / 16) r y' n hn 15 (by omega) (lt_of_eq_of_lt hq t.isLt)
    simp only [hq] at key
    exact key
  rw [outsAt0_C m c t h0 ht] at hsum ⊢
  dsimp only at hsum ⊢
  rw [sum_C] at hsum
  rw [out_C, pay2_apply]
  unfold entry
  rw [read_x m c t r y n hn, read_gain]
  refine congrArg (fun z => _ + rms z _ y) (funext hsum)

/-- The result array after the kernel has run. -/
theorem arr_eq : (dats m 0 c).arrAt 7 cfg0.N
    = kArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  have ey : y = ix2 (y 0) (y 1) := by
    funext a
    match a with
    | ⟨0, _⟩ => rfl
    | ⟨1, _⟩ => rfl
  have e1 : ((win0_7.blk t).view.emb y 1 : Fin 1024) = y 1 := Fin.ext (by
    blk_simp [index_7 t])
  rw [ey] at e1 ⊢
  refine (block_eq m c t (flush_last t hf) (y 0) (y 1) ((win0_7.blk t).view.emb (ix2 (y 0) (y 1)) 0) ?_).trans ?_
  · blk_simp [index_7 t]
    pointwise
    omega
  · exact congrArg (entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ((win0_7.blk t).view.emb (ix2 (y 0) (y 1)) 0)) e1.symm

end Cert.Moe

end
-- ==== Proof.MoeRef.lean ====
/-
  The experts' reference's result, entry by entry.
-/
module

public import proofs.«01_k».proof.Proof.FfnRef
public import proofs.«01_k».proof.Proof.Gen.Reference6Ideal.Run
public import Idealize.ShloMosaic.Lib.ValueIdx

@[expose] public section

set_option maxRecDepth 16384

noncomputable section

namespace Cert.MoeRef

open Cert.Reference6Ideal Cert.Reference6Ideal.Gen Idealize.ShloMosaic Idealize.ShloMosaic.TcCoe Idealize.SL.Sem Cert.Layer Cert.FfnRef

/-- One expert's weights into the hidden units. -/
def inMat (e : ℕ) (he : S8x1024x2816.Slices ![e, 0, 0] S1x1024x2816) (w : FVec Ideal S8x1024x2816 .f32) : FVec Ideal S1024x2816 .f32 :=
  shapeCast S1024x2816 (extractStridedSlice S1x1024x2816 ![e, 0, 0] w he) shapeCasts_S1x1024x2816_S1024x2816

theorem inMat_apply (e : Fin 8) (he : S8x1024x2816.Slices ![e.val, 0, 0] S1x1024x2816) (w : FVec Ideal S8x1024x2816 .f32) (k : Fin 1024) (f : Fin 2816) :
    inMat e.val he w (ix2 k f) = w (ix3 e k f) := by
  pointwise [inMat]

/-- One expert's weights out of the hidden units. -/
def outMat (e : ℕ) (he : S8x2816x1024.Slices ![e, 0, 0] S1x2816x1024) (w : FVec Ideal S8x2816x1024 .f32) : FVec Ideal S2816x1024 .f32 :=
  shapeCast S2816x1024 (extractStridedSlice S1x2816x1024 ![e, 0, 0] w he) shapeCasts_S1x2816x1024_S2816x1024

theorem outMat_apply (e : Fin 8) (he : S8x2816x1024.Slices ![e.val, 0, 0] S1x2816x1024) (w : FVec Ideal S8x2816x1024 .f32) (f : Fin 2816) (y : Fin 1024) :
    outMat e.val he w (ix2 f y) = w (ix3 e f y) := by
  pointwise [outMat]

/-- Every row times its expert's gate. -/
def gated (e : ℕ) (he : S16384x128.Slices ![0, e] S16384x1) (g : FVec Ideal S16384x128 .f32) (u : FVec Ideal S16384x1024 .f32) : FVec Ideal S16384x1024 .f32 :=
  mulf (broadcastInDim S16384x1024 ![0, 1] bcast_S16384x1_S16384x1024_0_1 (extractStridedSlice S16384x1 ![0, e] g he)) u

theorem gated_apply (e : Fin 8) (he : S16384x128.Slices ![0, e.val] S16384x1) (g : FVec Ideal S16384x128 .f32) (u : FVec Ideal S16384x1024 .f32) (n : Fin 16384) (y : Fin 1024) :
    gated e.val he g u (ix2 n y) = g (ix2 n ⟨e.val, by omega⟩) * u (ix2 n y) := by
  pointwise [gated]

variable (x : FVec Ideal S16384x1024 .f32) (h : FVec Ideal S16384x1024 .bf16) (g : FVec Ideal S16384x128 .f32) (wg wu : FVec Ideal S8x1024x2816 .f32) (wd : FVec Ideal S8x2816x1024 .f32) (gn : FVec Ideal S1024 .f32)

/-- One expert's rows times their gates. -/
def expert (e : ℕ) (h1 : S16384x128.Slices ![0, e] S16384x1) (h2 : S8x1024x2816.Slices ![e, 0, 0] S1x1024x2816) (h3 : S8x2816x1024.Slices ![e, 0, 0] S1x2816x1024) : FVec Ideal S16384x1024 .f32 :=
  gated e h1 g (downArr (unitArr (dotArr h (inMat e h2 wg)) (dotArr h (inMat e h2 wu))) (outMat e h3 wd))

/-- One expert's share of one entry of one row. -/
def share (n : Fin 16384) (y : Fin 1024) (e : Fin 8) : EReal :=
  g (ix2 n ⟨e.val, by omega⟩) * ∑ f : Fin 2816, unit (∑ k : Fin 1024, h (ix2 n k) * wg (ix3 e k f)) (∑ k : Fin 1024, h (ix2 n k) * wu (ix3 e k f)) * wd (ix3 e f y)

theorem expert_apply (e : Fin 8) (h1 : S16384x128.Slices ![0, e.val] S16384x1) (h2 : S8x1024x2816.Slices ![e.val, 0, 0] S1x1024x2816) (h3 : S8x2816x1024.Slices ![e.val, 0, 0] S1x2816x1024) (n : Fin 16384) (y : Fin 1024) :
    expert h g wg wu wd e.val h1 h2 h3 (ix2 n y) = share h g wg wu wd n y e := by
  unfold expert share
  rw [gated_apply, downArr_apply]
  simp only [unitArr_apply, dotArr_apply, inMat_apply, outMat_apply]

/-- The eight experts' rows, added up from zero. -/
def sumArr : FVec Ideal S16384x1024 .f32 :=
  addf (addf (addf (addf (addf (addf (addf (addf (broadcastInDim S16384x1024 ![] bcast_S_S16384x1024 (constant S_ .f32 0x00000000#32))
    (expert h g wg wu wd 0 slices_S16384x128_S16384x1_0_0 slices_S8x1024x2816_S1x1024x2816_0_0_0 slices_S8x2816x1024_S1x2816x1024_0_0_0))
    (expert h g wg wu wd 1 slices_S16384x128_S16384x1_0_1 slices_S8x1024x2816_S1x1024x2816_1_0_0 slices_S8x2816x1024_S1x2816x1024_1_0_0))
    (expert h g wg wu wd 2 slices_S16384x128_S16384x1_0_2 slices_S8x1024x2816_S1x1024x2816_2_0_0 slices_S8x2816x1024_S1x2816x1024_2_0_0))
    (expert h g wg wu wd 3 slices_S16384x128_S16384x1_0_3 slices_S8x1024x2816_S1x1024x2816_3_0_0 slices_S8x2816x1024_S1x2816x1024_3_0_0))
    (expert h g wg wu wd 4 slices_S16384x128_S16384x1_0_4 slices_S8x1024x2816_S1x1024x2816_4_0_0 slices_S8x2816x1024_S1x2816x1024_4_0_0))
    (expert h g wg wu wd 5 slices_S16384x128_S16384x1_0_5 slices_S8x1024x2816_S1x1024x2816_5_0_0 slices_S8x2816x1024_S1x2816x1024_5_0_0))
    (expert h g wg wu wd 6 slices_S16384x128_S16384x1_0_6 slices_S8x1024x2816_S1x1024x2816_6_0_0 slices_S8x2816x1024_S1x2816x1024_6_0_0))
    (expert h g wg wu wd 7 slices_S16384x128_S16384x1_0_7 slices_S8x1024x2816_S1x1024x2816_7_0_0 slices_S8x2816x1024_S1x2816x1024_7_0_0)

theorem zeroArr_apply (n : Fin 16384) (y : Fin 1024) :
    (broadcastInDim S16384x1024 ![] bcast_S_S16384x1024 (constant S_ .f32 0x00000000#32) : FVec Ideal S16384x1024 .f32) (ix2 n y) = (0 : EReal) := by
  pointwise

theorem sumArr_apply (n : Fin 16384) (y : Fin 1024) :
    sumArr h g wg wu wd (ix2 n y) = ∑ e : Fin 8, share h g wg wu wd n y e := by
  have e0 := expert_apply h g wg wu wd 0 slices_S16384x128_S16384x1_0_0 slices_S8x1024x2816_S1x1024x2816_0_0_0 slices_S8x2816x1024_S1x2816x1024_0_0_0 n y
  have e1 := expert_apply h g wg wu wd 1 slices_S16384x128_S16384x1_0_1 slices_S8x1024x2816_S1x1024x2816_1_0_0 slices_S8x2816x1024_S1x2816x1024_1_0_0 n y
  have e2 := expert_apply h g wg wu wd 2 slices_S16384x128_S16384x1_0_2 slices_S8x1024x2816_S1x1024x2816_2_0_0 slices_S8x2816x1024_S1x2816x1024_2_0_0 n y
  have e3 := expert_apply h g wg wu wd 3 slices_S16384x128_S16384x1_0_3 slices_S8x1024x2816_S1x1024x2816_3_0_0 slices_S8x2816x1024_S1x2816x1024_3_0_0 n y
  have e4 := expert_apply h g wg wu wd 4 slices_S16384x128_S16384x1_0_4 slices_S8x1024x2816_S1x1024x2816_4_0_0 slices_S8x2816x1024_S1x2816x1024_4_0_0 n y
  have e5 := expert_apply h g wg wu wd 5 slices_S16384x128_S16384x1_0_5 slices_S8x1024x2816_S1x1024x2816_5_0_0 slices_S8x2816x1024_S1x2816x1024_5_0_0 n y
  have e6 := expert_apply h g wg wu wd 6 slices_S16384x128_S16384x1_0_6 slices_S8x1024x2816_S1x1024x2816_6_0_0 slices_S8x2816x1024_S1x2816x1024_6_0_0 n y
  have e7 := expert_apply h g wg wu wd 7 slices_S16384x128_S16384x1_0_7 slices_S8x1024x2816_S1x1024x2816_7_0_0 slices_S8x2816x1024_S1x2816x1024_7_0_0 n y
  rw [Fin.sum_univ_eight, ← e0, ← e1, ← e2, ← e3, ← e4, ← e5, ← e6, ← e7]
  refine Eq.trans (b := (broadcastInDim S16384x1024 ![] bcast_S_S16384x1024 (constant S_ .f32 0x00000000#32) : FVec Ideal S16384x1024 .f32) (ix2 n y) + _ + _ + _ + _ + _ + _ + _ + _) rfl ?_
  rw [zeroArr_apply, zero_add]
  rfl

/-- The reference's result array. -/
def refArr : FVec Ideal S16384x1024 .f32 :=
  addf x (normArr (sumArr h g wg wu wd) gn)

theorem refArr_apply (n : Fin 16384) (y : Fin 1024) :
    refArr x h g wg wu wd gn (ix2 n y)
      = x (ix2 n y) + rms (fun y' => ∑ e : Fin 8, share h g wg wu wd n y' e) (gn (ix1 y)) y := by
  show x (ix2 n y) + normArr _ gn (ix2 n y) = _
  rw [normArr_apply]
  simp only [sumArr_apply]

/-- The experts' sum in the reference's run is the sum above. -/
theorem sum_eq (V0 : Valuation τ sig (Elt Ideal)) :
    Value.res_main_v121 V0 = sumArr (V0 (Proc.devRef .tc main_arg1)) (V0 (Proc.devRef .tc main_arg2)) (V0 (Proc.devRef .tc main_arg3)) (V0 (Proc.devRef .tc main_arg4)) (V0 (Proc.devRef .tc main_arg5)) := by
  rfl

end Cert.MoeRef

end
-- ==== Proof.MoePre.lean ====
/-
  What the second precondition says of the gates: none is infinite.
-/
module

public import proofs.«01_k».proof.Pre_real_gates
public import proofs.«01_k».proof.Proof.AttnPre
public import Idealize.ShloMosaic.Lib.Claim

@[expose] public section

set_option maxRecDepth 16384

noncomputable section

namespace Cert.MoePre

open Cert.Pre_real_gates Cert.Pre_real_gates.Facts Idealize.ShloMosaic Cert.Attn Cert.AttnPre

/-- The shapes that the precondition's operations name fit together. -/
theorem facts : Cert.Pre_real_gates.Facts where
  slices_S16384x128_S16384x8_0_0 := by decide
  bcast_S_S16384x8 := by decide
  reducesTo_S16384x8_S_d0_1 := by decide
  h_S_ := by decide

variable [Cert.Pre_real_gates.Facts]

/-- Under the precondition every gate of every token is a real number. -/
theorem gates (x : FVec Ideal S16384x1024 .f32) (h : FVec Ideal S16384x1024 .bf16) (g : FVec Ideal S16384x128 .f32) (wg wu : FVec Ideal S8x1024x2816 .f32) (wd : FVec Ideal S8x2816x1024 .f32) (gn : FVec Ideal S1024 .f32)
    (hp : fn x h g wg wu wd gn = fun _ => 1#1) (n : Fin 16384) (e : Fin 8) :
    g (ix2 n ⟨e.val, by omega⟩) ≠ (⊥ : EReal) ∧ g (ix2 n ⟨e.val, by omega⟩) ≠ (⊤ : EReal) := by
  have h1 := congrFun hp (fun i => i.elim0)
  unfold fn at h1
  dsimp only at h1
  rw [Host.reduce_eq_fold] at h1
  have h2 := fold_and _ _ h1 (ix2 n e) (Finset.mem_filter.mpr ⟨Finset.mem_univ _, funext fun i => i.elim0⟩)
  refine bounds _ (Eq.trans ?_ h2)
  rw [← ofBits_neg_inf, ← ofBits_pos_inf]
  pointwise

end Cert.MoePre

end
-- ==== Proof.MoeMath.lean ====
/-
  The arithmetic of the experts' gates on the extended reals: sums that agree or are both infinite, and what a row's
  normalisation makes of them.
-/
module

public import proofs.«01_k».proof.Proof.LayerMath

@[expose] public section

set_option maxRecDepth 16384

noncomputable section

namespace Cert.MoeMath

open Idealize.ShloMosaic Cert.Layer

/-- The number is one of the two infinities. -/
def Infinite (a : EReal) : Prop := a = ⊤ ∨ a = ⊥

/-- The numbers are equal, or both are infinite. -/
def Alike (a b : EReal) : Prop := a = b ∨ Infinite a ∧ Infinite b

theorem infinite_add_left {a : EReal} (h : Infinite a) (c : EReal) : Infinite (a + c) := by
  unfold Infinite at *
  rcases h with rfl | rfl
  · induction c with
    | bot => right; rfl
    | coe r => left; rfl
    | top => left; rfl
  · right; exact EReal.bot_add c

theorem infinite_add_right {a : EReal} (h : Infinite a) (c : EReal) : Infinite (c + a) := by
  rw [add_comm]
  exact infinite_add_left h c

theorem alike_add {a b c d : EReal} (h : Alike a b) (h' : Alike c d) : Alike (a + c) (b + d) := by
  rcases h with rfl | ⟨ha, hb⟩
  · rcases h' with rfl | ⟨hc, hd⟩
    · exact Or.inl rfl
    · exact Or.inr ⟨infinite_add_right hc _, infinite_add_right hd _⟩
  · exact Or.inr ⟨infinite_add_left ha _, infinite_add_left hb _⟩

theorem alike_sum {ι : Type} [DecidableEq ι] (s : Finset ι) (f f' : ι → EReal) (h : ∀ i, Alike (f i) (f' i)) : Alike (∑ i ∈ s, f i) (∑ i ∈ s, f' i) := by
  induction s using Finset.induction_on with
  | empty => exact Or.inl rfl
  | insert a u ha ih =>
    rw [Finset.sum_insert ha, Finset.sum_insert ha]
    exact alike_add (h a) ih

theorem infinite_mul {g : ℝ} (hg : g ≠ 0) {a : EReal} (h : Infinite a) : Infinite ((g : EReal) * a) := by
  unfold Infinite at *
  rcases lt_or_gt_of_ne hg with hn | hp
  · rcases h with rfl | rfl
    · right; exact EReal.coe_mul_top_of_neg hn
    · left; exact EReal.coe_mul_bot_of_neg hn
  · rcases h with rfl | rfl
    · left; exact EReal.coe_mul_top_of_pos hp
    · right; exact EReal.coe_mul_bot_of_pos hp

/-- A real factor before a sum and at each of its terms: the same, up to the sign of an infinity. -/
theorem alike_gate (g a b : EReal) (h : g ≠ ⊥) (h' : g ≠ ⊤) : Alike (g * (a + b)) (g * a + g * b) := by
  lift g to ℝ using ⟨h', h⟩
  by_cases hg : g = 0
  · subst hg
    left
    simp
  by_cases ha : Infinite a
  · exact Or.inr ⟨infinite_mul hg (infinite_add_left ha b), infinite_add_left (infinite_mul hg ha) _⟩
  by_cases hb : Infinite b
  · exact Or.inr ⟨infinite_mul hg (infinite_add_right hb a), infinite_add_right (infinite_mul hg hb) _⟩
  unfold Infinite at ha hb
  push Not at ha hb
  lift a to ℝ using ha
  lift b to ℝ using hb
  left
  norm_cast
  exact mul_add g a b

theorem square_nonneg (a : EReal) : 0 ≤ a * a := by
  induction a with
  | bot => rw [EReal.bot_mul_bot]; exact le_top
  | coe r => exact_mod_cast mul_self_nonneg r
  | top => rw [EReal.top_mul_top]; exact le_top

/-- A row with an infinite entry is normalised to zero. -/
theorem rms_infinite (o : Fin 1024 → EReal) (g : EReal) (x k : Fin 1024) (h : Infinite (o k)) : rms o g x = 0 := by
  have hk : o k * o k = ⊤ := by
    rcases h with h | h <;> rw [h] <;> rfl
  have hs : ∑ j, o j * o j = ⊤ := by
    refine top_le_iff.mp ?_
    rw [← hk]
    exact Finset.single_le_sum (f := fun j => o j * o j) (fun j _ => square_nonneg (o j)) (Finset.mem_univ k)
  have hc : Ideal.div ⊤ (Ideal.ofBits .f32 0x44800000#32) = ⊤ := by
    have e : Ideal.ofBits .f32 0x44800000#32 = ((1024 : ℝ) : EReal) := by
      simp [Ideal.ofBits, Ideal.ieee]
      norm_cast
      norm_num
    rw [e]
    simp only [Ideal.div]
    norm_num
    first
      | done
      | (rw [← EReal.coe_inv]; exact EReal.top_mul_coe_of_pos (by norm_num))
  have he : (⊤ : EReal) + Ideal.ofBits .f32 0x358637BD#32 = ⊤ := by
    refine EReal.top_add_of_ne_bot ?_
    simp only [Ideal.ofBits, Ideal.ieee]
    first
      | exact EReal.coe_ne_bot _
      | (simp; exact_mod_cast EReal.coe_ne_bot _)
  unfold rms
  rw [hs, hc, he, Ideal.rsqrt_top, mul_zero, zero_mul]

/-- Rows whose entries agree or are both infinite have the same normalisation. -/
theorem rms_alike (o o' : Fin 1024 → EReal) (g : EReal) (x : Fin 1024) (h : ∀ k, Alike (o k) (o' k)) : rms o g x = rms o' g x := by
  by_cases hk : ∃ k, Infinite (o k) ∧ Infinite (o' k)
  · obtain ⟨k, h1, h2⟩ := hk
    rw [rms_infinite o g x k h1, rms_infinite o' g x k h2]
  · have e : o = o' := funext fun k => (h k).resolve_right fun hh => hk ⟨k, hh⟩
    rw [e]

end Cert.MoeMath

end
-- ==== Proof.MoeClaim.lean ====
/-
  The claims about the experts' call.
-/
module

public import proofs.«01_k».proof.Defs
public import proofs.«01_k».proof.Proof.Gen.Kernel6.Frame
public import proofs.«01_k».proof.Proof.Gen.Kernel6Ideal.Frame
public import proofs.«01_k».proof.Proof.MoeArr
public import proofs.«01_k».proof.Proof.MoeRef
public import proofs.«01_k».proof.Proof.MoePre
public import proofs.«01_k».proof.Proof.MoeMath

@[expose] public section

set_option maxRecDepth 16384

noncomputable section

namespace Cert.MoeClaim

open Idealize.ShloMosaic Idealize.SL.Sem Cert.Layer Cert.MoeMath

/-- The reference runs, keeps its arguments and leaves every counter at zero. -/
theorem reference_frame (m : (ℓ : Loc Cert.Reference6Ideal.nD Cert.Reference6Ideal.τ Cert.Reference6Ideal.sig) → Buf (Elt Ideal) ℓ)
    (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0) :=
  (θ_run _ _ _).mono (fun r h => ⟨fun c => (h c).2, sem_eq_zero_of_no_sems rfl r.2⟩) (Cert.Reference6Ideal.Value.run (F := Ideal) m ρ)

section Entries

variable (x : FVec Ideal ⟨2, ![16384, 1024]⟩ .f32) (h : FVec Ideal ⟨2, ![16384, 1024]⟩ .bf16) (g : FVec Ideal ⟨2, ![16384, 128]⟩ .f32) (wg wu : FVec Ideal ⟨3, ![8, 1024, 2816]⟩ .f32) (wd : FVec Ideal ⟨3, ![8, 2816, 1024]⟩ .f32) (gn : FVec Ideal ⟨1, ![1024]⟩ .f32)
  (hg : ∀ (n : Fin 16384) (e : Fin 8), g (ix2 n ⟨e.val, by omega⟩) ≠ (⊥ : EReal) ∧ g (ix2 n ⟨e.val, by omega⟩) ≠ (⊤ : EReal))

include hg in
/-- With a real gate, an expert's share is the sum of its two halves, or both are infinite. -/
theorem share_halves (n : Fin 16384) (y : Fin 1024) (e : Fin 8) :
    Alike (Cert.MoeRef.share h g wg wu wd n y e) (Cert.Moe.half h g wg wu wd n y e 0 + Cert.Moe.half h g wg wu wd n y e 1) := by
  unfold Cert.MoeRef.share Cert.Moe.half
  rw [sum_halves, mul_comm (∑ f : Fin 1408, _) (g _), mul_comm (∑ f : Fin 1408, _) (g _)]
  have e0 : ∀ f : Fin 1408, (⟨f.val, by omega⟩ : Fin 2816) = ⟨1408 * (0 : Fin 2).val + f.val, by have := f.isLt; simp; omega⟩ := fun f => Fin.ext (by simp)
  have e1 : ∀ f : Fin 1408, (⟨1408 + f.val, by omega⟩ : Fin 2816) = ⟨1408 * (1 : Fin 2).val + f.val, by have := f.isLt; simp; omega⟩ := fun f => Fin.ext (by simp)
  simp only [e0, e1]
  exact alike_gate _ _ _ (hg n e).1 (hg n e).2

/-- The sixteen halves in the kernel's order, expert by expert. -/
theorem sum_pieces (n : Fin 16384) (y : Fin 1024) :
    ∑ s ∈ Finset.range 16, Cert.Moe.piece h g wg wu wd n y s = ∑ e : Fin 8, (Cert.Moe.half h g wg wu wd n y e 0 + Cert.Moe.half h g wg wu wd n y e 1) := by
  rw [Fin.sum_univ_eight]
  simp only [Finset.sum_range_succ, Finset.sum_range_zero, zero_add, ← add_assoc]
  rfl

include hg in
/-- The eight experts' shares are the sixteen halves, or both sums are infinite. -/
theorem sum_shares (n : Fin 16384) (y : Fin 1024) :
    Alike (∑ e : Fin 8, Cert.MoeRef.share h g wg wu wd n y e) (∑ s ∈ Finset.range 16, Cert.Moe.piece h g wg wu wd n y s) := by
  rw [sum_pieces]
  exact alike_sum _ _ _ (share_halves h g wg wu wd hg n y)

include hg in
/-- The reference's array is the kernel's. -/
theorem arr_ref : Cert.MoeRef.refArr x h g wg wu wd gn = Cert.Moe.kArr x h g wg wu wd gn := by
  funext i
  obtain ⟨n, y, rfl⟩ : ∃ (n : Fin 16384) (y : Fin 1024), i = ix2 n y := ⟨i 0, i 1, by
    funext a
    match a with
    | ⟨0, _⟩ => rfl
    | ⟨1, _⟩ => rfl⟩
  rw [Cert.MoeRef.refArr_apply]
  show _ = Cert.Moe.entry x h g wg wu wd gn n y
  unfold Cert.Moe.entry
  exact congrArg (x (ix2 n y) + ·) (rms_alike _ _ _ y fun y' => sum_shares h g wg wu wd hg n y')

end Entries

/-- The kernel's results are the reference's, from equal arguments whose gates are real. -/
theorem value : Cert.algebraic_Kernel6Ideal_Reference6Ideal_pre_real_gates (hKernel6Ideal := Cert.Kernel6Ideal.Gen.facts) (hReference6Ideal := Cert.Reference6Ideal.Gen.facts) (hPre_real_gates := Cert.MoePre.facts) := by
  intro m ρ m' ρ' hp ha
  refine ⟨_, Cert.Kernel6Ideal.Value.run_blocks (F := Ideal) m ρ, ?_⟩
  refine (θ_run _ _ _).mono (fun r h c => ⟨(h c).1.trans ?_, (h c).2⟩) (Cert.Reference6Ideal.Value.run (F := Ideal) m' ρ')
  obtain ⟨h0, h1, h2, h3, h4, h5, h6⟩ := ha c
  have hg := @Cert.MoePre.gates Cert.MoePre.facts _ _ _ _ _ _ _ (hp c)
  rw [Cert.Moe.arr_eq, Cert.MoeRef.sum_eq]
  show Cert.MoeRef.refArr (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) = _
  rw [h0, h1, h2, h3, h4, h5, h6]
  exact arr_ref _ _ _ _ _ _ _ hg

end Cert.MoeClaim

end
-- ==== Proof.RouteMath.lean ====
/-
  The arithmetic of the routing: the two greatest of eight logits, the lanes that hold them, and their two gates.
-/
module

public import proofs.«01_k».proof.Proof.MoeMath
public import Idealize.ShloMosaic.Lib.SortPrefix

@[expose] public section

set_option maxRecDepth 16384

noncomputable section

namespace Cert.RouteMath

open Idealize.ShloMosaic Cert.Layer Cert.MoeMath

/-- A natural number as an extended real. -/
def num (n : ℕ) : EReal := ((n : ℝ) : EReal)

theorem num_inj {a b : ℕ} : num a = num b ↔ a = b := by
  unfold num
  rw [EReal.coe_eq_coe_iff, Nat.cast_inj]

theorem num_le {a b : ℕ} : num a ≤ num b ↔ a ≤ b := by
  unfold num
  rw [EReal.coe_le_coe_iff, Nat.cast_le]

theorem num_lt {a b : ℕ} : num a < num b ↔ a < b := by
  unfold num
  rw [EReal.coe_lt_coe_iff, Nat.cast_lt]

/-! ## The two greatest of eight -/

variable (L : Fin 8 → EReal)

/-- The first expert's logit is the greater. -/
def before (k k' : Fin 8) : Bool := decide (L k' < L k)

/-- The first expert's logit is the greater, or they are equal and it comes first. -/
def lex (k k' : Fin 8) : Bool := decide (L k' < L k) || (decide (L k = L k') && decide (k < k'))

/-- The expert with the greatest logit, the earliest of equals. -/
def first : Fin 8 := sortedFrom (before L) 0

/-- The next one. -/
def second : Fin 8 := sortedFrom (before L) 1

theorem lex_total : StrictTotalBefore (lex L) :=
  StrictTotalBefore.of_key_then_position (fun a b : EReal => decide (b < a)) L (fun a => by simp)
    (fun a b c h h' => by
      simp only [decide_eq_true_eq] at *
      exact lt_trans h' h)
    (fun a b => by
      simp only [decide_eq_true_eq]
      rcases lt_trichotomy a b with h | h | h
      · exact Or.inr (Or.inr h)
      · exact Or.inr (Or.inl h)
      · exact Or.inl h)

theorem insert_congr {R R' : Fin 8 → Fin 8 → Bool} (a : Fin 8) (m : List (Fin 8)) (h : ∀ b ∈ m, R b a = R' b a) :
    insertBefore R a m = insertBefore R' a m := by
  induction m with
  | nil => rfl
  | cons b m ih =>
    unfold insertBefore
    rw [h b List.mem_cons_self, ih fun c hc => h c (List.mem_cons_of_mem b hc)]

/-- The stable sort keeps equals in order. -/
theorem stable (l : List (Fin 8)) (hl : l.Pairwise (· < ·)) : stableSort (before L) l = stableSort (lex L) l := by
  induction l with
  | nil => rfl
  | cons a l ih =>
    rw [List.pairwise_cons] at hl
    unfold stableSort
    rw [ih hl.2]
    refine insert_congr _ _ fun b hb => ?_
    have hb' := hl.1 b ((perm_stableSort _ l).mem_iff.mp hb)
    have hd : decide (b < a) = false := decide_eq_false (not_lt.mpr hb'.le)
    unfold before lex
    rw [hd]
    simp

theorem sorted_eq : sortedFrom (before L) = sortedFrom (lex L) := by
  funext k
  unfold sortedFrom
  exact List.get_of_eq (stable L _ (List.pairwise_lt_finRange 8)) _

theorem order (i j : Fin 8) (h : i < j) :
    L (sortedFrom (before L) j) ≤ L (sortedFrom (before L) i)
      ∧ (L (sortedFrom (before L) j) = L (sortedFrom (before L) i) → sortedFrom (before L) i ≤ sortedFrom (before L) j) := by
  rw [sorted_eq]
  have hn := sortedFrom_noInversion (lex L) (lex L) (fun a b h => (lex_total L).asymm a b h) (fun _ _ h => h) (lex_total L).negTrans i j h
  unfold lex at hn
  simp only [Bool.or_eq_false_iff, decide_eq_false_iff_not, not_lt, Bool.and_eq_false_iff] at hn
  refine ⟨hn.1, fun e => ?_⟩
  rcases hn.2 with h' | h'
  · exact absurd e h'
  · exact h'

theorem first_spec (k : Fin 8) : L k ≤ L (first L) ∧ (L k = L (first L) → first L ≤ k) := by
  obtain ⟨j, rfl⟩ := sortedFrom_surjective (before L) k
  by_cases hj : j = 0
  · subst hj
    exact ⟨le_refl _, fun _ => le_refl _⟩
  · exact order L 0 j (by omega)

theorem second_ne : second L ≠ first L := fun h =>
  absurd (sortedFrom_injective (before L) h) (by decide)

theorem second_spec (k : Fin 8) (hk : k ≠ first L) : L k ≤ L (second L) ∧ (L k = L (second L) → second L ≤ k) := by
  obtain ⟨j, rfl⟩ := sortedFrom_surjective (before L) k
  have hj : j ≠ 0 := by
    rintro rfl
    exact hk rfl
  by_cases hj' : j = 1
  · subst hj'
    exact ⟨le_refl _, fun _ => le_refl _⟩
  · exact order L 1 j (by omega)

/-! ## The same by rounds over 128 lanes -/

/-- The eight logits in the first lanes, −∞ in the others. -/
def wide (l : Fin 128) : EReal := if h : l.val < 8 then L ⟨l.val, h⟩ else ⊥

/-- The lanes with one of them put to −∞. -/
def without (f : Fin 128 → EReal) (p : Fin 128) (l : Fin 128) : EReal := if l = p then ⊥ else f l

/-- The greatest lane. -/
def most (f : Fin 128 → EReal) : EReal := Finset.univ.fold max ⊥ f

/-- The first lane that holds a value, 128 if none does. -/
def place (f : Fin 128 → EReal) (t : EReal) : EReal := Finset.univ.fold min ⊤ fun l : Fin 128 => if f l = t then num l.val else num 128

theorem most_eq (f : Fin 128 → EReal) (p : Fin 128) (h : ∀ l, f l ≤ f p) : most f = f p := by
  unfold most
  refine le_antisymm (Finset.fold_max_le _ |>.mpr ⟨bot_le, fun l _ => h l⟩) (Finset.le_fold_max _ |>.mpr (Or.inr ⟨p, Finset.mem_univ p, le_refl _⟩))

theorem place_eq (f : Fin 128 → EReal) (p : Fin 128) (h : ∀ l, f l = f p → p ≤ l) : place f (f p) = num p.val := by
  unfold place
  refine le_antisymm (Finset.fold_min_le _ |>.mpr (Or.inr ⟨p, Finset.mem_univ p, by rw [if_pos rfl]⟩)) (Finset.le_fold_min _ |>.mpr ⟨le_top, fun l _ => ?_⟩)
  split
  · rename_i hl
    exact num_le.mpr (h l hl)
  · exact num_le.mpr p.isLt.le

/-- An expert's lane. -/
def lane (e : Fin 8) : Fin 128 := ⟨e.val, by omega⟩

theorem wide_lane (e : Fin 8) : wide L (lane e) = L e := by
  unfold wide lane
  rw [dif_pos e.isLt]

theorem wide_out (l : Fin 128) (h : ¬l.val < 8) : wide L l = ⊥ := dif_neg h

theorem is_lane (l : Fin 128) : (∃ e, l = lane e) ∨ ¬l.val < 8 := by
  by_cases h : l.val < 8
  · exact Or.inl ⟨⟨l.val, h⟩, rfl⟩
  · exact Or.inr h

theorem lane_inj {a b : Fin 8} (h : lane a = lane b) : a = b := Fin.ext (congrArg (fun l : Fin 128 => l.val) h)

variable (hL : ∀ e, L e ≠ ⊥)

theorem most_wide : most (wide L) = L (first L) := by
  rw [← wide_lane L (first L)]
  refine most_eq _ _ fun l => ?_
  rcases is_lane l with ⟨e, rfl⟩ | h
  · rw [wide_lane, wide_lane]
    exact (first_spec L e).1
  · rw [wide_out L l h]
    exact bot_le

include hL in
theorem place_wide : place (wide L) (L (first L)) = num (first L).val := by
  have hp := place_eq (wide L) (lane (first L)) fun l hl => by
    rcases is_lane l with ⟨e, rfl⟩ | h
    · rw [wide_lane, wide_lane] at hl
      exact (first_spec L e).2 hl
    · rw [wide_out L l h, wide_lane] at hl
      exact absurd hl.symm (hL _)
  rw [wide_lane] at hp
  exact hp

theorem rest_second : without (wide L) (lane (first L)) (lane (second L)) = L (second L) := by
  unfold without
  rw [if_neg fun h => second_ne L (lane_inj h), wide_lane]

theorem most_rest : most (without (wide L) (lane (first L))) = L (second L) := by
  rw [← rest_second L]
  refine most_eq _ _ fun l => ?_
  rw [rest_second]
  unfold without
  split
  · exact bot_le
  · rename_i hl
    rcases is_lane l with ⟨e, rfl⟩ | h
    · rw [wide_lane]
      exact (second_spec L e fun he => hl (by rw [he])).1
    · rw [wide_out L l h]
      exact bot_le

include hL in
theorem place_rest : place (without (wide L) (lane (first L))) (L (second L)) = num (second L).val := by
  have hp := place_eq (without (wide L) (lane (first L))) (lane (second L)) fun l hl => by
    rw [rest_second] at hl
    unfold without at hl
    split at hl
    · exact absurd hl.symm (hL _)
    · rename_i hn
      rcases is_lane l with ⟨e, rfl⟩ | h
      · rw [wide_lane] at hl
        exact (second_spec L e fun he => hn (by rw [he])).2 hl
      · rw [wide_out L l h] at hl
        exact absurd hl.symm (hL _)
  rw [rest_second] at hp
  exact hp

/-! ## The row of routes -/

/-- One lane of a token's route: the two experts, their gates, and zeros. -/
def route (l : Fin 128) : EReal :=
  if l.val = 0 then num (first L).val
  else if l.val = 1 then num (second L).val
  else if l.val = 2 then Ideal.div 1 (1 + Ideal.exp (L (second L) - L (first L)))
  else if l.val = 3 then Ideal.div (Ideal.exp (L (second L) - L (first L))) (1 + Ideal.exp (L (second L) - L (first L)))
  else 0

/-! ## Real numbers -/

theorem real_mul {a b : EReal} (ha : a ≠ ⊥ ∧ a ≠ ⊤) (hb : b ≠ ⊥ ∧ b ≠ ⊤) : a * b ≠ ⊥ ∧ a * b ≠ ⊤ := by
  lift a to ℝ using ⟨ha.2, ha.1⟩
  lift b to ℝ using ⟨hb.2, hb.1⟩
  exact ⟨EReal.coe_ne_bot (a * b), EReal.coe_ne_top (a * b)⟩

theorem real_add {a b : EReal} (ha : a ≠ ⊥ ∧ a ≠ ⊤) (hb : b ≠ ⊥ ∧ b ≠ ⊤) : a + b ≠ ⊥ ∧ a + b ≠ ⊤ := by
  lift a to ℝ using ⟨ha.2, ha.1⟩
  lift b to ℝ using ⟨hb.2, hb.1⟩
  exact ⟨EReal.coe_ne_bot (a + b), EReal.coe_ne_top (a + b)⟩

theorem real_sum {ι : Type} [DecidableEq ι] (s : Finset ι) (f : ι → EReal) (h : ∀ i, f i ≠ ⊥ ∧ f i ≠ ⊤) : ∑ i ∈ s, f i ≠ ⊥ ∧ ∑ i ∈ s, f i ≠ ⊤ := by
  induction s using Finset.induction_on with
  | empty => exact ⟨EReal.coe_ne_bot 0, EReal.coe_ne_top 0⟩
  | insert a u ha ih =>
    rw [Finset.sum_insert ha]
    exact real_add (h a) ih

theorem sub_self_real {a : EReal} (ha : a ≠ ⊥ ∧ a ≠ ⊤) : a - a = 0 := by
  lift a to ℝ using ⟨ha.2, ha.1⟩
  norm_cast
  exact sub_self a

theorem rsqrt_real (s : ℝ) (hs : 0 ≤ s) :
    Ideal.rsqrt (Ideal.div (s : EReal) (Ideal.ofBits .f32 0x44800000#32) + Ideal.ofBits .f32 0x358637BD#32) ≠ ⊥
      ∧ Ideal.rsqrt (Ideal.div (s : EReal) (Ideal.ofBits .f32 0x44800000#32) + Ideal.ofBits .f32 0x358637BD#32) ≠ ⊤ := by
  have h1 : Ideal.ofBits .f32 0x44800000#32 = ((1024 : ℝ) : EReal) := by
    simp [Ideal.ofBits, Ideal.ieee]
    norm_cast
    norm_num
  obtain ⟨e, he, h2⟩ : ∃ e : ℝ, 0 < e ∧ Ideal.ofBits .f32 0x358637BD#32 = (e : EReal) := by
    refine ⟨_, ?_, by simp [Ideal.ofBits, Ideal.ieee]; norm_cast⟩
    positivity
  rw [h1, h2]
  have h3 : Ideal.div (s : EReal) ((1024 : ℝ) : EReal) + (e : EReal) = ((s * 1024⁻¹ + e : ℝ) : EReal) := by
    unfold Ideal.div
    rw [if_neg (by norm_cast), ← EReal.coe_inv]
    norm_cast
  rw [h3]
  have hp : 0 < s * 1024⁻¹ + e := by positivity
  have h4 : Ideal.rsqrt ((s * 1024⁻¹ + e : ℝ) : EReal) = (((Real.sqrt (s * 1024⁻¹ + e))⁻¹ : ℝ) : EReal) := by
    show (if s * 1024⁻¹ + e < 0 then (⊥ : EReal) else if s * 1024⁻¹ + e = 0 then ⊤ else (((Real.sqrt (s * 1024⁻¹ + e))⁻¹ : ℝ) : EReal)) = _
    rw [if_neg (not_lt.mpr hp.le), if_neg hp.ne']
  rw [h4]
  exact ⟨EReal.coe_ne_bot _, EReal.coe_ne_top _⟩

/-- A normalised entry is real whatever the row holds, if the gain is. -/
theorem rms_real (o : Fin 1024 → EReal) (g : EReal) (x : Fin 1024) (hg : g ≠ ⊥ ∧ g ≠ ⊤) : rms o g x ≠ ⊥ ∧ rms o g x ≠ ⊤ := by
  by_cases h : ∃ k, Infinite (o k)
  · obtain ⟨k, hk⟩ := h
    rw [rms_infinite o g x k hk]
    exact ⟨EReal.coe_ne_bot 0, EReal.coe_ne_top 0⟩
  · have hr : ∀ k, o k ≠ ⊥ ∧ o k ≠ ⊤ := fun k => ⟨fun e => h ⟨k, Or.inr e⟩, fun e => h ⟨k, Or.inl e⟩⟩
    unfold rms
    obtain ⟨s, hs⟩ : ∃ s : ℝ, ∑ k, o k * o k = (s : EReal) := by
      have := real_sum Finset.univ (fun k => o k * o k) fun k => real_mul (hr k) (hr k)
      exact ⟨_, (EReal.coe_toReal this.2 this.1).symm⟩
    have hn : 0 ≤ s := by
      have : (0 : EReal) ≤ (s : EReal) := hs ▸ Finset.sum_nonneg fun k _ => square_nonneg (o k)
      exact_mod_cast this
    rw [hs]
    exact real_mul (real_mul (hr x) (rsqrt_real s hn)) hg

end Cert.RouteMath

end
-- ==== Proof.RouteBlock.lean ====
/-
  What one grid point of the projection with the router computes from its blocks, entry by entry.
-/
module

public import proofs.«01_k».proof.Proof.FfnBlock
public import proofs.«01_k».proof.Proof.AttnBlock
public import proofs.«01_k».proof.Proof.RouteMath
public import proofs.«01_k».proof.Proof.Gen.Kernel7Ideal.Value
public import Idealize.ShloMosaic.Lib.Pipeline.ValueKit

@[expose] public section

set_option maxRecDepth 16384

noncomputable section

namespace Cert.Route

open Cert.Kernel7Ideal Cert.Kernel7Ideal.Gen Idealize.ShloMosaic Cert.Layer Cert.RouteMath

theorem ofBits_zero : Ideal.ofBits .f32 0x00000000#32 = (0 : EReal) := by
  simp [Ideal.ofBits, Ideal.ieee]
theorem ofBits_pos_inf : Ideal.ofBits .f32 0x7F800000#32 = (⊤ : EReal) := by
  simp [Ideal.ofBits, Ideal.ieee]
theorem ofBits_one : Ideal.ofBits .f32 0x3F800000#32 = num 1 := by
  simp [Ideal.ofBits, Ideal.ieee, num]
  try norm_cast
  try norm_num
theorem ofBits_two : Ideal.ofBits .f32 0x40000000#32 = num 2 := by
  simp [Ideal.ofBits, Ideal.ieee, num]
  try norm_cast
  try norm_num
theorem ofBits_three : Ideal.ofBits .f32 0x40400000#32 = num 3 := by
  simp [Ideal.ofBits, Ideal.ieee, num]
  try norm_cast
  try norm_num
theorem ofBits_eight : Ideal.ofBits .f32 0x41000000#32 = num 8 := by
  simp [Ideal.ofBits, Ideal.ieee, num]
  try norm_cast
  try norm_num
theorem ofBits_lanes : Ideal.ofBits .f32 0x43000000#32 = num 128 := by
  simp [Ideal.ofBits, Ideal.ieee, num]
  try norm_cast
  try norm_num

/-- Every lane's number. -/
theorem lane_apply (r : Fin 512) (l : Fin 128) : k0_pay5 (F := Ideal) (ix2 r l) = num l.val := by
  have key : ∀ a : Fin 128, (BitVec.ofNat 32 a.val).toInt = (a.val : Int) := by decide +kernel
  pointwise [k0_pay5]
  show (((BitVec.ofNat 32 l.val).toInt : ℝ) : EReal) = ((l.val : ℝ) : EReal)
  rw [key l]
  norm_cast

variable (h : FVec Ideal S512x1024 .f32) (h' : FVec Ideal S512x1024 .bf16) (w : Vec Ideal S1024x128 .f32)

/-- One logit, in its three products, before the mask. -/
def logit (r : Fin 512) (l : Fin 128) : EReal :=
  (∑ k : Fin 1024, h' (ix2 r k) * w (ix2 k l)) + (∑ k : Fin 1024, h' (ix2 r k) * (w (ix2 k l) - w (ix2 k l))) + (∑ k : Fin 1024, (h (ix2 r k) - h' (ix2 r k)) * w (ix2 k l))

/-- A token's logits over all lanes. -/
def logits (r : Fin 512) : Fin 128 → EReal := wide fun e => logit h h' w r (lane e)

theorem pay6_apply (r : Fin 512) (l : Fin 128) : k0_pay6 h h' w (ix2 r l) = logits h h' w r l := by
  have hl := lane_apply r l
  refine Eq.trans (b := if num l.val < num 8 then logit h h' w r l else (⊥ : EReal)) ?_ ?_
  · rw [← hl, ← ofBits_eight, ← Cert.Attn.ofBits_neg_inf]
    unfold k0_pay6 logit
    generalize k0_pay5 (F := Ideal) = W at hl
    pointwise
  · unfold logits wide
    by_cases h8 : l.val < 8
    · rw [if_pos (num_lt.mpr h8), dif_pos h8]
      rfl
    · rw [if_neg fun hh => h8 (num_lt.mp hh), dif_neg h8]

/-- The greatest of every row, in a column. -/
def mostCol (K : FVec Ideal S512x128 .f32) : FVec Ideal S512x1 .f32 :=
  shapeCast S512x1 (multiReduction .maximumf [1] S512 K 0xFF800000#32 reduces_S512x128_S512 (.inl rfl) rfl) shapeCasts_S512_S512x1

theorem mostCol_apply (K : FVec Ideal S512x128 .f32) (r : Fin 512) : mostCol K (ix2 r 0) = most fun l => K (ix2 r l) := by
  unfold most
  rw [← Cert.Attn.ofBits_neg_inf]
  pointwise [mostCol]

/-- The first lane of every row that holds the row's value, in a column. -/
def placeCol (K : FVec Ideal S512x128 .f32) (T : FVec Ideal S512x1 .f32) : FVec Ideal S512x1 .f32 :=
  shapeCast S512x1 (multiReduction .minimumf [1] S512 (select (cmpf .oeq K (broadcastTo S512x128 T broadcasts_S512x1_S512x128)) (k0_pay5 (F := Ideal)) (broadcast S512x128 (Scalar.ofBits .f32 0x43000000#32) : FVec Ideal S512x128 .f32)) 0x7F800000#32 reduces_S512x128_S512 (.inl rfl) rfl) shapeCasts_S512_S512x1

theorem placeCol_apply (K : FVec Ideal S512x128 .f32) (T : FVec Ideal S512x1 .f32) (r : Fin 512) :
    placeCol K T (ix2 r 0) = place (fun l => K (ix2 r l)) (T (ix2 r 0)) := by
  have hl := lane_apply r
  unfold placeCol place
  simp only [← hl, ← ofBits_lanes, ← ofBits_pos_inf]
  generalize k0_pay5 (F := Ideal) = W
  pointwise

/-- The rows with the lane of a number put to −∞. -/
def restCol (K : FVec Ideal S512x128 .f32) (P : FVec Ideal S512x1 .f32) : FVec Ideal S512x128 .f32 :=
  select (cmpf .oeq (k0_pay5 (F := Ideal)) (broadcastTo S512x128 P broadcasts_S512x1_S512x128)) (broadcast S512x128 (Scalar.ofBits .f32 0xFF800000#32) : FVec Ideal S512x128 .f32) K

theorem restCol_apply (K : FVec Ideal S512x128 .f32) (P : FVec Ideal S512x1 .f32) (r : Fin 512) (p : Fin 128) (hP : P (ix2 r 0) = num p.val) (l : Fin 128) :
    restCol K P (ix2 r l) = without (fun l => K (ix2 r l)) p l := by
  have hl := lane_apply r l
  refine Eq.trans (b := if k0_pay5 (F := Ideal) (ix2 r l) = P (ix2 r 0) then Ideal.ofBits .f32 0xFF800000#32 else K (ix2 r l)) ?_ ?_
  · unfold restCol
    generalize k0_pay5 (F := Ideal) = W
    pointwise
  · rw [hl, hP, Cert.Attn.ofBits_neg_inf]
    unfold without
    by_cases e : l = p
    · rw [if_pos e, if_pos (by rw [e])]
    · rw [if_neg e, if_neg fun h => e (Fin.ext (num_inj.mp h))]

theorem most_apply (r : Fin 512) : k0_pay7 h h' w (ix2 r 0) = most (logits h h' w r) := by
  refine (mostCol_apply (k0_pay6 h h' w) r).trans ?_
  simp only [pay6_apply]

theorem place_apply (r : Fin 512) : k0_pay8 h h' w (ix2 r 0) = place (logits h h' w r) (most (logits h h' w r)) := by
  refine (placeCol_apply (k0_pay6 h h' w) (k0_pay7 h h' w) r).trans ?_
  rw [most_apply]
  simp only [pay6_apply]

/-- One logit, as a plain product. -/
def plain (e : Fin 8) (r : Fin 512) : EReal := ∑ k : Fin 1024, h (ix2 r k) * w (ix2 k (lane e))

variable (hh : h = h') (hr : ∀ r k, h (ix2 r k) ≠ (⊥ : EReal) ∧ h (ix2 r k) ≠ (⊤ : EReal)) (hw : ∀ k (e : Fin 8), w (ix2 k (lane e)) ≠ (⊥ : EReal) ∧ w (ix2 k (lane e)) ≠ (⊤ : EReal))

include hr hw in
theorem plain_real (r : Fin 512) (e : Fin 8) : plain h w e r ≠ ⊥ :=
  (real_sum _ _ fun k => real_mul (hr r k) (hw k e)).1

include hh hr hw in
theorem logits_eq (r : Fin 512) : logits h h' w r = wide fun e => plain h w e r := by
  subst hh
  unfold logits
  refine congrArg wide (funext fun e => ?_)
  have e1 : ∀ k, w (ix2 k (lane e)) - w (ix2 k (lane e)) = (0 : EReal) := fun k => sub_self_real (hw k e)
  have e2 : ∀ k, h (ix2 r k) - h (ix2 r k) = (0 : EReal) := fun k => sub_self_real (hr r k)
  unfold logit plain
  simp only [e1, e2, mul_zero, zero_mul, Finset.sum_const_zero, add_zero]

include hh hr hw in
theorem most_eq1 (r : Fin 512) : k0_pay7 h h' w (ix2 r 0) = plain h w (first fun e => plain h w e r) r := by
  rw [most_apply, logits_eq h h' w hh hr hw]
  exact most_wide (fun e => plain h w e r)

include hh hr hw in
theorem place_eq1 (r : Fin 512) : k0_pay8 h h' w (ix2 r 0) = num (first fun e => plain h w e r).val := by
  rw [place_apply, logits_eq h h' w hh hr hw, most_wide (fun e => plain h w e r)]
  exact place_wide (fun e => plain h w e r) (plain_real h w hr hw r)

include hh hr hw in
theorem rest_eq (r : Fin 512) (l : Fin 128) : k0_pay9 h h' w (ix2 r l) = without (wide fun e => plain h w e r) (lane (first fun e => plain h w e r)) l := by
  refine (restCol_apply (k0_pay6 h h' w) (k0_pay8 h h' w) r (lane (first fun e => plain h w e r)) (place_eq1 h h' w hh hr hw r) l).trans ?_
  simp only [pay6_apply]
  exact congrArg (fun f => without f _ l) (logits_eq h h' w hh hr hw r)

include hh hr hw in
theorem most_eq2 (r : Fin 512) : k0_pay10 h h' w (ix2 r 0) = plain h w (second fun e => plain h w e r) r := by
  refine (mostCol_apply (k0_pay9 h h' w) r).trans ?_
  simp only [rest_eq h h' w hh hr hw]
  exact most_rest (fun e => plain h w e r)

include hh hr hw in
theorem place_eq2 (r : Fin 512) : k0_pay11 h h' w (ix2 r 0) = num (second fun e => plain h w e r).val := by
  refine (placeCol_apply (k0_pay9 h h' w) (k0_pay10 h h' w) r).trans ?_
  rw [most_eq2 h h' w hh hr hw]
  simp only [rest_eq h h' w hh hr hw]
  exact place_rest (fun e => plain h w e r) (plain_real h w hr hw r)

include hh hr hw in
theorem exp_eq (r : Fin 512) : k0_pay12 h h' w (ix2 r 0) = Ideal.exp (plain h w (second fun e => plain h w e r) r - plain h w (first fun e => plain h w e r) r) := by
  rw [← most_eq1 h h' w hh hr hw, ← most_eq2 h h' w hh hr hw]
  unfold k0_pay12
  generalize k0_pay10 h h' w = A
  generalize k0_pay7 h h' w = B
  pointwise

/-- The four columns written to the lanes of one row. -/
theorem write_apply (I1 I2 E : FVec Ideal S512x1 .f32) (r : Fin 512) (l : Fin 128) :
    k0_pay1 (k0_pay5 (F := Ideal)) I1 I2 E (k0_pay13 (F := Ideal)) (Scalar.ofBits .f32 0x00000000#32) (ix2 r l)
      = (if num l.val = num 0 then I1 (ix2 r 0) else 0) + (if num l.val = num 1 then I2 (ix2 r 0) else 0) + (if num l.val = num 2 then Ideal.div (num 1) (num 1 + E (ix2 r 0)) else 0) + (if num l.val = num 3 then Ideal.div (E (ix2 r 0)) (num 1 + E (ix2 r 0)) else 0) := by
  have hl := lane_apply r l
  have h0 : num 0 = 0 := by
    unfold num
    norm_cast
  rw [h0, ← ofBits_two, ← ofBits_three, ← ofBits_one, ← ofBits_zero, ← hl]
  unfold k0_pay1 k0_pay13
  generalize k0_pay5 (F := Ideal) = W
  pointwise

include hh hr hw in
/-- The routing row of one token. -/
theorem route_apply (r : Fin 512) (l : Fin 128) :
    k0_pay1 (k0_pay5 (F := Ideal)) (k0_pay8 h h' w) (k0_pay11 h h' w) (k0_pay12 h h' w) (k0_pay13 (F := Ideal)) (Scalar.ofBits .f32 0x00000000#32) (ix2 r l)
      = route (fun e => plain h w e r) l := by
  have h1 : num 1 = 1 := by
    unfold num
    norm_cast
  rw [write_apply, place_eq1 h h' w hh hr hw, place_eq2 h h' w hh hr hw, exp_eq h h' w hh hr hw]
  simp only [num_inj]
  simp only [h1]
  unfold route
  by_cases l0 : l.val = 0
  · simp [l0]
  by_cases l1 : l.val = 1
  · simp [l1]
  by_cases l2 : l.val = 2
  · simp [l2]
  by_cases l3 : l.val = 3
  · simp [l3]
  simp [l0, l1, l2, l3]

end Cert.Route

end
-- ==== Proof.RouteOut.lean ====
/-
  What one grid point of the projection with the router writes, entry by entry.
-/
module

public import proofs.«01_k».proof.Proof.RouteBlock
public import Idealize.ShloMosaic.Lib.Pipeline.ValueKit

@[expose] public section

set_option maxRecDepth 16384

noncomputable section

namespace Cert.Route

open Cert.Kernel7Ideal Cert.Kernel7Ideal.Gen Idealize.ShloMosaic Cert.Layer Cert.RouteMath

/-- The product of the three mixers' rows, side by side, with the weights. -/
def prod (a : Vec Ideal S512x384 .bf16) (s : Vec Ideal S512x256 .bf16) (b : Vec Ideal S512x384 .bf16) (w : Vec Ideal S1024x1024 .bf16) : FVec Ideal S512x1024 .f32 :=
  have cat : FVec Ideal S512x1024 .bf16 := concatenate S512x1024 1 [⟨S512x384, a⟩, ⟨S512x256, s⟩, ⟨S512x384, b⟩] concatenates_S512x384_S512x256_S512x384_S512x1024_d1
  matmul dot_S512x1024_S1024x1024_S512x1024_1_0_0_1_n_n none cat (shapeCast S1024x1024 w shapeCasts_S1024x1024_S1024x1024 : FVec Ideal S1024x1024 .bf16) (constant S512x1024 .f32 0x00000000#32)

theorem cat_apply (a : Vec Ideal S512x384 .bf16) (s : Vec Ideal S512x256 .bf16) (b : Vec Ideal S512x384 .bf16) (r : Fin 512) (k : Fin 1024) :
    (concatenate S512x1024 1 [⟨S512x384, a⟩, ⟨S512x256, s⟩, ⟨S512x384, b⟩] concatenates_S512x384_S512x256_S512x384_S512x1024_d1 : Vec Ideal S512x1024 .bf16) (ix2 r k)
      = beside (fun i => a (ix2 r i)) (fun i => s (ix2 r i)) (fun i => b (ix2 r i)) k := by
  unfold beside
  pointwise

theorem prod_apply (a : Vec Ideal S512x384 .bf16) (s : Vec Ideal S512x256 .bf16) (b : Vec Ideal S512x384 .bf16) (w : Vec Ideal S1024x1024 .bf16) (r : Fin 512) (y : Fin 1024) :
    prod a s b w (ix2 r y) = ∑ k : Fin 1024, beside (fun i => a (ix2 r i)) (fun i => s (ix2 r i)) (fun i => b (ix2 r i)) k * w (ix2 k y) := by
  simp only [← cat_apply]
  unfold prod
  generalize (concatenate S512x1024 1 [⟨S512x384, a⟩, ⟨S512x256, s⟩, ⟨S512x384, b⟩] concatenates_S512x384_S512x256_S512x384_S512x1024_d1 : Vec Ideal S512x1024 .bf16) = N
  pointwise

/-- The rows after the second normalisation. -/
def normTo (o : FVec Ideal S512x1024 .f32) (gn : Vec Ideal S1x1024 .f32) : FVec Ideal S512x1024 .f32 :=
  mulf (mulf o (broadcastTo S512x1024 (rsqrt (addf (divf (shapeCast S512x1 (multiReduction .add [1] S512 (mulf o o) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) (broadcastTo S512x1024 (shapeCast S1x1024 gn shapeCasts_S1x1024_S1x1024) broadcasts_S1x1024_S512x1024)

theorem normTo_apply (o : FVec Ideal S512x1024 .f32) (gn : Vec Ideal S1x1024 .f32) (r : Fin 512) (y : Fin 1024) :
    normTo o gn (ix2 r y) = rms (fun y' => o (ix2 r y')) (gn (ix2 0 y)) y := by
  pointwise [normTo, rms]

variable (x0 : Vec Ideal S512x1024 .f32) (x1 : Vec Ideal S512x384 .bf16) (x2 : Vec Ideal S512x256 .bf16) (x3 : Vec Ideal S512x384 .bf16) (x4 : Vec Ideal S1024x1024 .bf16) (x5 x6 : Vec Ideal S1x1024 .f32)

/-- The block's residual rows. -/
def sumRow (r : Fin 512) (y : Fin 1024) : EReal :=
  x0 (ix2 r y) + rms (fun y' => ∑ k : Fin 1024, beside (fun i => x1 (ix2 r i)) (fun i => x2 (ix2 r i)) (fun i => x3 (ix2 r i)) k * x4 (ix2 k y')) (x5 (ix2 0 y)) y

theorem sum_apply (r : Fin 512) (y : Fin 1024) :
    k0_pay2 x1 x2 x3 x4 x0 x5 (ix2 r y) = sumRow x0 x1 x2 x3 x4 x5 r y := by
  refine Eq.trans (b := Cert.Ffn.addNorm x0 (prod x1 x2 x3 x4) x5 (ix2 r y)) rfl ?_
  rw [Cert.Ffn.addNorm_apply]
  simp only [prod_apply]
  rfl

/-- What a whole-block read returns is the block. -/
theorem ld_whole : View.ld x0 r0_3 = x0 ∧ View.ld x1 r0_0 = x1 ∧ View.ld x2 r0_1 = x2 ∧ View.ld x4 r0_2 = x4 ∧ View.ld x5 r0_4 = x5 := by
  refine ⟨?_, ?_, ?_, ?_, ?_⟩ <;> funext i
  · obtain ⟨r, y, rfl⟩ : ∃ (r : Fin 512) (y : Fin 1024), i = ix2 r y := ⟨i 0, i 1, by
      funext a
      match a with
      | ⟨0, _⟩ => rfl
      | ⟨1, _⟩ => rfl⟩
    pointwise
  · obtain ⟨r, y, rfl⟩ : ∃ (r : Fin 512) (y : Fin 384), i = ix2 r y := ⟨i 0, i 1, by
      funext a
      match a with
      | ⟨0, _⟩ => rfl
      | ⟨1, _⟩ => rfl⟩
    pointwise
  · obtain ⟨r, y, rfl⟩ : ∃ (r : Fin 512) (y : Fin 256), i = ix2 r y := ⟨i 0, i 1, by
      funext a
      match a with
      | ⟨0, _⟩ => rfl
      | ⟨1, _⟩ => rfl⟩
    pointwise
  · obtain ⟨r, y, rfl⟩ : ∃ (r : Fin 1024) (y : Fin 1024), i = ix2 r y := ⟨i 0, i 1, by
      funext a
      match a with
      | ⟨0, _⟩ => rfl
      | ⟨1, _⟩ => rfl⟩
    pointwise
  · obtain ⟨r, y, rfl⟩ : ∃ (r : Fin 1) (y : Fin 1024), i = ix2 r y := ⟨i 0, i 1, by
      funext a
      match a with
      | ⟨0, _⟩ => rfl
      | ⟨1, _⟩ => rfl⟩
    obtain rfl : r = 0 := Subsingleton.elim _ _
    pointwise

/-- What a whole-block read of the router returns is the block. -/
theorem ld_router (x7 : Vec Ideal S1024x128 .f32) : View.ld x7 r0_5 = x7 := by
  funext i
  obtain ⟨r, y, rfl⟩ : ∃ (r : Fin 1024) (y : Fin 128), i = ix2 r y := ⟨i 0, i 1, by
    funext a
    match a with
    | ⟨0, _⟩ => rfl
    | ⟨1, _⟩ => rfl⟩
  pointwise

variable (x7 : Vec Ideal S1024x128 .f32)

/-- What one grid point writes back to the residual, entry by entry. -/
theorem out_apply8 (r : Fin 512) (y : Fin 1024) :
    out0_8 (F := Ideal) x0 x1 x2 x3 x4 x5 x6 x7 (ix2 r y) = sumRow x0 x1 x2 x3 x4 x5 r y := by
  obtain ⟨e0, e1, e2, e4, e5⟩ := ld_whole x0 x1 x2 x4 x5
  obtain ⟨-, e3, -⟩ := ld_whole x0 x3 x2 x4 x5
  unfold out0_8
  rw [e0, e1, e2, e3, e4, e5]
  refine (congrFun (View.canon_cons_unit_lit _ _ [] (by decide)) _).trans ?_
  rw [← sum_apply]

/-- The block's normalised rows, entry by entry. -/
theorem norm_apply (r : Fin 512) (y : Fin 1024) :
    k0_pay14 (F := Ideal) x0 x1 x2 x3 x4 x5 x6 x7 (ix2 r y) = rms (sumRow x0 x1 x2 x3 x4 x5 r) (x6 (ix2 0 y)) y := by
  obtain ⟨e0, e1, e2, e4, e5⟩ := ld_whole x0 x1 x2 x4 x5
  obtain ⟨-, e3, -, -, e6⟩ := ld_whole x0 x3 x2 x4 x6
  unfold k0_pay14
  rw [e0, e1, e2, e3, e4, e5, e6]
  refine Eq.trans (b := normTo (k0_pay2 x1 x2 x3 x4 x0 x5) x6 (ix2 r y)) rfl ?_
  rw [normTo_apply]
  simp only [sum_apply]

/-- What one grid point writes back to the normalised rows, entry by entry. -/
theorem out_apply9 (r : Fin 512) (y : Fin 1024) :
    out0_9 (F := Ideal) x0 x1 x2 x3 x4 x5 x6 x7 (ix2 r y) = rms (sumRow x0 x1 x2 x3 x4 x5 r) (x6 (ix2 0 y)) y := by
  unfold out0_9
  refine (congrFun (View.canon_cons_unit_lit _ _ [] (by decide)) _).trans ?_
  rw [← norm_apply x0 x1 x2 x3 x4 x5 x6 x7]

/-- The narrowed rows are the rows. -/
theorem narrow_eq : (k0_pay14 (F := Ideal) x0 x1 x2 x3 x4 x5 x6 x7 : FVec Ideal S512x1024 .f32) = (k0_pay15 (F := Ideal) x0 x1 x2 x3 x4 x5 x6 x7 : FVec Ideal S512x1024 .bf16) := rfl

/-- What one grid point writes back to the routing rows, entry by entry. -/
theorem out_apply10 (hg : ∀ y, x6 (ix2 0 y) ≠ (⊥ : EReal) ∧ x6 (ix2 0 y) ≠ (⊤ : EReal)) (hw : ∀ k (e : Fin 8), x7 (ix2 k (lane e)) ≠ (⊥ : EReal) ∧ x7 (ix2 k (lane e)) ≠ (⊤ : EReal)) (r : Fin 512) (l : Fin 128) :
    out0_10 (F := Ideal) x0 x1 x2 x3 x4 x5 x6 x7 (ix2 r l) = route (fun e => ∑ k : Fin 1024, rms (sumRow x0 x1 x2 x3 x4 x5 r) (x6 (ix2 0 k)) k * x7 (ix2 k (lane e))) l := by
  unfold out0_10
  rw [ld_router]
  refine (congrFun (View.canon_cons_unit_lit _ _ [] (by decide)) _).trans ?_
  refine (route_apply (k0_pay14 (F := Ideal) x0 x1 x2 x3 x4 x5 x6 x7) (k0_pay15 (F := Ideal) x0 x1 x2 x3 x4 x5 x6 x7) x7 (narrow_eq x0 x1 x2 x3 x4 x5 x6 x7) (fun r k => ?_) hw r l).trans ?_
  · rw [norm_apply]
    exact rms_real _ _ k (hg k)
  · unfold plain
    simp only [norm_apply]

end Cert.Route

end
-- ==== Proof.RouteArr.lean ====
/-
  The whole result arrays of the projection with the router.
-/
module

public import proofs.«01_k».proof.Proof.RouteOut
public import Idealize.ShloMosaic.Lib.Claim

@[expose] public section

set_option maxRecDepth 16384

noncomputable section

namespace Cert.Route

open Cert.Kernel7Ideal Cert.Kernel7Ideal.Gen Idealize.ShloMosaic Idealize.ShloMosaic.TcCoe Idealize.SL.Sem Cert.Layer Cert.RouteMath
open Idealize.ShloMosaic.Pipeline (Dat)

variable (m : (l : Loc nD τ sig) → Buf (Elt Ideal) l) (c : Dev nD)

/-- One entry of the residual rows. -/
def sumAt (x : FVec Ideal S16384x1024 .f32) (a : FVec Ideal S16384x384 .bf16) (s : FVec Ideal S16384x256 .bf16) (b : FVec Ideal S16384x384 .bf16) (w : FVec Ideal S1024x1024 .f32) (gp : FVec Ideal S1024 .f32) (n : Fin 16384) (y : Fin 1024) : EReal :=
  x (ix2 n y) + rms (fun y' => ∑ k : Fin 1024, beside (fun i => a (ix2 n i)) (fun i => s (ix2 n i)) (fun i => b (ix2 n i)) k * w (ix2 k y')) (gp (ix1 y)) y

/-- One entry of the residual. -/
def entry8 (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) (wr : FVec Ideal S1024x8 .f32) (n : Fin 16384) (y : Fin 1024) : EReal :=
  sumAt x a s b w gp n y

/-- One entry of the normalised rows. -/
def entry9 (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) (wr : FVec Ideal S1024x8 .f32) (n : Fin 16384) (y : Fin 1024) : EReal :=
  rms (sumAt x a s b w gp n) (gq (ix1 y)) y

/-- One token's logits. -/
def logitAt (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) (wr : FVec Ideal S1024x8 .f32) (n : Fin 16384) (e : Fin 8) : EReal :=
  ∑ k : Fin 1024, rms (sumAt x a s b w gp n) (gq (ix1 k)) k * wr (ix2 k e)

/-- One entry of the routing rows. -/
def entry10 (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) (wr : FVec Ideal S1024x8 .f32) (n : Fin 16384) (y : Fin 128) : EReal :=
  route (logitAt x a s b w gp gq wr n) y

/-- The residual's array as one function of the arguments. -/
def kArr8 (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) (wr : FVec Ideal S1024x8 .f32) : FVec Ideal S16384x1024 .f32 := fun i =>
  entry8 x a s b w gp gq wr (i 0) (i 1)

/-- The normalised rows' array as one function of the arguments. -/
def kArr9 (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) (wr : FVec Ideal S1024x8 .f32) : FVec Ideal S16384x1024 .f32 := fun i =>
  entry9 x a s b w gp gq wr (i 0) (i 1)

/-- The routing rows' array as one function of the arguments. -/
def kArr10 (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) (wr : FVec Ideal S1024x8 .f32) : FVec Ideal S16384x128 .f32 := fun i =>
  entry10 x a s b w gp gq wr (i 0) (i 1)

/-- The weights that the kernel reads are the argument's. -/
theorem weight_apply (k : Fin 1024) (f : Fin 1024) :
    (V m c main_v0 : FVec Ideal S1024x1024 .bf16) (ix2 k f) = (m ((c : Thread nD τ).loc main_arg4) : FVec Ideal S1024x1024 .f32) (ix2 k f) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

/-- The first gain that the kernel reads is the argument's. -/
theorem post_apply (y : Fin 1024) :
    (V m c main_v1 : FVec Ideal S1x1024 .f32) (ix2 0 y) = (m ((c : Thread nD τ).loc main_arg5) : FVec Ideal S1024 .f32) (ix1 y) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

/-- The second gain that the kernel reads is the argument's. -/
theorem pre_apply (y : Fin 1024) :
    (V m c main_v2 : FVec Ideal S1x1024 .f32) (ix2 0 y) = (m ((c : Thread nD τ).loc main_arg6) : FVec Ideal S1024 .f32) (ix1 y) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  pointwise

/-- The router that the kernel reads is the argument's, in the first eight lanes. -/
theorem router_apply (k : Fin 1024) (e : Fin 8) :
    (V m c main_v3 : FVec Ideal S1024x128 .f32) (ix2 k (lane e)) = (m ((c : Thread nD τ).loc main_arg7) : FVec Ideal S1024x8 .f32) (ix2 k e) := by
  simp only [V, hostOps0, List.flatten_cons, List.flatten_nil, List.append_nil, List.cons_append,
      List.nil_append, StableHlo.TRef.binary, StableHlo.TRef.ternary, StableHlo.TRef.unary, StableHlo.TRef.nullary, StableHlo.TRef.toBuf, StableHlo.TRef.ofBuf, cast_eq]
  after_results_simp
  simp only [StableHlo.TRef.toBuf, StableHlo.TRef.ofBuf, cast_eq]
  have he : (lane e).val = e.val := rfl
  generalize lane e = l at he
  pointwise
  rw [dif_pos (by omega)]
  exact congrArg (fun z : Fin 8 => (m ((c : Thread nD τ).loc main_arg7) : FVec Ideal S1024x8 .f32) (ix2 k z)) (Fin.ext he)

theorem index_0 : ∀ t : Fin cfg0.N, win0_0.index t = ![(grid0.coords t 0).val, 0] :=
  (by decide +kernel : ∀ t : Fin grid0.N, win0_0.index t = ![(grid0.coords t 0).val, 0])
theorem index_1 : ∀ t : Fin cfg0.N, win0_1.index t = ![(grid0.coords t 0).val, 0] :=
  (by decide +kernel : ∀ t : Fin grid0.N, win0_1.index t = ![(grid0.coords t 0).val, 0])
theorem index_2 : ∀ t : Fin cfg0.N, win0_2.index t = ![(grid0.coords t 0).val, 0] :=
  (by decide +kernel : ∀ t : Fin grid0.N, win0_2.index t = ![(grid0.coords t 0).val, 0])
theorem index_3 : ∀ t : Fin cfg0.N, win0_3.index t = ![(grid0.coords t 0).val, 0] :=
  (by decide +kernel : ∀ t : Fin grid0.N, win0_3.index t = ![(grid0.coords t 0).val, 0])
theorem index_4 : ∀ t : Fin cfg0.N, win0_4.index t = ![0, 0] :=
  (by decide +kernel : ∀ t : Fin grid0.N, win0_4.index t = ![0, 0])
theorem index_5 : ∀ t : Fin cfg0.N, win0_5.index t = ![0, 0] :=
  (by decide +kernel : ∀ t : Fin grid0.N, win0_5.index t = ![0, 0])
theorem index_6 : ∀ t : Fin cfg0.N, win0_6.index t = ![0, 0] :=
  (by decide +kernel : ∀ t : Fin grid0.N, win0_6.index t = ![0, 0])
theorem index_7 : ∀ t : Fin cfg0.N, win0_7.index t = ![0, 0] :=
  (by decide +kernel : ∀ t : Fin grid0.N, win0_7.index t = ![0, 0])
theorem index_10 : ∀ t : Fin cfg0.N, win0_10.index t = ![(grid0.coords t 0).val, 0] :=
  (by decide +kernel : ∀ t : Fin grid0.N, win0_10.index t = ![(grid0.coords t 0).val, 0])
theorem index_8 : ∀ t : Fin cfg0.N, win0_8.index t = ![(grid0.coords t 0).val, 0] :=
  (by decide +kernel : ∀ t : Fin grid0.N, win0_8.index t = ![(grid0.coords t 0).val, 0])
theorem index_9 : ∀ t : Fin cfg0.N, win0_9.index t = ![(grid0.coords t 0).val, 0] :=
  (by decide +kernel : ∀ t : Fin grid0.N, win0_9.index t = ![(grid0.coords t 0).val, 0])

theorem read_x (t : Fin cfg0.N) (r : Fin 512) (y : Fin 1024) (n : Fin 16384) (hn : n.val = 512 * (grid0.coords t 0).val + r.val) :
    (iblk m c 0 t : Vec Ideal S512x1024 .f32) (ix2 r y) = (m ((c : Thread nD τ).loc main_arg0) : FVec Ideal S16384x1024 .f32) (ix2 n y) := by
  rw [← V_main_arg0 m c]
  blk_ext [iblk, index_0 t]

theorem read_a (t : Fin cfg0.N) (r : Fin 512) (y : Fin 384) (n : Fin 16384) (hn : n.val = 512 * (grid0.coords t 0).val + r.val) :
    (iblk m c 1 t : Vec Ideal S512x384 .bf16) (ix2 r y) = (m ((c : Thread nD τ).loc main_arg1) : FVec Ideal S16384x384 .bf16) (ix2 n y) := by
  rw [← V_main_arg1 m c]
  blk_ext [iblk, index_1 t]

theorem read_s (t : Fin cfg0.N) (r : Fin 512) (y : Fin 256) (n : Fin 16384) (hn : n.val = 512 * (grid0.coords t 0).val + r.val) :
    (iblk m c 2 t : Vec Ideal S512x256 .bf16) (ix2 r y) = (m ((c : Thread nD τ).loc main_arg2) : FVec Ideal S16384x256 .bf16) (ix2 n y) := by
  rw [← V_main_arg2 m c]
  blk_ext [iblk, index_2 t]

theorem read_b (t : Fin cfg0.N) (r : Fin 512) (y : Fin 384) (n : Fin 16384) (hn : n.val = 512 * (grid0.coords t 0).val + r.val) :
    (iblk m c 3 t : Vec Ideal S512x384 .bf16) (ix2 r y) = (m ((c : Thread nD τ).loc main_arg3) : FVec Ideal S16384x384 .bf16) (ix2 n y) := by
  rw [← V_main_arg3 m c]
  blk_ext [iblk, index_3 t]

theorem read_weight (t : Fin cfg0.N) (k : Fin 1024) (f : Fin 1024) :
    (iblk m c 4 t : Vec Ideal S1024x1024 .bf16) (ix2 k f) = (m ((c : Thread nD τ).loc main_arg4) : FVec Ideal S1024x1024 .f32) (ix2 k f) := by
  rw [← weight_apply m c]
  blk_ext [iblk, index_4 t]

theorem read_post (t : Fin cfg0.N) (y : Fin 1024) :
    (iblk m c 5 t : Vec Ideal S1x1024 .f32) (ix2 0 y) = (m ((c : Thread nD τ).loc main_arg5) : FVec Ideal S1024 .f32) (ix1 y) := by
  rw [← post_apply m c]
  blk_ext [iblk, index_5 t]

theorem read_pre (t : Fin cfg0.N) (y : Fin 1024) :
    (iblk m c 6 t : Vec Ideal S1x1024 .f32) (ix2 0 y) = (m ((c : Thread nD τ).loc main_arg6) : FVec Ideal S1024 .f32) (ix1 y) := by
  rw [← pre_apply m c]
  blk_ext [iblk, index_6 t]

theorem read_router (t : Fin cfg0.N) (k : Fin 1024) (e : Fin 8) :
    (iblk m c 7 t : Vec Ideal S1024x128 .f32) (ix2 k (lane e)) = (m ((c : Thread nD τ).loc main_arg7) : FVec Ideal S1024x8 .f32) (ix2 k e) := by
  rw [← router_apply m c]
  blk_ext [iblk, index_7 t]

/-- The block's residual entries are the array's. -/
theorem sum_eq (t : Fin cfg0.N) (r : Fin 512) (y : Fin 1024) (n : Fin 16384) (hn : n.val = 512 * (grid0.coords t 0).val + r.val) :
    sumRow (iblk m c 0 t) (iblk m c 1 t) (iblk m c 2 t) (iblk m c 3 t) (iblk m c 4 t) (iblk m c 5 t) r y = sumAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n y := by
  unfold sumRow sumAt
  rw [read_x m c t r y n hn, read_post]
  refine congrArg (fun z => _ + rms z _ y) (funext fun y' => Finset.sum_congr rfl fun k _ => ?_)
  rw [read_weight]
  refine congrArg (fun z : EReal => z * _) ?_
  have ea : (fun i : Fin 384 => (iblk m c 1 t : Vec Ideal S512x384 .bf16) (ix2 r i)) = fun i => (m ((c : Thread nD τ).loc main_arg1) : FVec Ideal S16384x384 .bf16) (ix2 n i) := funext fun i => read_a m c t r i n hn
  have es : (fun i : Fin 256 => (iblk m c 2 t : Vec Ideal S512x256 .bf16) (ix2 r i)) = fun i => (m ((c : Thread nD τ).loc main_arg2) : FVec Ideal S16384x256 .bf16) (ix2 n i) := funext fun i => read_s m c t r i n hn
  have eb : (fun i : Fin 384 => (iblk m c 3 t : Vec Ideal S512x384 .bf16) (ix2 r i)) = fun i => (m ((c : Thread nD τ).loc main_arg3) : FVec Ideal S16384x384 .bf16) (ix2 n i) := funext fun i => read_b m c t r i n hn
  rw [ea, es, eb]

/-- What one grid point writes back to result 8 is that array's block. -/
theorem block_eq8 (t : Fin cfg0.N) (r : Fin 512) (y : Fin 1024) (n : Fin 16384) (hn : n.val = 512 * (grid0.coords t 0).val + r.val) :
    out0_8 (F := Ideal) (iblk m c 0 t) (iblk m c 1 t) (iblk m c 2 t) (iblk m c 3 t) (iblk m c 4 t) (iblk m c 5 t) (iblk m c 6 t) (iblk m c 7 t) (ix2 r y)
      = entry8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) n y := by
  rw [out_apply8]
  exact sum_eq m c t r y n hn

/-- Result 8 after the kernel has run. -/
theorem arr_eq8 : (dats m 0 c).arrAt 8 cfg0.N
    = kArr8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  have ey : y = ix2 (y 0) (y 1) := by
    funext a
    match a with
    | ⟨0, _⟩ => rfl
    | ⟨1, _⟩ => rfl
  have e1 : ((win0_8.blk t).view.emb y 1 : Fin 1024) = y 1 := Fin.ext (by
    blk_simp [index_8 t])
  rw [ey] at e1 ⊢
  refine (block_eq8 m c t (y 0) (y 1) ((win0_8.blk t).view.emb (ix2 (y 0) (y 1)) 0) ?_).trans ?_
  · blk_simp [index_8 t]
    pointwise
    omega
  · exact congrArg (entry8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ((win0_8.blk t).view.emb (ix2 (y 0) (y 1)) 0)) e1.symm

/-- What one grid point writes back to result 9 is that array's block. -/
theorem block_eq9 (t : Fin cfg0.N) (r : Fin 512) (y : Fin 1024) (n : Fin 16384) (hn : n.val = 512 * (grid0.coords t 0).val + r.val) :
    out0_9 (F := Ideal) (iblk m c 0 t) (iblk m c 1 t) (iblk m c 2 t) (iblk m c 3 t) (iblk m c 4 t) (iblk m c 5 t) (iblk m c 6 t) (iblk m c 7 t) (ix2 r y)
      = entry9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) n y := by
  rw [out_apply9, read_pre]
  exact congrArg (fun z => rms z _ y) (funext fun y' => sum_eq m c t r y' n hn)

/-- Result 9 after the kernel has run. -/
theorem arr_eq9 : (dats m 0 c).arrAt 9 cfg0.N
    = kArr9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  have ey : y = ix2 (y 0) (y 1) := by
    funext a
    match a with
    | ⟨0, _⟩ => rfl
    | ⟨1, _⟩ => rfl
  have e1 : ((win0_9.blk t).view.emb y 1 : Fin 1024) = y 1 := Fin.ext (by
    blk_simp [index_9 t])
  rw [ey] at e1 ⊢
  refine (block_eq9 m c t (y 0) (y 1) ((win0_9.blk t).view.emb (ix2 (y 0) (y 1)) 0) ?_).trans ?_
  · blk_simp [index_9 t]
    pointwise
    omega
  · exact congrArg (entry9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ((win0_9.blk t).view.emb (ix2 (y 0) (y 1)) 0)) e1.symm

variable (hg : ∀ y, (m ((c : Thread nD τ).loc main_arg6) : FVec Ideal S1024 .f32) (ix1 y) ≠ (⊥ : EReal) ∧ (m ((c : Thread nD τ).loc main_arg6) : FVec Ideal S1024 .f32) (ix1 y) ≠ (⊤ : EReal))
  (hw : ∀ k e, (m ((c : Thread nD τ).loc main_arg7) : FVec Ideal S1024x8 .f32) (ix2 k e) ≠ (⊥ : EReal) ∧ (m ((c : Thread nD τ).loc main_arg7) : FVec Ideal S1024x8 .f32) (ix2 k e) ≠ (⊤ : EReal))

include hg hw in
/-- What one grid point writes back to result 10 is that array's block. -/
theorem block_eq10 (t : Fin cfg0.N) (r : Fin 512) (y : Fin 128) (n : Fin 16384) (hn : n.val = 512 * (grid0.coords t 0).val + r.val) :
    out0_10 (F := Ideal) (iblk m c 0 t) (iblk m c 1 t) (iblk m c 2 t) (iblk m c 3 t) (iblk m c 4 t) (iblk m c 5 t) (iblk m c 6 t) (iblk m c 7 t) (ix2 r y)
      = entry10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) n y := by
  rw [out_apply10 (iblk m c 0 t) (iblk m c 1 t) (iblk m c 2 t) (iblk m c 3 t) (iblk m c 4 t) (iblk m c 5 t) (iblk m c 6 t) (iblk m c 7 t) (fun y => by rw [read_pre]; exact hg y) (fun k e => by rw [read_router]; exact hw k e)]
  refine congrArg (fun L => route L y) (funext fun e => Finset.sum_congr rfl fun k _ => ?_)
  rw [read_router, read_pre]
  exact congrArg (fun z => rms z _ k * _) (funext fun y' => sum_eq m c t r y' n hn)

include hg hw in
/-- Result 10 after the kernel has run. -/
theorem arr_eq10 : (dats m 0 c).arrAt 10 cfg0.N
    = kArr10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  blk_simp
  rw [after0_10]
  have ey : y = ix2 (y 0) (y 1) := by
    funext a
    match a with
    | ⟨0, _⟩ => rfl
    | ⟨1, _⟩ => rfl
  have e1 : ((win0_10.blk t).view.emb y 1 : Fin 128) = y 1 := Fin.ext (by
    blk_simp [index_10 t])
  rw [ey] at e1 ⊢
  refine (block_eq10 m c hg hw t (y 0) (y 1) ((win0_10.blk t).view.emb (ix2 (y 0) (y 1)) 0) ?_).trans ?_
  · blk_simp [index_10 t]
    pointwise
    omega
  · exact congrArg (entry10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ((win0_10.blk t).view.emb (ix2 (y 0) (y 1)) 0)) e1.symm

end Cert.Route

end
-- ==== Proof.RouteRef.lean ====
/-
  The reference results of the projection with the router, entry by entry.
-/
module

public import proofs.«01_k».proof.Proof.OutProjRef
public import proofs.«01_k».proof.Proof.RouteMath
public import proofs.«01_k».proof.Proof.AttnBlock
public import proofs.«01_k».proof.Proof.Gen.Reference7Ideal.Run

@[expose] public section

set_option maxRecDepth 16384

noncomputable section

namespace Cert.RouteRef

open Cert.Reference7Ideal Cert.Reference7Ideal.Gen Idealize.ShloMosaic Idealize.ShloMosaic.TcCoe Idealize.SL.Sem Cert.Layer Cert.RouteMath

/-- The reference's normalised rows. -/
def refArr9 (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) : FVec Ideal S16384x1024 .f32 :=
  Cert.FfnRef.normArr (Cert.OutProjRef.refArr7 x a s b w gp gq) gq

theorem refArr9_apply (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) (n : Fin 16384) (y : Fin 1024) :
    refArr9 x a s b w gp gq (ix2 n y) = rms (fun y => x (ix2 n y) + rms (fun y' => ∑ k : Fin 1024, beside (fun i => a (ix2 n i)) (fun i => s (ix2 n i)) (fun i => b (ix2 n i)) k * w (ix2 k y')) (gp (ix1 y)) y) (gq (ix1 y)) y :=
  Cert.OutProjRef.refArr8_apply x a s b w gp gq n y

/-- The logits. -/
def logitArr (t : FVec Ideal S16384x1024 .f32) (wr : FVec Ideal S1024x8 .f32) : FVec Ideal S16384x8 .f32 :=
  Host.dotGeneral dot_S16384x1024_S1024x8_S16384x8_1_0_0_1_n_n none t wr

theorem logitArr_apply (t : FVec Ideal S16384x1024 .f32) (wr : FVec Ideal S1024x8 .f32) (n : Fin 16384) (e : Fin 8) :
    logitArr t wr (ix2 n e) = ∑ k : Fin 1024, t (ix2 n k) * wr (ix2 k e) := by
  pointwise [logitArr]

/-- The two greatest logits of every token and their places. -/
def top (L : FVec Ideal S16384x8 .f32) : FVec Ideal S16384x2 .f32 × IVec S16384x2 32 :=
  Host.topK S16384x2 1 (FloatOps.cmpfTotal (F := Ideal) (φ := .f32) .gt) L sliceFits_S16384x8_S16384x2

/-- The expert of a token at one of its two ranks. -/
def rank (L : Fin 8 → EReal) (j : Fin 2) : Fin 8 := sortedFrom (before L) ⟨j.val, by omega⟩

theorem before_eq (L : Fin 8 → EReal) : (fun k k' : Fin 8 => FloatOps.cmpfTotal (F := Ideal) (φ := .f32) .gt (L k) (L k') == 1#1) = before L := by
  funext k k'
  show (BitVec.ofBool (decide (L k' < L k)) == 1#1) = decide (L k' < L k)
  cases decide (L k' < L k) <;> rfl

theorem along_eq (n : Fin 16384) (e k : Fin 8) : Shape.Idx.along (s := S16384x8) (ix2 n e) (1 : Fin 2) k = ix2 n k := by
  funext a
  match a with
  | ⟨0, _⟩ => rfl
  | ⟨1, _⟩ => rfl

/-- The place along a row that the order gives a rank. -/
theorem place_row (L : FVec Ideal S16384x8 .f32) (n : Fin 16384) (j : Fin 2) (h : j.val < 8) :
    sortedFrom (fun k k' : Fin 8 => FloatOps.cmpfTotal (F := Ideal) (φ := .f32) .gt (L (Shape.Idx.along (s := S16384x8) (ix2 n (⟨j.val, h⟩ : Fin 8)) (1 : Fin 2) k)) (L (Shape.Idx.along (s := S16384x8) (ix2 n (⟨j.val, h⟩ : Fin 8)) (1 : Fin 2) k')) == 1#1) ⟨j.val, h⟩
      = rank (fun e => L (ix2 n e)) j := by
  simp only [along_eq]
  rw [before_eq fun e => L (ix2 n e)]
  rfl

theorem slice_eq (n : Fin 16384) (j : Fin 2) (α : Type) (v : S16384x8.Idx → α) : extractStridedSlice S16384x2 (fun _ => 0) v sliceFits_S16384x8_S16384x2 (ix2 n j) = v (ix2 n ⟨j.val, by omega⟩) := by
  refine congrArg v ?_
  funext a
  match a with
  | ⟨0, _⟩ => exact Fin.ext (by simp)
  | ⟨1, _⟩ => exact Fin.ext (by simp)

theorem top_val (L : FVec Ideal S16384x8 .f32) (n : Fin 16384) (j : Fin 2) : (top L).1 (ix2 n j) = L (ix2 n (rank (fun e => L (ix2 n e)) j)) := by
  unfold top Host.topK
  dsimp only
  rw [slice_eq]
  unfold Host.sort2
  rw [dif_pos (by decide)]
  have h := place_row L n j (by omega)
  exact (congrArg (fun z : Fin 8 => L (Shape.Idx.along (s := S16384x8) (ix2 n (⟨j.val, by omega⟩ : Fin 8)) (1 : Fin 2) z)) h).trans (congrArg L (along_eq n _ _))

theorem top_idx (L : FVec Ideal S16384x8 .f32) (n : Fin 16384) (j : Fin 2) : (top L).2 (ix2 n j) = BitVec.ofNat 32 (rank (fun e => L (ix2 n e)) j).val := by
  unfold top Host.topK
  dsimp only
  rw [slice_eq]
  unfold Host.sort2
  rw [dif_pos (by decide)]
  have h := place_row L n j (by omega)
  rw [← h]
  rfl

/-- The greater of a token's two values. -/
def greatArr (v : FVec Ideal S16384x2 .f32) : FVec Ideal S16384 .f32 :=
  maximumf (broadcastInDim S16384 ![] bcast_S_S16384 (constant S_ .f32 0xFF800000#32)) (Host.reduce FloatOps.maximumf v (constant S_ .f32 0xFF800000#32) reducesTo_S16384x2_S16384_d1 h_S_)

theorem greatArr_apply (v : FVec Ideal S16384x2 .f32) (n : Fin 16384) : greatArr v (ix1 n) = max (v (ix2 n 0)) (v (ix2 n 1)) := by
  have e : ∀ f : Fin 2 → EReal, Finset.univ.fold max ⊥ f = max (f 0) (f 1) := fun f => by
    rw [show (Finset.univ : Finset (Fin 2)) = {0, 1} from rfl, Finset.fold_insert (by decide), Finset.fold_singleton, max_bot_right]
  rw [← e fun x => v (ix2 n x), ← max_bot_left (a := Finset.univ.fold max ⊥ fun x => v (ix2 n x)), ← Cert.Attn.ofBits_neg_inf]
  pointwise [greatArr]

/-- The values' exponentials, less the greater. -/
def expArr (v : FVec Ideal S16384x2 .f32) : FVec Ideal S16384x2 .f32 :=
  Host.exp (subf v (broadcastInDim S16384x2 ![0, 1] bcast_S16384x1_S16384x2_0_1 (broadcastInDim S16384x1 ![0] bcast_S16384_S16384x1_0 (greatArr v))))

theorem expArr_apply (v : FVec Ideal S16384x2 .f32) (n : Fin 16384) (j : Fin 2) : expArr v (ix2 n j) = Ideal.exp (v (ix2 n j) - max (v (ix2 n 0)) (v (ix2 n 1))) := by
  rw [← greatArr_apply]
  unfold expArr
  generalize greatArr v = G
  pointwise

/-- The two gates of every token. -/
def gateArr (v : FVec Ideal S16384x2 .f32) : FVec Ideal S16384x2 .f32 :=
  Host.divf (expArr v) (broadcastInDim S16384x2 ![0, 1] bcast_S16384x1_S16384x2_0_1 (broadcastInDim S16384x1 ![0] bcast_S16384_S16384x1_0 (Host.reduceAdd (expArr v) (constant S_ .f32 0x00000000#32) reducesTo_S16384x2_S16384_d1 h_S_)))

theorem gateArr_apply (v : FVec Ideal S16384x2 .f32) (n : Fin 16384) (j : Fin 2) : gateArr v (ix2 n j) = Ideal.div (expArr v (ix2 n j)) (expArr v (ix2 n 0) + expArr v (ix2 n 1)) := by
  unfold gateArr
  generalize expArr v = E
  generalize hS : Host.reduceAdd E (constant S_ .f32 0x00000000#32) reducesTo_S16384x2_S16384_d1 h_S_ = S
  have hs : S (ix1 n) = ∑ k : Fin 2, E (ix2 n k) := by
    rw [← hS]
    pointwise
  rw [Fin.sum_univ_two] at hs
  rw [← hs]
  pointwise

/-- The reference's routing rows, of the logits. -/
def tableArr (L : FVec Ideal S16384x8 .f32) : FVec Ideal S16384x128 .f32 :=
  (concatenate S16384x128 1 [⟨S16384x2, (sitofp .f32 (top L).2 : FVec Ideal S16384x2 .f32)⟩, ⟨S16384x2, gateArr (top L).1⟩, ⟨S16384x124, (broadcastInDim S16384x124 ![] bcast_S_S16384x124 (constant S_ .f32 0x00000000#32) : FVec Ideal S16384x124 .f32)⟩] concatenates_S16384x2_S16384x2_S16384x124_S16384x128_d1 : FVec Ideal S16384x128 .f32)

theorem num_idx (L : FVec Ideal S16384x8 .f32) (n : Fin 16384) (j : Fin 2) : (sitofp .f32 (top L).2 : FVec Ideal S16384x2 .f32) (ix2 n j) = num (rank (fun e => L (ix2 n e)) j).val := by
  have key : ∀ a : Fin 8, (BitVec.ofNat 32 a.val).toInt = (a.val : Int) := by decide
  show ((((top L).2 (ix2 n j)).toInt : ℝ) : EReal) = _
  rw [top_idx, key]
  unfold num
  norm_cast

theorem tableArr_cases (L : FVec Ideal S16384x8 .f32) (n : Fin 16384) (l : Fin 128) :
    tableArr L (ix2 n l) = if h : l.val < 2 then num (rank (fun e => L (ix2 n e)) ⟨l.val, h⟩).val
      else if h : l.val < 4 then gateArr (top L).1 (ix2 n ⟨l.val - 2, by omega⟩) else 0 := by
  simp only [← num_idx]
  unfold tableArr
  generalize (sitofp .f32 (top L).2 : FVec Ideal S16384x2 .f32) = A
  generalize gateArr (top L).1 = B
  pointwise
  by_cases h2 : l.val < 2
  · rw [dif_pos h2, dif_pos h2]
  rw [dif_neg h2, dif_neg h2]
  by_cases h4 : l.val < 4
  · rw [dif_pos h4, dif_pos (by omega)]
  · rw [dif_neg h4, dif_neg (by omega)]

/-- The two gates, of two logits of which neither is −∞ nor +∞ and the first is the greater. -/
theorem gate_eq (p q : EReal) (hp : p ≠ ⊥ ∧ p ≠ ⊤) (hq : q ≤ p) :
    Ideal.exp (p - max p q) = 1 ∧ Ideal.exp (q - max p q) = Ideal.exp (q - p) := by
  rw [max_eq_left hq, sub_self_real hp]
  refine ⟨?_, rfl⟩
  show ((Real.exp 0 : ℝ) : EReal) = 1
  rw [Real.exp_zero]
  norm_cast

/-- The reference's routing row of one token whose logits are real. -/
theorem tableArr_apply (L : FVec Ideal S16384x8 .f32) (n : Fin 16384) (l : Fin 128) (hL : ∀ e, L (ix2 n e) ≠ (⊥ : EReal) ∧ L (ix2 n e) ≠ (⊤ : EReal)) :
    tableArr L (ix2 n l) = route (fun e => L (ix2 n e)) l := by
  have g := gate_eq (L (ix2 n (first fun e => L (ix2 n e)))) (L (ix2 n (second fun e => L (ix2 n e)))) (hL _) (first_spec (fun e => L (ix2 n e)) _).1
  have v0 : (top L).1 (ix2 n 0) = L (ix2 n (first fun e => L (ix2 n e))) := top_val L n 0
  have v1 : (top L).1 (ix2 n 1) = L (ix2 n (second fun e => L (ix2 n e))) := top_val L n 1
  have e0 : expArr (top L).1 (ix2 n 0) = 1 := by
    rw [expArr_apply, v0, v1]
    exact g.1
  have e1 : expArr (top L).1 (ix2 n 1) = Ideal.exp (L (ix2 n (second fun e => L (ix2 n e))) - L (ix2 n (first fun e => L (ix2 n e)))) := by
    rw [expArr_apply, v0, v1]
    exact g.2
  rw [tableArr_cases]
  unfold route
  by_cases l0 : l.val = 0
  · obtain rfl : l = 0 := Fin.ext l0
    rfl
  by_cases l1 : l.val = 1
  · obtain rfl : l = 1 := Fin.ext l1
    rfl
  rw [dif_neg (by omega), if_neg l0, if_neg l1]
  by_cases l2 : l.val = 2
  · obtain rfl : l = 2 := Fin.ext l2
    refine Eq.trans (b := gateArr (top L).1 (ix2 n 0)) rfl ?_
    rw [gateArr_apply, e0, e1]
    rfl
  by_cases l3 : l.val = 3
  · obtain rfl : l = 3 := Fin.ext l3
    refine Eq.trans (b := gateArr (top L).1 (ix2 n 1)) rfl ?_
    rw [gateArr_apply, e0, e1]
    rfl
  rw [dif_neg (by omega), if_neg l2, if_neg l3]

/-- The reference's routing rows. -/
def refArr10 (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) (wr : FVec Ideal S1024x8 .f32) : FVec Ideal S16384x128 .f32 :=
  tableArr (logitArr (refArr9 x a s b w gp gq) wr)

theorem refArr10_apply (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) (wr : FVec Ideal S1024x8 .f32)
    (hg : ∀ y : Fin 1024, gq (ix1 y) ≠ (⊥ : EReal) ∧ gq (ix1 y) ≠ (⊤ : EReal)) (hw : ∀ (k : Fin 1024) (e : Fin 8), wr (ix2 k e) ≠ (⊥ : EReal) ∧ wr (ix2 k e) ≠ (⊤ : EReal)) (n : Fin 16384) (l : Fin 128) :
    refArr10 x a s b w gp gq wr (ix2 n l) = route (fun e => ∑ k : Fin 1024, rms (fun y => x (ix2 n y) + rms (fun y' => ∑ k : Fin 1024, beside (fun i => a (ix2 n i)) (fun i => s (ix2 n i)) (fun i => b (ix2 n i)) k * w (ix2 k y')) (gp (ix1 y)) y) (gq (ix1 k)) k * wr (ix2 k e)) l := by
  unfold refArr10
  rw [tableArr_apply]
  · simp only [logitArr_apply, refArr9_apply]
  · intro e
    rw [logitArr_apply]
    refine real_sum _ _ fun k => real_mul ?_ (hw k e)
    rw [refArr9_apply]
    exact rms_real _ _ k (hg k)

end Cert.RouteRef

end
-- ==== Proof.RoutePre.lean ====
/-
  What the third precondition says of the router and the gain before it: neither has an infinite entry.
-/
module

public import proofs.«01_k».proof.Pre_real_router
public import proofs.«01_k».proof.Proof.AttnPre
public import Idealize.ShloMosaic.Lib.Claim

@[expose] public section

set_option maxRecDepth 16384

noncomputable section

namespace Cert.RoutePre

open Cert.Pre_real_router Cert.Pre_real_router.Facts Idealize.ShloMosaic Cert.Attn Cert.AttnPre

/-- The shapes that the precondition's operations name fit together. -/
theorem facts : Cert.Pre_real_router.Facts where
  bcast_S_S1024 := by decide
  reducesTo_S1024_S_d0 := by decide
  h_S_ := by decide
  bcast_S_S1024x8 := by decide
  reducesTo_S1024x8_S_d0_1 := by decide

variable [Cert.Pre_real_router.Facts]

variable (x : FVec Ideal S16384x1024 .f32) (a : FVec Ideal S16384x384 .bf16) (s : FVec Ideal S16384x256 .bf16) (b : FVec Ideal S16384x384 .bf16) (w : FVec Ideal S1024x1024 .f32) (gp gq : FVec Ideal S1024 .f32) (wr : FVec Ideal S1024x8 .f32)
  (hp : fn x a s b w gp gq wr = fun _ => 1#1)

include hp in
/-- Under the precondition every entry of the gain before the router is a real number. -/
theorem gain (y : Fin 1024) : gq (ix1 y) ≠ (⊥ : EReal) ∧ gq (ix1 y) ≠ (⊤ : EReal) := by
  have h1 := congrFun hp (fun i => i.elim0)
  unfold fn at h1
  dsimp only at h1
  have h1 := (and_one h1).1
  rw [Host.reduce_eq_fold] at h1
  have h2 := fold_and _ _ h1 (ix1 y) (Finset.mem_filter.mpr ⟨Finset.mem_univ _, funext fun i => i.elim0⟩)
  refine bounds _ (Eq.trans ?_ h2)
  rw [← ofBits_neg_inf, ← ofBits_pos_inf]
  pointwise

include hp in
/-- Under the precondition every entry of the router is a real number. -/
theorem router (k : Fin 1024) (e : Fin 8) : wr (ix2 k e) ≠ (⊥ : EReal) ∧ wr (ix2 k e) ≠ (⊤ : EReal) := by
  have h1 := congrFun hp (fun i => i.elim0)
  unfold fn at h1
  dsimp only at h1
  have h1 := (and_one h1).2
  rw [Host.reduce_eq_fold] at h1
  have h2 := fold_and _ _ h1 (ix2 k e) (Finset.mem_filter.mpr ⟨Finset.mem_univ _, funext fun i => i.elim0⟩)
  refine bounds _ (Eq.trans ?_ h2)
  rw [← ofBits_neg_inf, ← ofBits_pos_inf]
  pointwise

end Cert.RoutePre

end
-- ==== Proof.RouteClaim.lean ====
/-
  The claims about the projection with the router.
-/
module

public import proofs.«01_k».proof.Defs
public import proofs.«01_k».proof.Proof.Gen.Kernel7.Frame
public import proofs.«01_k».proof.Proof.Gen.Kernel7Ideal.Frame
public import proofs.«01_k».proof.Proof.RouteArr
public import proofs.«01_k».proof.Proof.RouteRef
public import proofs.«01_k».proof.Proof.RoutePre

@[expose] public section

set_option maxRecDepth 16384

noncomputable section

namespace Cert.RouteClaim

open Idealize.ShloMosaic Idealize.SL.Sem

/-- The reference runs, keeps its arguments and leaves every counter at zero. -/
theorem reference_frame (m : (ℓ : Loc Cert.Reference7Ideal.nD Cert.Reference7Ideal.τ Cert.Reference7Ideal.sig) → Buf (Elt Ideal) ℓ)
    (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0) :=
  (θ_run _ _ _).mono (fun r h => ⟨fun c => (h c).2.2.2, sem_eq_zero_of_no_sems rfl r.2⟩) (Cert.Reference7Ideal.Value.run (F := Ideal) m ρ)

/-- The reference's array is the kernel's. -/
theorem arr_ref8 (x : FVec Ideal ⟨2, ![16384, 1024]⟩ .f32) (a : FVec Ideal ⟨2, ![16384, 384]⟩ .bf16) (s : FVec Ideal ⟨2, ![16384, 256]⟩ .bf16) (b : FVec Ideal ⟨2, ![16384, 384]⟩ .bf16) (w : FVec Ideal ⟨2, ![1024, 1024]⟩ .f32) (gp gq : FVec Ideal ⟨1, ![1024]⟩ .f32) (wr : FVec Ideal ⟨2, ![1024, 8]⟩ .f32) :
    Cert.OutProjRef.refArr7 x a s b w gp gq = Cert.Route.kArr8 x a s b w gp gq wr := by
  funext i
  obtain ⟨n, y, rfl⟩ : ∃ (n : Fin 16384) (y : Fin 1024), i = ix2 n y := ⟨i 0, i 1, by
    funext a
    match a with
    | ⟨0, _⟩ => rfl
    | ⟨1, _⟩ => rfl⟩
  exact Cert.OutProjRef.refArr7_apply x a s b w gp gq n y

/-- The reference's array is the kernel's. -/
theorem arr_ref9 (x : FVec Ideal ⟨2, ![16384, 1024]⟩ .f32) (a : FVec Ideal ⟨2, ![16384, 384]⟩ .bf16) (s : FVec Ideal ⟨2, ![16384, 256]⟩ .bf16) (b : FVec Ideal ⟨2, ![16384, 384]⟩ .bf16) (w : FVec Ideal ⟨2, ![1024, 1024]⟩ .f32) (gp gq : FVec Ideal ⟨1, ![1024]⟩ .f32) (wr : FVec Ideal ⟨2, ![1024, 8]⟩ .f32) :
    Cert.RouteRef.refArr9 x a s b w gp gq = Cert.Route.kArr9 x a s b w gp gq wr := by
  funext i
  obtain ⟨n, y, rfl⟩ : ∃ (n : Fin 16384) (y : Fin 1024), i = ix2 n y := ⟨i 0, i 1, by
    funext a
    match a with
    | ⟨0, _⟩ => rfl
    | ⟨1, _⟩ => rfl⟩
  exact Cert.RouteRef.refArr9_apply x a s b w gp gq n y

/-- The reference's array is the kernel's. -/
theorem arr_ref10 (x : FVec Ideal ⟨2, ![16384, 1024]⟩ .f32) (a : FVec Ideal ⟨2, ![16384, 384]⟩ .bf16) (s : FVec Ideal ⟨2, ![16384, 256]⟩ .bf16) (b : FVec Ideal ⟨2, ![16384, 384]⟩ .bf16) (w : FVec Ideal ⟨2, ![1024, 1024]⟩ .f32) (gp gq : FVec Ideal ⟨1, ![1024]⟩ .f32) (wr : FVec Ideal ⟨2, ![1024, 8]⟩ .f32)
    (hg : ∀ y : Fin 1024, gq (ix1 y) ≠ (⊥ : EReal) ∧ gq (ix1 y) ≠ (⊤ : EReal)) (hw : ∀ (k : Fin 1024) (e : Fin 8), wr (ix2 k e) ≠ (⊥ : EReal) ∧ wr (ix2 k e) ≠ (⊤ : EReal)) :
    Cert.RouteRef.refArr10 x a s b w gp gq wr = Cert.Route.kArr10 x a s b w gp gq wr := by
  funext i
  obtain ⟨n, y, rfl⟩ : ∃ (n : Fin 16384) (y : Fin 128), i = ix2 n y := ⟨i 0, i 1, by
    funext a
    match a with
    | ⟨0, _⟩ => rfl
    | ⟨1, _⟩ => rfl⟩
  exact Cert.RouteRef.refArr10_apply x a s b w gp gq wr hg hw n y

/-- The kernel's results are the reference's, from equal arguments whose router and gain before it are real. -/
theorem value : Cert.algebraic_Kernel7Ideal_Reference7Ideal_pre_real_router (hKernel7Ideal := Cert.Kernel7Ideal.Gen.facts) (hReference7Ideal := Cert.Reference7Ideal.Gen.facts) (hPre_real_router := Cert.RoutePre.facts) := by
  intro m ρ m' ρ' hp ha
  refine ⟨_, _, _, Cert.Kernel7Ideal.Value.run_blocks (F := Ideal) m ρ, ?_⟩
  refine (θ_run _ _ _).mono (fun r h c => ⟨(h c).1.trans ?_, (h c).2.1.trans ?_, (h c).2.2.1.trans ?_, (h c).2.2.2⟩) (Cert.Reference7Ideal.Value.run (F := Ideal) m' ρ')
  · obtain ⟨h0, h1, h2, h3, h4, h5, h6, h7⟩ := ha c
    rw [Cert.Route.arr_eq8]
    show Cert.OutProjRef.refArr7 (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6)) = _
    rw [h0, h1, h2, h3, h4, h5, h6]
    exact arr_ref8 _ _ _ _ _ _ _ _
  · obtain ⟨h0, h1, h2, h3, h4, h5, h6, h7⟩ := ha c
    rw [Cert.Route.arr_eq9]
    show Cert.RouteRef.refArr9 (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6)) = _
    rw [h0, h1, h2, h3, h4, h5, h6]
    exact arr_ref9 _ _ _ _ _ _ _ _
  · obtain ⟨h0, h1, h2, h3, h4, h5, h6, h7⟩ := ha c
    have hg := @Cert.RoutePre.gain Cert.RoutePre.facts _ _ _ _ _ _ _ _ (hp c)
    have hw := @Cert.RoutePre.router Cert.RoutePre.facts _ _ _ _ _ _ _ _ (hp c)
    rw [Cert.Route.arr_eq10 m c hg hw]
    show Cert.RouteRef.refArr10 (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6)) (m' ((c.tc : Thread Cert.Reference7Ideal.nD Cert.Reference7Ideal.τ).loc Cert.Reference7Ideal.main_arg7)) = _
    rw [h0, h1, h2, h3, h4, h5, h6, h7]
    exact arr_ref10 _ _ _ _ _ _ _ _ hg hw

end Cert.RouteClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_finite_scores
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.AttnClaim
public import proofs.«01_k».proof.Proof.FfnClaim
public import proofs.«01_k».proof.Proof.InProjClaim
public import proofs.«01_k».proof.Proof.OutProjClaim
public import proofs.«01_k».proof.Proof.CombClaim
public import proofs.«01_k».proof.Proof.MoeClaim
public import proofs.«01_k».proof.Proof.RouteClaim
public import Idealize.ShloMosaic.Adequacy
public import Idealize.ShloMosaic.Init
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel6Ideal.Value
public import proofs.«01_k».proof.Proof.Gen.Reference6Ideal
public import proofs.«01_k».proof.Proof.Gen.Reference6Ideal.Run

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite_scores.Gen.facts, Cert.MoePre.facts, Cert.RoutePre.facts,
    fun m ρ _ => Cert.Kernel.Gen.frame m ρ,
    fun m ρ _ => Cert.KernelIdeal.Gen.frame m ρ,
    fun m ρ _ => Cert.KernelIdeal.Gen.frame m ρ,
    fun m ρ _ => Cert.AttnClaim.reference_frame m ρ,
    fun m ρ _ => Cert.AttnClaim.reference_frame m ρ,
    fun m ρ _ => Cert.Kernel2.Gen.frame m ρ,
    fun m ρ _ => Cert.Kernel2Ideal.Gen.frame m ρ,
    fun m ρ _ => Cert.FfnClaim.reference_frame m ρ,
    fun m ρ _ => Cert.Kernel3.Gen.frame m ρ,
    fun m ρ _ => Cert.Kernel3Ideal.Gen.frame m ρ,
    fun m ρ _ => Cert.InProjClaim.reference_frame m ρ,
    fun m ρ _ => Cert.Kernel4.Gen.frame m ρ,
    fun m ρ _ => Cert.Kernel4Ideal.Gen.frame m ρ,
    fun m ρ _ => Cert.OutProjClaim.reference_frame m ρ,
    fun m ρ _ => Cert.Kernel5.Gen.frame m ρ,
    fun m ρ _ => Cert.Kernel5Ideal.Gen.frame m ρ,
    fun m ρ _ => Cert.CombClaim.reference_frame m ρ,
    fun m ρ _ => Cert.Kernel6.Gen.frame m ρ,
    fun m ρ _ => Cert.Kernel6Ideal.Gen.frame m ρ,
    fun m ρ _ => Cert.Kernel6Ideal.Gen.frame m ρ,
    fun m ρ _ => Cert.MoeClaim.reference_frame m ρ,
    fun m ρ _ => Cert.MoeClaim.reference_frame m ρ,
    fun m ρ _ => Cert.Kernel7.Gen.frame m ρ,
    fun m ρ _ => Cert.Kernel7Ideal.Gen.frame m ρ,
    fun m ρ _ => Cert.Kernel7Ideal.Gen.frame m ρ,
    fun m ρ _ => Cert.RouteClaim.reference_frame m ρ,
    fun m ρ _ => Cert.RouteClaim.reference_frame m ρ,
    trivial,
    Cert.AttnClaim.value,
    trivial,
    Cert.FfnClaim.value,
    trivial,
    Cert.InProjClaim.value,
    trivial,
    Cert.OutProjClaim.value,
    trivial,
    Cert.CombClaim.value,
    trivial,
    Cert.MoeClaim.value,
    trivial,
    Cert.RouteClaim.value⟩

end Cert.Proof

end
